-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_tokens_and_biases [hPre_tokens_and_biases : Cert.Pre_tokens_and_biases.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_biases [hPre_tokens_and_biases : Cert.Pre_tokens_and_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tokens_and_biases [hKernelIdeal : Cert.KernelIdeal.Facts] [hPre_tokens_and_biases : Cert.Pre_tokens_and_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_biases m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tokens_and_biases [hReferenceIdeal : Cert.ReferenceIdeal.Facts] [hPre_tokens_and_biases : Cert.Pre_tokens_and_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_tokens_and_biases [hKernelIdeal : Cert.KernelIdeal.Facts] [hReferenceIdeal : Cert.ReferenceIdeal.Facts] [hPre_tokens_and_biases : Cert.Pre_tokens_and_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts) (hPre_tokens_and_biases : Cert.Pre_tokens_and_biases.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_KernelIdeal_pre_tokens_and_biases (hKernelIdeal := hKernelIdeal) (hPre_tokens_and_biases := hPre_tokens_and_biases)
    ∧ quiescent_ReferenceIdeal (hReferenceIdeal := hReferenceIdeal)
    ∧ quiescent_ReferenceIdeal_pre_tokens_and_biases (hReferenceIdeal := hReferenceIdeal) (hPre_tokens_and_biases := hPre_tokens_and_biases)
    ∧ preserves_Kernel_KernelIdeal
    ∧ algebraic_KernelIdeal_ReferenceIdeal_pre_tokens_and_biases (hKernelIdeal := hKernelIdeal) (hReferenceIdeal := hReferenceIdeal) (hPre_tokens_and_biases := hPre_tokens_and_biases)
-- ==== Pre_tokens_and_biases.lean ====
abbrev S1024x50 : Shape := ⟨2, ![1024, 50]⟩
abbrev S1024 : Shape := ⟨1, ![1024]⟩
abbrev S1000x64 : Shape := ⟨2, ![1000, 64]⟩
abbrev S384x64 : Shape := ⟨2, ![384, 64]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  bcast_S_S384 : S_.BroadcastsInDim S384 (![] : Fin 0 → Fin S384.rank)
  reducesTo_S384_S_d0 : S384.ReducesTo [0] S_

variable [Facts]

def fn {F : FTy → Type} [FloatOps F] (main_arg0 : IVec S1024x50 32) (main_arg1 : IVec S1024 32) (main_arg2 : FVec F S1000x64 .f32) (main_arg3 : FVec F S384x64 .f32) (main_arg4 : FVec F S384x128 .f32) (main_arg5 : FVec F S384 .f32) (main_arg6 : FVec F S384 .f32) (main_arg7 : FVec F S64x128 .f32) (main_arg8 : FVec F S64 .f32) (main_arg9 : FVec F S1x64 .f32) (main_arg10 : FVec F S1 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_cst : FVec F S_ .f32 := constant S_ .f32 0x00000000#32
  let main_v6 : FVec F S384 .f32 := broadcastInDim S384 ![] bcast_S_S384 main_cst
  let main_v7 : IVec S384 1 := cmpf .oeq main_arg5 main_v6
  let main_c_2 : IVec S_ 1 := constantI S_ 1 1#1
  let main_v8 : IVec S_ 1 := (fun x v => Host.reduce IntOp.andi x v reducesTo_S384_S_d0 h_S_) main_v7 main_c_2
  let main_v9 : IVec S_ 1 := andi main_v5 main_v8
  let main_cst_3 : FVec F S_ .f32 := constant S_ .f32 0x00000000#32
  let main_v10 : FVec F S384 .f32 := broadcastInDim S384 ![] bcast_S_S384 main_cst_3
  let main_v11 : IVec S384 1 := cmpf .oeq main_arg6 main_v10
  let main_c_4 : IVec S_ 1 := constantI S_ 1 1#1
  let main_v12 : IVec S_ 1 := (fun x v => Host.reduce IntOp.andi x v reducesTo_S384_S_d0 h_S_) main_v11 main_c_4
  let main_v13 : IVec S_ 1 := andi main_v9 main_v12
  main_v13
-- ==== Pre_tokens_in_vocab.lean ====
abbrev S1024x50 : Shape := ⟨2, ![1024, 50]⟩
abbrev S1024 : Shape := ⟨1, ![1024]⟩
abbrev S1000x64 : Shape := ⟨2, ![1000, 64]⟩
abbrev S384x64 : Shape := ⟨2, ![384, 64]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x50 : S_.BroadcastsInDim S1024x50 (![] : Fin 0 → Fin S1024x50.rank)

variable [Facts]

def fn {F : FTy → Type} [FloatOps F] (main_arg0 : IVec S1024x50 32) (main_arg1 : IVec S1024 32) (main_arg2 : FVec F S1000x64 .f32) (main_arg3 : FVec F S384x64 .f32) (main_arg4 : FVec F S384x128 .f32) (main_arg5 : FVec F S384 .f32) (main_arg6 : FVec F S384 .f32) (main_arg7 : FVec F S64x128 .f32) (main_arg8 : FVec F S64 .f32) (main_arg9 : FVec F S1x64 .f32) (main_arg10 : FVec F S1 .f32) : IVec S1024x50 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  main_v4
-- ==== Kernel.lean ====
abbrev S1024x50 : Shape := ⟨2, ![1024, 50]⟩
abbrev S1024 : Shape := ⟨1, ![1024]⟩
abbrev S1000x64 : Shape := ⟨2, ![1000, 64]⟩
abbrev S384x64 : Shape := ⟨2, ![384, 64]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S50x1024 : Shape := ⟨2, ![50, 1024]⟩
abbrev S32x1600 : Shape := ⟨2, ![32, 1600]⟩
abbrev S64x1000 : Shape := ⟨2, ![64, 1000]⟩
abbrev S64000 : Shape := ⟨1, ![64000]⟩
abbrev S64x51200 : Shape := ⟨2, ![64, 51200]⟩
abbrev S1600 : Shape := ⟨1, ![1600]⟩
abbrev S64x320 : Shape := ⟨2, ![64, 320]⟩
abbrev S_ : Shape := ⟨0, ![]⟩
abbrev S1x1600 : Shape := ⟨2, ![1, 1600]⟩
abbrev S16 : Shape := ⟨1, ![16]⟩
abbrev S1x16 : Shape := ⟨2, ![1, 16]⟩
abbrev S1x1024 : Shape := ⟨2, ![1, 1024]⟩
abbrev S64x1 : Shape := ⟨2, ![64, 1]⟩
abbrev S1x1 : Shape := ⟨2, ![1, 1]⟩
abbrev S64x5120 : Shape := ⟨2, ![64, 5120]⟩
abbrev S128x1024 : Shape := ⟨2, ![128, 1024]⟩
abbrev S384x5120 : Shape := ⟨2, ![384, 5120]⟩
abbrev S384x1024 : Shape := ⟨2, ![384, 1024]⟩
abbrev S64x1024 : Shape := ⟨2, ![64, 1024]⟩

abbrev nBuf : Table → Nat
  | .hbm => 32
  | .local .tc .vmem => 12
  | .local .scVector .vmem => 4
  | _ => 0

abbrev bufTy : (tb : Table) → Fin (nBuf tb) → BufTy
  | .hbm, ⟨0, _⟩ => ⟨S1024x50, .i32⟩
  | .hbm, ⟨1, _⟩ => ⟨S1024, .i32⟩
  | .hbm, ⟨2, _⟩ => ⟨S1000x64, .f32⟩
  | .hbm, ⟨3, _⟩ => ⟨S384x64, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S50x1024, .i32⟩
  | .hbm, ⟨12, _⟩ => ⟨S32x1600, .i32⟩
  | .hbm, ⟨13, _⟩ => ⟨S64x1000, .f32⟩
  | .hbm, ⟨14, _⟩ => ⟨S64000, .f32⟩
  | .hbm, ⟨15, _⟩ => ⟨S64x51200, .f32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1x1024, .i32⟩
  | .hbm, ⟨28, _⟩ => ⟨S64x1, .f32⟩
  | .hbm, ⟨29, _⟩ => ⟨S1x1, .f32⟩
  | .hbm, ⟨30, _⟩ => ⟨S1x1024, .f32⟩
  | .hbm, ⟨31, _⟩ => ⟨S1024, .f32⟩
  | .local .tc .vmem, ⟨0, _⟩ => ⟨S64x5120, .f32⟩
  | .local .tc .vmem, ⟨1, _⟩ => ⟨S64x5120, .f32⟩
  | .local .tc .vmem, ⟨2, _⟩ => ⟨S1x1024, .i32⟩
  | .local .tc .vmem, ⟨3, _⟩ => ⟨S384x64, .f32⟩
  | .local .tc .vmem, ⟨4, _⟩ => ⟨S384x128, .f32⟩
  | .local .tc .vmem, ⟨5, _⟩ => ⟨S64x128, .f32⟩
  | .local .tc .vmem, ⟨6, _⟩ => ⟨S64x1, .f32⟩
  | .local .tc .vmem, ⟨7, _⟩ => ⟨S1x64, .f32⟩
  | .local .tc .vmem, ⟨8, _⟩ => ⟨S1x1, .f32⟩
  | .local .tc .vmem, ⟨9, _⟩ => ⟨S1x1024, .f32⟩
  | .local .tc .vmem, ⟨10, _⟩ => ⟨S128x1024, .f32⟩
  | .local .tc .vmem, ⟨11, _⟩ => ⟨S128x1024, .f32⟩
  | .local .scVector .vmem, ⟨0, _⟩ => ⟨S64000, .f32⟩
  | .local .scVector .vmem, ⟨1, _⟩ => ⟨S1600, .i32⟩
  | .local .scVector .vmem, ⟨2, _⟩ => ⟨S64x320, .f32⟩
  | .local .scVector .vmem, ⟨3, _⟩ => ⟨S64x320, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v3_scv : Ref sig .scVector := ⟨.hbm, 14, rfl⟩
abbrev main_v1_scv : Ref sig .scVector := ⟨.hbm, 12, rfl⟩
abbrev main_v4_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38_r0 : BitVec 32 := 0#32
  ![v1.toNat, 0]
@[reducible] def k0_t1_loop : Scf.Loop 32 :=
  let c0_i32 : BitVec 32 := 0#32
  let c20_i32 : BitVec 32 := 20#32
  let v3 : BitVec 32 := Scalar.addi c0_i32 c20_i32
  let c1_i32 : BitVec 32 := 1#32
  ⟨c0_i32, v3, c1_i32⟩
def k0_off2 (k0_t1 : Fin k0_t1_loop.trips) : Fin 1 → Nat :=
  let c0_i32_40 : BitVec 32 := 0#32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32 : BitVec 32 := 16#32
  let v35 : BitVec 32 := Scalar.muli v34 c16_i32
  let v36 : BitVec 32 := Scalar.addi c0_i32_40 v35
  let v37 : Index := Scalar.indexCast v36
  ![v37.toNat]

def k0_chk1 (v40 : IVec S16 32) : Prop :=
  (∀ a x, ((![v40] : Fin 1 → IVec S16 32) a x).toNat < S64000.size a)
theorem k0_idx1_inb : ∀ (v40 : IVec S16 32) (k0_hw1 : k0_chk1 v40), ∀ a x, ((![v40] : Fin 1 → IVec S16 32) a x).toNat < S64000.size a := fun v40 k0_hw1 => k0_hw1
def k0_off3 (k0_t1 : Fin k0_t1_loop.trips) : Fin 2 → Nat :=
  let c0_i32_43 : BitVec 32 := 0#32
  let v43 : Index := Scalar.indexCast c0_i32_43
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_42 : BitVec 32 := 16#32
  let v42 : BitVec 32 := Scalar.muli v34 c16_i32_42
  let v44 : Index := Scalar.indexCast v42
  ![0, v44.toNat]

def k0_chk2 (v47 : IVec S16 32) : Prop :=
  (∀ a x, ((![v47] : Fin 1 → IVec S16 32) a x).toNat < S64000.size a)
theorem k0_idx2_inb : ∀ (v47 : IVec S16 32) (k0_hw2 : k0_chk2 v47), ∀ a x, ((![v47] : Fin 1 → IVec S16 32) a x).toNat < S64000.size a := fun v47 k0_hw2 => k0_hw2
def k0_off4 (k0_t1 : Fin k0_t1_loop.trips) : Fin 2 → Nat :=
  let c1_i32_45 : BitVec 32 := 1#32
  let v50 : Index := Scalar.indexCast c1_i32_45
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_44 : BitVec 32 := 16#32
  let v49 : BitVec 32 := Scalar.muli v34 c16_i32_44
  let v51 : Index := Scalar.indexCast v49
  ![1, v51.toNat]

def k0_chk3 (v54 : IVec S16 32) : Prop :=
  (∀ a x, ((![v54] : Fin 1 → IVec S16 32) a x).toNat < S64000.size a)
theorem k0_idx3_inb : ∀ (v54 : IVec S16 32) (k0_hw3 : k0_chk3 v54), ∀ a x, ((![v54] : Fin 1 → IVec S16 32) a x).toNat < S64000.size a := fun v54 k0_hw3 => k0_hw3
def k0_off5 (k0_t1 : Fin k0_t1_loop.trips) : Fin 2 → Nat :=
  let c2_i32_47 : BitVec 32 := 2#32
  let v57 : Index := Scalar.indexCast c2_i32_47
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_46 : BitVec 32 := 16#32
  let v56 : BitVec 32 := Scalar.muli v34 c16_i32_46
  let v58 : Index := Scalar.indexCast v56
  ![2, v58.toNat]

def k0_chk4 (v61 : IVec S16 32) : Prop :=
  (∀ a x, ((![v61] : Fin 1 → IVec S16 32) a x).toNat < S64000.size a)
theorem k0_idx4_inb : ∀ (v61 : IVec S16 32) (k0_hw4 : k0_chk4 v61), ∀ a x, ((![v61] : Fin 1 → IVec S16 32) a x).toNat < S64000.size a := fun v61 k0_hw4 => k0_hw4
def k0_off6 (k0_t1 : Fin k0_t1_loop.trips) : Fin 2 → Nat :=
  let c3_i32 : BitVec 32 := 3#32
  let v64 : Index := Scalar.indexCast c3_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_48 : BitVec 32 := 16#32
  let v63 : BitVec 32 := Scalar.muli v34 c16_i32_48
  let v65 : Index := Scalar.indexCast v63
  ![3, v65.toNat]

def k0_chk5 (v68 : IVec S16 32) : Prop :=
  (∀ a x, ((![v68] : Fin 1 → IVec S16 32) a x).toNat < S64000.size a)
theorem k0_idx5_inb : ∀ (v68 : IVec S16 32) (k0_hw5 : k0_chk5 v68), ∀ a x, ((![v68] : Fin 1 → IVec S16 32) a x).toNat < S64000.size a := fun v68 k0_hw5 => k0_hw5
def k0_off7 (k0_t1 : Fin k0_t1_loop.trips) : Fin 2 → Nat :=
  let c4_i32 : BitVec 32 := 4#32
  let v71 : Index := Scalar.indexCast c4_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_49 : BitVec 32 := 16#32
  let v70 : BitVec 32 := Scalar.muli v34 c16_i32_49
  let v72 : Index := Scalar.indexCast v70
  ![4, v72.toNat]

def k0_chk6 (v75 : IVec S16 32) : Prop :=
  (∀ a x, ((![v75] : Fin 1 → IVec S16 32) a x).toNat < S64000.size a)
theorem k0_idx6_inb : ∀ (v75 : IVec S16 32) (k0_hw6 : k0_chk6 v75), ∀ a x, ((![v75] : Fin 1 → IVec S16 32) a x).toNat < S64000.size a := fun v75 k0_hw6 => k0_hw6
def k0_off8 (k0_t1 : Fin k0_t1_loop.trips) : Fin 2 → Nat :=
  let c5_i32 : BitVec 32 := 5#32
  let v78 : Index := Scalar.indexCast c5_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_50 : BitVec 32 := 16#32
  let v77 : BitVec 32 := Scalar.muli v34 c16_i32_50
  let v79 : Index := Scalar.indexCast v77
  ![5, v79.toNat]

def k0_chk7 (v82 : IVec S16 32) : Prop :=
  (∀ a x, ((![v82] : Fin 1 → IVec S16 32) a x).toNat < S64000.size a)
theorem k0_idx7_inb : ∀ (v82 : IVec S16 32) (k0_hw7 : k0_chk7 v82), ∀ a x, ((![v82] : Fin 1 → IVec S16 32) a x).toNat < S64000.size a := fun v82 k0_hw7 => k0_hw7
def k0_off9 (k0_t1 : Fin k0_t1_loop.trips) : Fin 2 → Nat :=
  let c6_i32 : BitVec 32 := 6#32
  let v85 : Index := Scalar.indexCast c6_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_51 : BitVec 32 := 16#32
  let v84 : BitVec 32 := Scalar.muli v34 c16_i32_51
  let v86 : Index := Scalar.indexCast v84
  ![6, v86.toNat]

def k0_chk8 (v89 : IVec S16 32) : Prop :=
  (∀ a x, ((![v89] : Fin 1 → IVec S16 32) a x).toNat < S64000.size a)
theorem k0_idx8_inb : ∀ (v89 : IVec S16 32) (k0_hw8 : k0_chk8 v89), ∀ a x, ((![v89] : Fin 1 → IVec S16 32) a x).toNat < S64000.size a := fun v89 k0_hw8 => k0_hw8
def k0_off10 (k0_t1 : Fin k0_t1_loop.trips) : Fin 2 → Nat :=
  let c7_i32 : BitVec 32 := 7#32
  let v92 : Index := Scalar.indexCast c7_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_52 : BitVec 32 := 16#32
  let v91 : BitVec 32 := Scalar.muli v34 c16_i32_52
  let v93 : Index := Scalar.indexCast v91
  ![7, v93.toNat]

def k0_chk9 (v96 : IVec S16 32) : Prop :=
  (∀ a x, ((![v96] : Fin 1 → IVec S16 32) a x).toNat < S64000.size a)
theorem k0_idx9_inb : ∀ (v96 : IVec S16 32) (k0_hw9 : k0_chk9 v96), ∀ a x, ((![v96] : Fin 1 → IVec S16 32) a x).toNat < S64000.size a := fun v96 k0_hw9 => k0_hw9
def k0_off11 (k0_t1 : Fin k0_t1_loop.trips) : Fin 2 → Nat :=
  let c8_i32 : BitVec 32 := 8#32
  let v99 : Index := Scalar.indexCast c8_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_53 : BitVec 32 := 16#32
  let v98 : BitVec 32 := Scalar.muli v34 c16_i32_53
  let v100 : Index := Scalar.indexCast v98
  ![8, v100.toNat]

def k0_chk10 (v103 : IVec S16 32) : Prop :=
  (∀ a x, ((![v103] : Fin 1 → IVec S16 32) a x).toNat < S64000.size a)
theorem k0_idx10_inb : ∀ (v103 : IVec S16 32) (k0_hw10 : k0_chk10 v103), ∀ a x, ((![v103] : Fin 1 → IVec S16 32) a x).toNat < S64000.size a := fun v103 k0_hw10 => k0_hw10
def k0_off12 (k0_t1 : Fin k0_t1_loop.trips) : Fin 2 → Nat :=
  let c9_i32 : BitVec 32 := 9#32
  let v106 : Index := Scalar.indexCast c9_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_54 : BitVec 32 := 16#32
  let v105 : BitVec 32 := Scalar.muli v34 c16_i32_54
  let v107 : Index := Scalar.indexCast v105
  ![9, v107.toNat]

def k0_chk11 (v110 : IVec S16 32) : Prop :=
  (∀ a x, ((![v110] : Fin 1 → IVec S16 32) a x).toNat < S64000.size a)
theorem k0_idx11_inb : ∀ (v110 : IVec S16 32) (k0_hw11 : k0_chk11 v110), ∀ a x, ((![v110] : Fin 1 → IVec S16 32) a x).toNat < S64000.size a := fun v110 k0_hw11 => k0_hw11
def k0_off13 (k0_t1 : Fin k0_t1_loop.trips) : Fin 2 → Nat :=
  let c10_i32 : BitVec 32 := 10#32
  let v113 : Index := Scalar.indexCast c10_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_55 : BitVec 32 := 16#32
  let v112 : BitVec 32 := Scalar.muli v34 c16_i32_55
  let v114 : Index := Scalar.indexCast v112
  ![10, v114.toNat]

def k0_chk12 (v117 : IVec S16 32) : Prop :=
  (∀ a x, ((![v117] : Fin 1 → IVec S16 32) a x).toNat < S64000.size a)
theorem k0_idx12_inb : ∀ (v117 : IVec S16 32) (k0_hw12 : k0_chk12 v117), ∀ a x, ((![v117] : Fin 1 → IVec S16 32) a x).toNat < S64000.size a := fun v117 k0_hw12 => k0_hw12
def k0_off14 (k0_t1 : Fin k0_t1_loop.trips) : Fin 2 → Nat :=
  let c11_i32 : BitVec 32 := 11#32
  let v120 : Index := Scalar.indexCast c11_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_56 : BitVec 32 := 16#32
  let v119 : BitVec 32 := Scalar.muli v34 c16_i32_56
  let v121 : Index := Scalar.indexCast v119
  ![11, v121.toNat]

def k0_chk13 (v124 : IVec S16 32) : Prop :=
  (∀ a x, ((![v124] : Fin 1 → IVec S16 32) a x).toNat < S64000.size a)
theorem k0_idx13_inb : ∀ (v124 : IVec S16 32) (k0_hw13 : k0_chk13 v124), ∀ a x, ((![v124] : Fin 1 → IVec S16 32) a x).toNat < S64000.size a := fun v124 k0_hw13 => k0_hw13
def k0_off15 (k0_t1 : Fin k0_t1_loop.trips) : Fin 2 → Nat :=
  let c12_i32 : BitVec 32 := 12#32
  let v127 : Index := Scalar.indexCast c12_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_57 : BitVec 32 := 16#32
  let v126 : BitVec 32 := Scalar.muli v34 c16_i32_57
  let v128 : Index := Scalar.indexCast v126
  ![12, v128.toNat]

def k0_chk14 (v131 : IVec S16 32) : Prop :=
  (∀ a x, ((![v131] : Fin 1 → IVec S16 32) a x).toNat < S64000.size a)
theorem k0_idx14_inb : ∀ (v131 : IVec S16 32) (k0_hw14 : k0_chk14 v131), ∀ a x, ((![v131] : Fin 1 → IVec S16 32) a x).toNat < S64000.size a := fun v131 k0_hw14 => k0_hw14
def k0_off16 (k0_t1 : Fin k0_t1_loop.trips) : Fin 2 → Nat :=
  let c13_i32 : BitVec 32 := 13#32
  let v134 : Index := Scalar.indexCast c13_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_58 : BitVec 32 := 16#32
  let v133 : BitVec 32 := Scalar.muli v34 c16_i32_58
  let v135 : Index := Scalar.indexCast v133
  ![13, v135.toNat]

def k0_chk15 (v138 : IVec S16 32) : Prop :=
  (∀ a x, ((![v138] : Fin 1 → IVec S16 32) a x).toNat < S64000.size a)
theorem k0_idx15_inb : ∀ (v138 : IVec S16 32) (k0_hw15 : k0_chk15 v138), ∀ a x, ((![v138] : Fin 1 → IVec S16 32) a x).toNat < S64000.size a := fun v138 k0_hw15 => k0_hw15
def k0_off17 (k0_t1 : Fin k0_t1_loop.trips) : Fin 2 → Nat :=
  let c14_i32 : BitVec 32 := 14#32
  let v141 : Index := Scalar.indexCast c14_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_59 : BitVec 32 := 16#32
  let v140 : BitVec 32 := Scalar.muli v34 c16_i32_59
  let v142 : Index := Scalar.indexCast v140
  ![14, v142.toNat]

def k0_chk16 (v145 : IVec S16 32) : Prop :=
  (∀ a x, ((![v145] : Fin 1 → IVec S16 32) a x).toNat < S64000.size a)
theorem k0_idx16_inb : ∀ (v145 : IVec S16 32) (k0_hw16 : k0_chk16 v145), ∀ a x, ((![v145] : Fin 1 → IVec S16 32) a x).toNat < S64000.size a := fun v145 k0_hw16 => k0_hw16
def k0_off18 (k0_t1 : Fin k0_t1_loop.trips) : Fin 2 → Nat :=
  let c15_i32 : BitVec 32 := 15#32
  let v148 : Index := Scalar.indexCast c15_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_60 : BitVec 32 := 16#32
  let v147 : BitVec 32 := Scalar.muli v34 c16_i32_60
  let v149 : Index := Scalar.indexCast v147
  ![15, v149.toNat]

def k0_chk17 (v152 : IVec S16 32) : Prop :=
  (∀ a x, ((![v152] : Fin 1 → IVec S16 32) a x).toNat < S64000.size a)
theorem k0_idx17_inb : ∀ (v152 : IVec S16 32) (k0_hw17 : k0_chk17 v152), ∀ a x, ((![v152] : Fin 1 → IVec S16 32) a x).toNat < S64000.size a := fun v152 k0_hw17 => k0_hw17
def k0_off19 (k0_t1 : Fin k0_t1_loop.trips) : Fin 2 → Nat :=
  let c16_i32_62 : BitVec 32 := 16#32
  let v155 : Index := Scalar.indexCast c16_i32_62
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_61 : BitVec 32 := 16#32
  let v154 : BitVec 32 := Scalar.muli v34 c16_i32_61
  let v156 : Index := Scalar.indexCast v154
  ![16, v156.toNat]

def k0_chk18 (v159 : IVec S16 32) : Prop :=
  (∀ a x, ((![v159] : Fin 1 → IVec S16 32) a x).toNat < S64000.size a)
theorem k0_idx18_inb : ∀ (v159 : IVec S16 32) (k0_hw18 : k0_chk18 v159), ∀ a x, ((![v159] : Fin 1 → IVec S16 32) a x).toNat < S64000.size a := fun v159 k0_hw18 => k0_hw18
def k0_off20 (k0_t1 : Fin k0_t1_loop.trips) : Fin 2 → Nat :=
  let c17_i32 : BitVec 32 := 17#32
  let v162 : Index := Scalar.indexCast c17_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_63 : BitVec 32 := 16#32
  let v161 : BitVec 32 := Scalar.muli v34 c16_i32_63
  let v163 : Index := Scalar.indexCast v161
  ![17, v163.toNat]

def k0_chk19 (v166 : IVec S16 32) : Prop :=
  (∀ a x, ((![v166] : Fin 1 → IVec S16 32) a x).toNat < S64000.size a)
theorem k0_idx19_inb : ∀ (v166 : IVec S16 32) (k0_hw19 : k0_chk19 v166), ∀ a x, ((![v166] : Fin 1 → IVec S16 32) a x).toNat < S64000.size a := fun v166 k0_hw19 => k0_hw19
def k0_off21 (k0_t1 : Fin k0_t1_loop.trips) : Fin 2 → Nat :=
  let c18_i32 : BitVec 32 := 18#32
  let v169 : Index := Scalar.indexCast c18_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_64 : BitVec 32 := 16#32
  let v168 : BitVec 32 := Scalar.muli v34 c16_i32_64
  let v170 : Index := Scalar.indexCast v168
  ![18, v170.toNat]

def k0_chk20 (v173 : IVec S16 32) : Prop :=
  (∀ a x, ((![v173] : Fin 1 → IVec S16 32) a x).toNat < S64000.size a)
theorem k0_idx20_inb : ∀ (v173 : IVec S16 32) (k0_hw20 : k0_chk20 v173), ∀ a x, ((![v173] : Fin 1 → IVec S16 32) a x).toNat < S64000.size a := fun v173 k0_hw20 => k0_hw20
def k0_off22 (k0_t1 : Fin k0_t1_loop.trips) : Fin 2 → Nat :=
  let c19_i32 : BitVec 32 := 19#32
  let v176 : Index := Scalar.indexCast c19_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_65 : BitVec 32 := 16#32
  let v175 : BitVec 32 := Scalar.muli v34 c16_i32_65
  let v177 : Index := Scalar.indexCast v175
  ![19, v177.toNat]

def k0_chk21 (v180 : IVec S16 32) : Prop :=
  (∀ a x, ((![v180] : Fin 1 → IVec S16 32) a x).toNat < S64000.size a)
theorem k0_idx21_inb : ∀ (v180 : IVec S16 32) (k0_hw21 : k0_chk21 v180), ∀ a x, ((![v180] : Fin 1 → IVec S16 32) a x).toNat < S64000.size a := fun v180 k0_hw21 => k0_hw21
def k0_off23 (k0_t1 : Fin k0_t1_loop.trips) : Fin 2 → Nat :=
  let c20_i32_67 : BitVec 32 := 20#32
  let v183 : Index := Scalar.indexCast c20_i32_67
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_66 : BitVec 32 := 16#32
  let v182 : BitVec 32 := Scalar.muli v34 c16_i32_66
  let v184 : Index := Scalar.indexCast v182
  ![20, v184.toNat]

def k0_chk22 (v187 : IVec S16 32) : Prop :=
  (∀ a x, ((![v187] : Fin 1 → IVec S16 32) a x).toNat < S64000.size a)
theorem k0_idx22_inb : ∀ (v187 : IVec S16 32) (k0_hw22 : k0_chk22 v187), ∀ a x, ((![v187] : Fin 1 → IVec S16 32) a x).toNat < S64000.size a := fun v187 k0_hw22 => k0_hw22
def k0_off24 (k0_t1 : Fin k0_t1_loop.trips) : Fin 2 → Nat :=
  let c21_i32 : BitVec 32 := 21#32
  let v190 : Index := Scalar.indexCast c21_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_68 : BitVec 32 := 16#32
  let v189 : BitVec 32 := Scalar.muli v34 c16_i32_68
  let v191 : Index := Scalar.indexCast v189
  ![21, v191.toNat]

def k0_chk23 (v194 : IVec S16 32) : Prop :=
  (∀ a x, ((![v194] : Fin 1 → IVec S16 32) a x).toNat < S64000.size a)
theorem k0_idx23_inb : ∀ (v194 : IVec S16 32) (k0_hw23 : k0_chk23 v194), ∀ a x, ((![v194] : Fin 1 → IVec S16 32) a x).toNat < S64000.size a := fun v194 k0_hw23 => k0_hw23
def k0_off25 (k0_t1 : Fin k0_t1_loop.trips) : Fin 2 → Nat :=
  let c22_i32 : BitVec 32 := 22#32
  let v197 : Index := Scalar.indexCast c22_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_69 : BitVec 32 := 16#32
  let v196 : BitVec 32 := Scalar.muli v34 c16_i32_69
  let v198 : Index := Scalar.indexCast v196
  ![22, v198.toNat]

def k0_chk24 (v201 : IVec S16 32) : Prop :=
  (∀ a x, ((![v201] : Fin 1 → IVec S16 32) a x).toNat < S64000.size a)
theorem k0_idx24_inb : ∀ (v201 : IVec S16 32) (k0_hw24 : k0_chk24 v201), ∀ a x, ((![v201] : Fin 1 → IVec S16 32) a x).toNat < S64000.size a := fun v201 k0_hw24 => k0_hw24
def k0_off26 (k0_t1 : Fin k0_t1_loop.trips) : Fin 2 → Nat :=
  let c23_i32 : BitVec 32 := 23#32
  let v204 : Index := Scalar.indexCast c23_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_70 : BitVec 32 := 16#32
  let v203 : BitVec 32 := Scalar.muli v34 c16_i32_70
  let v205 : Index := Scalar.indexCast v203
  ![23, v205.toNat]

def k0_chk25 (v208 : IVec S16 32) : Prop :=
  (∀ a x, ((![v208] : Fin 1 → IVec S16 32) a x).toNat < S64000.size a)
theorem k0_idx25_inb : ∀ (v208 : IVec S16 32) (k0_hw25 : k0_chk25 v208), ∀ a x, ((![v208] : Fin 1 → IVec S16 32) a x).toNat < S64000.size a := fun v208 k0_hw25 => k0_hw25
def k0_off27 (k0_t1 : Fin k0_t1_loop.trips) : Fin 2 → Nat :=
  let c24_i32 : BitVec 32 := 24#32
  let v211 : Index := Scalar.indexCast c24_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_71 : BitVec 32 := 16#32
  let v210 : BitVec 32 := Scalar.muli v34 c16_i32_71
  let v212 : Index := Scalar.indexCast v210
  ![24, v212.toNat]

def k0_chk26 (v215 : IVec S16 32) : Prop :=
  (∀ a x, ((![v215] : Fin 1 → IVec S16 32) a x).toNat < S64000.size a)
theorem k0_idx26_inb : ∀ (v215 : IVec S16 32) (k0_hw26 : k0_chk26 v215), ∀ a x, ((![v215] : Fin 1 → IVec S16 32) a x).toNat < S64000.size a := fun v215 k0_hw26 => k0_hw26
def k0_off28 (k0_t1 : Fin k0_t1_loop.trips) : Fin 2 → Nat :=
  let c25_i32 : BitVec 32 := 25#32
  let v218 : Index := Scalar.indexCast c25_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_72 : BitVec 32 := 16#32
  let v217 : BitVec 32 := Scalar.muli v34 c16_i32_72
  let v219 : Index := Scalar.indexCast v217
  ![25, v219.toNat]

def k0_chk27 (v222 : IVec S16 32) : Prop :=
  (∀ a x, ((![v222] : Fin 1 → IVec S16 32) a x).toNat < S64000.size a)
theorem k0_idx27_inb : ∀ (v222 : IVec S16 32) (k0_hw27 : k0_chk27 v222), ∀ a x, ((![v222] : Fin 1 → IVec S16 32) a x).toNat < S64000.size a := fun v222 k0_hw27 => k0_hw27
def k0_off29 (k0_t1 : Fin k0_t1_loop.trips) : Fin 2 → Nat :=
  let c26_i32 : BitVec 32 := 26#32
  let v225 : Index := Scalar.indexCast c26_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_73 : BitVec 32 := 16#32
  let v224 : BitVec 32 := Scalar.muli v34 c16_i32_73
  let v226 : Index := Scalar.indexCast v224
  ![26, v226.toNat]

def k0_chk28 (v229 : IVec S16 32) : Prop :=
  (∀ a x, ((![v229] : Fin 1 → IVec S16 32) a x).toNat < S64000.size a)
theorem k0_idx28_inb : ∀ (v229 : IVec S16 32) (k0_hw28 : k0_chk28 v229), ∀ a x, ((![v229] : Fin 1 → IVec S16 32) a x).toNat < S64000.size a := fun v229 k0_hw28 => k0_hw28
def k0_off30 (k0_t1 : Fin k0_t1_loop.trips) : Fin 2 → Nat :=
  let c27_i32 : BitVec 32 := 27#32
  let v232 : Index := Scalar.indexCast c27_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_74 : BitVec 32 := 16#32
  let v231 : BitVec 32 := Scalar.muli v34 c16_i32_74
  let v233 : Index := Scalar.indexCast v231
  ![27, v233.toNat]

def k0_chk29 (v236 : IVec S16 32) : Prop :=
  (∀ a x, ((![v236] : Fin 1 → IVec S16 32) a x).toNat < S64000.size a)
theorem k0_idx29_inb : ∀ (v236 : IVec S16 32) (k0_hw29 : k0_chk29 v236), ∀ a x, ((![v236] : Fin 1 → IVec S16 32) a x).toNat < S64000.size a := fun v236 k0_hw29 => k0_hw29
def k0_off31 (k0_t1 : Fin k0_t1_loop.trips) : Fin 2 → Nat :=
  let c28_i32 : BitVec 32 := 28#32
  let v239 : Index := Scalar.indexCast c28_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_75 : BitVec 32 := 16#32
  let v238 : BitVec 32 := Scalar.muli v34 c16_i32_75
  let v240 : Index := Scalar.indexCast v238
  ![28, v240.toNat]

def k0_chk30 (v243 : IVec S16 32) : Prop :=
  (∀ a x, ((![v243] : Fin 1 → IVec S16 32) a x).toNat < S64000.size a)
theorem k0_idx30_inb : ∀ (v243 : IVec S16 32) (k0_hw30 : k0_chk30 v243), ∀ a x, ((![v243] : Fin 1 → IVec S16 32) a x).toNat < S64000.size a := fun v243 k0_hw30 => k0_hw30
def k0_off32 (k0_t1 : Fin k0_t1_loop.trips) : Fin 2 → Nat :=
  let c29_i32 : BitVec 32 := 29#32
  let v246 : Index := Scalar.indexCast c29_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_76 : BitVec 32 := 16#32
  let v245 : BitVec 32 := Scalar.muli v34 c16_i32_76
  let v247 : Index := Scalar.indexCast v245
  ![29, v247.toNat]

def k0_chk31 (v250 : IVec S16 32) : Prop :=
  (∀ a x, ((![v250] : Fin 1 → IVec S16 32) a x).toNat < S64000.size a)
theorem k0_idx31_inb : ∀ (v250 : IVec S16 32) (k0_hw31 : k0_chk31 v250), ∀ a x, ((![v250] : Fin 1 → IVec S16 32) a x).toNat < S64000.size a := fun v250 k0_hw31 => k0_hw31
def k0_off33 (k0_t1 : Fin k0_t1_loop.trips) : Fin 2 → Nat :=
  let c30_i32 : BitVec 32 := 30#32
  let v253 : Index := Scalar.indexCast c30_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_77 : BitVec 32 := 16#32
  let v252 : BitVec 32 := Scalar.muli v34 c16_i32_77
  let v254 : Index := Scalar.indexCast v252
  ![30, v254.toNat]

def k0_chk32 (v257 : IVec S16 32) : Prop :=
  (∀ a x, ((![v257] : Fin 1 → IVec S16 32) a x).toNat < S64000.size a)
theorem k0_idx32_inb : ∀ (v257 : IVec S16 32) (k0_hw32 : k0_chk32 v257), ∀ a x, ((![v257] : Fin 1 → IVec S16 32) a x).toNat < S64000.size a := fun v257 k0_hw32 => k0_hw32
def k0_off34 (k0_t1 : Fin k0_t1_loop.trips) : Fin 2 → Nat :=
  let c31_i32 : BitVec 32 := 31#32
  let v260 : Index := Scalar.indexCast c31_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_78 : BitVec 32 := 16#32
  let v259 : BitVec 32 := Scalar.muli v34 c16_i32_78
  let v261 : Index := Scalar.indexCast v259
  ![31, v261.toNat]

def k0_chk33 (v264 : IVec S16 32) : Prop :=
  (∀ a x, ((![v264] : Fin 1 → IVec S16 32) a x).toNat < S64000.size a)
theorem k0_idx33_inb : ∀ (v264 : IVec S16 32) (k0_hw33 : k0_chk33 v264), ∀ a x, ((![v264] : Fin 1 → IVec S16 32) a x).toNat < S64000.size a := fun v264 k0_hw33 => k0_hw33
def k0_off35 (k0_t1 : Fin k0_t1_loop.trips) : Fin 2 → Nat :=
  let c32_i32 : BitVec 32 := 32#32
  let v267 : Index := Scalar.indexCast c32_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_79 : BitVec 32 := 16#32
  let v266 : BitVec 32 := Scalar.muli v34 c16_i32_79
  let v268 : Index := Scalar.indexCast v266
  ![32, v268.toNat]

def k0_chk34 (v271 : IVec S16 32) : Prop :=
  (∀ a x, ((![v271] : Fin 1 → IVec S16 32) a x).toNat < S64000.size a)
theorem k0_idx34_inb : ∀ (v271 : IVec S16 32) (k0_hw34 : k0_chk34 v271), ∀ a x, ((![v271] : Fin 1 → IVec S16 32) a x).toNat < S64000.size a := fun v271 k0_hw34 => k0_hw34
def k0_off36 (k0_t1 : Fin k0_t1_loop.trips) : Fin 2 → Nat :=
  let c33_i32 : BitVec 32 := 33#32
  let v274 : Index := Scalar.indexCast c33_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_80 : BitVec 32 := 16#32
  let v273 : BitVec 32 := Scalar.muli v34 c16_i32_80
  let v275 : Index := Scalar.indexCast v273
  ![33, v275.toNat]

def k0_chk35 (v278 : IVec S16 32) : Prop :=
  (∀ a x, ((![v278] : Fin 1 → IVec S16 32) a x).toNat < S64000.size a)
theorem k0_idx35_inb : ∀ (v278 : IVec S16 32) (k0_hw35 : k0_chk35 v278), ∀ a x, ((![v278] : Fin 1 → IVec S16 32) a x).toNat < S64000.size a := fun v278 k0_hw35 => k0_hw35
def k0_off37 (k0_t1 : Fin k0_t1_loop.trips) : Fin 2 → Nat :=
  let c34_i32 : BitVec 32 := 34#32
  let v281 : Index := Scalar.indexCast c34_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_81 : BitVec 32 := 16#32
  let v280 : BitVec 32 := Scalar.muli v34 c16_i32_81
  let v282 : Index := Scalar.indexCast v280
  ![34, v282.toNat]

def k0_chk36 (v285 : IVec S16 32) : Prop :=
  (∀ a x, ((![v285] : Fin 1 → IVec S16 32) a x).toNat < S64000.size a)
theorem k0_idx36_inb : ∀ (v285 : IVec S16 32) (k0_hw36 : k0_chk36 v285), ∀ a x, ((![v285] : Fin 1 → IVec S16 32) a x).toNat < S64000.size a := fun v285 k0_hw36 => k0_hw36
def k0_off38 (k0_t1 : Fin k0_t1_loop.trips) : Fin 2 → Nat :=
  let c35_i32 : BitVec 32 := 35#32
  let v288 : Index := Scalar.indexCast c35_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_82 : BitVec 32 := 16#32
  let v287 : BitVec 32 := Scalar.muli v34 c16_i32_82
  let v289 : Index := Scalar.indexCast v287
  ![35, v289.toNat]

def k0_chk37 (v292 : IVec S16 32) : Prop :=
  (∀ a x, ((![v292] : Fin 1 → IVec S16 32) a x).toNat < S64000.size a)
theorem k0_idx37_inb : ∀ (v292 : IVec S16 32) (k0_hw37 : k0_chk37 v292), ∀ a x, ((![v292] : Fin 1 → IVec S16 32) a x).toNat < S64000.size a := fun v292 k0_hw37 => k0_hw37
def k0_off39 (k0_t1 : Fin k0_t1_loop.trips) : Fin 2 → Nat :=
  let c36_i32 : BitVec 32 := 36#32
  let v295 : Index := Scalar.indexCast c36_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_83 : BitVec 32 := 16#32
  let v294 : BitVec 32 := Scalar.muli v34 c16_i32_83
  let v296 : Index := Scalar.indexCast v294
  ![36, v296.toNat]

def k0_chk38 (v299 : IVec S16 32) : Prop :=
  (∀ a x, ((![v299] : Fin 1 → IVec S16 32) a x).toNat < S64000.size a)
theorem k0_idx38_inb : ∀ (v299 : IVec S16 32) (k0_hw38 : k0_chk38 v299), ∀ a x, ((![v299] : Fin 1 → IVec S16 32) a x).toNat < S64000.size a := fun v299 k0_hw38 => k0_hw38
def k0_off40 (k0_t1 : Fin k0_t1_loop.trips) : Fin 2 → Nat :=
  let c37_i32 : BitVec 32 := 37#32
  let v302 : Index := Scalar.indexCast c37_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_84 : BitVec 32 := 16#32
  let v301 : BitVec 32 := Scalar.muli v34 c16_i32_84
  let v303 : Index := Scalar.indexCast v301
  ![37, v303.toNat]

def k0_chk39 (v306 : IVec S16 32) : Prop :=
  (∀ a x, ((![v306] : Fin 1 → IVec S16 32) a x).toNat < S64000.size a)
theorem k0_idx39_inb : ∀ (v306 : IVec S16 32) (k0_hw39 : k0_chk39 v306), ∀ a x, ((![v306] : Fin 1 → IVec S16 32) a x).toNat < S64000.size a := fun v306 k0_hw39 => k0_hw39
def k0_off41 (k0_t1 : Fin k0_t1_loop.trips) : Fin 2 → Nat :=
  let c38_i32 : BitVec 32 := 38#32
  let v309 : Index := Scalar.indexCast c38_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_85 : BitVec 32 := 16#32
  let v308 : BitVec 32 := Scalar.muli v34 c16_i32_85
  let v310 : Index := Scalar.indexCast v308
  ![38, v310.toNat]

def k0_chk40 (v313 : IVec S16 32) : Prop :=
  (∀ a x, ((![v313] : Fin 1 → IVec S16 32) a x).toNat < S64000.size a)
theorem k0_idx40_inb : ∀ (v313 : IVec S16 32) (k0_hw40 : k0_chk40 v313), ∀ a x, ((![v313] : Fin 1 → IVec S16 32) a x).toNat < S64000.size a := fun v313 k0_hw40 => k0_hw40
def k0_off42 (k0_t1 : Fin k0_t1_loop.trips) : Fin 2 → Nat :=
  let c39_i32 : BitVec 32 := 39#32
  let v316 : Index := Scalar.indexCast c39_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_86 : BitVec 32 := 16#32
  let v315 : BitVec 32 := Scalar.muli v34 c16_i32_86
  let v317 : Index := Scalar.indexCast v315
  ![39, v317.toNat]

def k0_chk41 (v320 : IVec S16 32) : Prop :=
  (∀ a x, ((![v320] : Fin 1 → IVec S16 32) a x).toNat < S64000.size a)
theorem k0_idx41_inb : ∀ (v320 : IVec S16 32) (k0_hw41 : k0_chk41 v320), ∀ a x, ((![v320] : Fin 1 → IVec S16 32) a x).toNat < S64000.size a := fun v320 k0_hw41 => k0_hw41
def k0_off43 (k0_t1 : Fin k0_t1_loop.trips) : Fin 2 → Nat :=
  let c40_i32 : BitVec 32 := 40#32
  let v323 : Index := Scalar.indexCast c40_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_87 : BitVec 32 := 16#32
  let v322 : BitVec 32 := Scalar.muli v34 c16_i32_87
  let v324 : Index := Scalar.indexCast v322
  ![40, v324.toNat]

def k0_chk42 (v327 : IVec S16 32) : Prop :=
  (∀ a x, ((![v327] : Fin 1 → IVec S16 32) a x).toNat < S64000.size a)
theorem k0_idx42_inb : ∀ (v327 : IVec S16 32) (k0_hw42 : k0_chk42 v327), ∀ a x, ((![v327] : Fin 1 → IVec S16 32) a x).toNat < S64000.size a := fun v327 k0_hw42 => k0_hw42
def k0_off44 (k0_t1 : Fin k0_t1_loop.trips) : Fin 2 → Nat :=
  let c41_i32 : BitVec 32 := 41#32
  let v330 : Index := Scalar.indexCast c41_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_88 : BitVec 32 := 16#32
  let v329 : BitVec 32 := Scalar.muli v34 c16_i32_88
  let v331 : Index := Scalar.indexCast v329
  ![41, v331.toNat]

def k0_chk43 (v334 : IVec S16 32) : Prop :=
  (∀ a x, ((![v334] : Fin 1 → IVec S16 32) a x).toNat < S64000.size a)
theorem k0_idx43_inb : ∀ (v334 : IVec S16 32) (k0_hw43 : k0_chk43 v334), ∀ a x, ((![v334] : Fin 1 → IVec S16 32) a x).toNat < S64000.size a := fun v334 k0_hw43 => k0_hw43
def k0_off45 (k0_t1 : Fin k0_t1_loop.trips) : Fin 2 → Nat :=
  let c42_i32 : BitVec 32 := 42#32
  let v337 : Index := Scalar.indexCast c42_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_89 : BitVec 32 := 16#32
  let v336 : BitVec 32 := Scalar.muli v34 c16_i32_89
  let v338 : Index := Scalar.indexCast v336
  ![42, v338.toNat]

def k0_chk44 (v341 : IVec S16 32) : Prop :=
  (∀ a x, ((![v341] : Fin 1 → IVec S16 32) a x).toNat < S64000.size a)
theorem k0_idx44_inb : ∀ (v341 : IVec S16 32) (k0_hw44 : k0_chk44 v341), ∀ a x, ((![v341] : Fin 1 → IVec S16 32) a x).toNat < S64000.size a := fun v341 k0_hw44 => k0_hw44
def k0_off46 (k0_t1 : Fin k0_t1_loop.trips) : Fin 2 → Nat :=
  let c43_i32 : BitVec 32 := 43#32
  let v344 : Index := Scalar.indexCast c43_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_90 : BitVec 32 := 16#32
  let v343 : BitVec 32 := Scalar.muli v34 c16_i32_90
  let v345 : Index := Scalar.indexCast v343
  ![43, v345.toNat]

def k0_chk45 (v348 : IVec S16 32) : Prop :=
  (∀ a x, ((![v348] : Fin 1 → IVec S16 32) a x).toNat < S64000.size a)
theorem k0_idx45_inb : ∀ (v348 : IVec S16 32) (k0_hw45 : k0_chk45 v348), ∀ a x, ((![v348] : Fin 1 → IVec S16 32) a x).toNat < S64000.size a := fun v348 k0_hw45 => k0_hw45
def k0_off47 (k0_t1 : Fin k0_t1_loop.trips) : Fin 2 → Nat :=
  let c44_i32 : BitVec 32 := 44#32
  let v351 : Index := Scalar.indexCast c44_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_91 : BitVec 32 := 16#32
  let v350 : BitVec 32 := Scalar.muli v34 c16_i32_91
  let v352 : Index := Scalar.indexCast v350
  ![44, v352.toNat]

def k0_chk46 (v355 : IVec S16 32) : Prop :=
  (∀ a x, ((![v355] : Fin 1 → IVec S16 32) a x).toNat < S64000.size a)
theorem k0_idx46_inb : ∀ (v355 : IVec S16 32) (k0_hw46 : k0_chk46 v355), ∀ a x, ((![v355] : Fin 1 → IVec S16 32) a x).toNat < S64000.size a := fun v355 k0_hw46 => k0_hw46
def k0_off48 (k0_t1 : Fin k0_t1_loop.trips) : Fin 2 → Nat :=
  let c45_i32 : BitVec 32 := 45#32
  let v358 : Index := Scalar.indexCast c45_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_92 : BitVec 32 := 16#32
  let v357 : BitVec 32 := Scalar.muli v34 c16_i32_92
  let v359 : Index := Scalar.indexCast v357
  ![45, v359.toNat]

def k0_chk47 (v362 : IVec S16 32) : Prop :=
  (∀ a x, ((![v362] : Fin 1 → IVec S16 32) a x).toNat < S64000.size a)
theorem k0_idx47_inb : ∀ (v362 : IVec S16 32) (k0_hw47 : k0_chk47 v362), ∀ a x, ((![v362] : Fin 1 → IVec S16 32) a x).toNat < S64000.size a := fun v362 k0_hw47 => k0_hw47
def k0_off49 (k0_t1 : Fin k0_t1_loop.trips) : Fin 2 → Nat :=
  let c46_i32 : BitVec 32 := 46#32
  let v365 : Index := Scalar.indexCast c46_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_93 : BitVec 32 := 16#32
  let v364 : BitVec 32 := Scalar.muli v34 c16_i32_93
  let v366 : Index := Scalar.indexCast v364
  ![46, v366.toNat]

def k0_chk48 (v369 : IVec S16 32) : Prop :=
  (∀ a x, ((![v369] : Fin 1 → IVec S16 32) a x).toNat < S64000.size a)
theorem k0_idx48_inb : ∀ (v369 : IVec S16 32) (k0_hw48 : k0_chk48 v369), ∀ a x, ((![v369] : Fin 1 → IVec S16 32) a x).toNat < S64000.size a := fun v369 k0_hw48 => k0_hw48
def k0_off50 (k0_t1 : Fin k0_t1_loop.trips) : Fin 2 → Nat :=
  let c47_i32 : BitVec 32 := 47#32
  let v372 : Index := Scalar.indexCast c47_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_94 : BitVec 32 := 16#32
  let v371 : BitVec 32 := Scalar.muli v34 c16_i32_94
  let v373 : Index := Scalar.indexCast v371
  ![47, v373.toNat]

def k0_chk49 (v376 : IVec S16 32) : Prop :=
  (∀ a x, ((![v376] : Fin 1 → IVec S16 32) a x).toNat < S64000.size a)
theorem k0_idx49_inb : ∀ (v376 : IVec S16 32) (k0_hw49 : k0_chk49 v376), ∀ a x, ((![v376] : Fin 1 → IVec S16 32) a x).toNat < S64000.size a := fun v376 k0_hw49 => k0_hw49
def k0_off51 (k0_t1 : Fin k0_t1_loop.trips) : Fin 2 → Nat :=
  let c48_i32 : BitVec 32 := 48#32
  let v379 : Index := Scalar.indexCast c48_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_95 : BitVec 32 := 16#32
  let v378 : BitVec 32 := Scalar.muli v34 c16_i32_95
  let v380 : Index := Scalar.indexCast v378
  ![48, v380.toNat]

def k0_chk50 (v383 : IVec S16 32) : Prop :=
  (∀ a x, ((![v383] : Fin 1 → IVec S16 32) a x).toNat < S64000.size a)
theorem k0_idx50_inb : ∀ (v383 : IVec S16 32) (k0_hw50 : k0_chk50 v383), ∀ a x, ((![v383] : Fin 1 → IVec S16 32) a x).toNat < S64000.size a := fun v383 k0_hw50 => k0_hw50
def k0_off52 (k0_t1 : Fin k0_t1_loop.trips) : Fin 2 → Nat :=
  let c49_i32 : BitVec 32 := 49#32
  let v386 : Index := Scalar.indexCast c49_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_96 : BitVec 32 := 16#32
  let v385 : BitVec 32 := Scalar.muli v34 c16_i32_96
  let v387 : Index := Scalar.indexCast v385
  ![49, v387.toNat]

def k0_chk51 (v390 : IVec S16 32) : Prop :=
  (∀ a x, ((![v390] : Fin 1 → IVec S16 32) a x).toNat < S64000.size a)
theorem k0_idx51_inb : ∀ (v390 : IVec S16 32) (k0_hw51 : k0_chk51 v390), ∀ a x, ((![v390] : Fin 1 → IVec S16 32) a x).toNat < S64000.size a := fun v390 k0_hw51 => k0_hw51
def k0_off53 (k0_t1 : Fin k0_t1_loop.trips) : Fin 2 → Nat :=
  let c50_i32 : BitVec 32 := 50#32
  let v393 : Index := Scalar.indexCast c50_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_97 : BitVec 32 := 16#32
  let v392 : BitVec 32 := Scalar.muli v34 c16_i32_97
  let v394 : Index := Scalar.indexCast v392
  ![50, v394.toNat]

def k0_chk52 (v397 : IVec S16 32) : Prop :=
  (∀ a x, ((![v397] : Fin 1 → IVec S16 32) a x).toNat < S64000.size a)
theorem k0_idx52_inb : ∀ (v397 : IVec S16 32) (k0_hw52 : k0_chk52 v397), ∀ a x, ((![v397] : Fin 1 → IVec S16 32) a x).toNat < S64000.size a := fun v397 k0_hw52 => k0_hw52
def k0_off54 (k0_t1 : Fin k0_t1_loop.trips) : Fin 2 → Nat :=
  let c51_i32 : BitVec 32 := 51#32
  let v400 : Index := Scalar.indexCast c51_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_98 : BitVec 32 := 16#32
  let v399 : BitVec 32 := Scalar.muli v34 c16_i32_98
  let v401 : Index := Scalar.indexCast v399
  ![51, v401.toNat]

def k0_chk53 (v404 : IVec S16 32) : Prop :=
  (∀ a x, ((![v404] : Fin 1 → IVec S16 32) a x).toNat < S64000.size a)
theorem k0_idx53_inb : ∀ (v404 : IVec S16 32) (k0_hw53 : k0_chk53 v404), ∀ a x, ((![v404] : Fin 1 → IVec S16 32) a x).toNat < S64000.size a := fun v404 k0_hw53 => k0_hw53
def k0_off55 (k0_t1 : Fin k0_t1_loop.trips) : Fin 2 → Nat :=
  let c52_i32 : BitVec 32 := 52#32
  let v407 : Index := Scalar.indexCast c52_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_99 : BitVec 32 := 16#32
  let v406 : BitVec 32 := Scalar.muli v34 c16_i32_99
  let v408 : Index := Scalar.indexCast v406
  ![52, v408.toNat]

def k0_chk54 (v411 : IVec S16 32) : Prop :=
  (∀ a x, ((![v411] : Fin 1 → IVec S16 32) a x).toNat < S64000.size a)
theorem k0_idx54_inb : ∀ (v411 : IVec S16 32) (k0_hw54 : k0_chk54 v411), ∀ a x, ((![v411] : Fin 1 → IVec S16 32) a x).toNat < S64000.size a := fun v411 k0_hw54 => k0_hw54
def k0_off56 (k0_t1 : Fin k0_t1_loop.trips) : Fin 2 → Nat :=
  let c53_i32 : BitVec 32 := 53#32
  let v414 : Index := Scalar.indexCast c53_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_100 : BitVec 32 := 16#32
  let v413 : BitVec 32 := Scalar.muli v34 c16_i32_100
  let v415 : Index := Scalar.indexCast v413
  ![53, v415.toNat]

def k0_chk55 (v418 : IVec S16 32) : Prop :=
  (∀ a x, ((![v418] : Fin 1 → IVec S16 32) a x).toNat < S64000.size a)
theorem k0_idx55_inb : ∀ (v418 : IVec S16 32) (k0_hw55 : k0_chk55 v418), ∀ a x, ((![v418] : Fin 1 → IVec S16 32) a x).toNat < S64000.size a := fun v418 k0_hw55 => k0_hw55
def k0_off57 (k0_t1 : Fin k0_t1_loop.trips) : Fin 2 → Nat :=
  let c54_i32 : BitVec 32 := 54#32
  let v421 : Index := Scalar.indexCast c54_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_101 : BitVec 32 := 16#32
  let v420 : BitVec 32 := Scalar.muli v34 c16_i32_101
  let v422 : Index := Scalar.indexCast v420
  ![54, v422.toNat]

def k0_chk56 (v425 : IVec S16 32) : Prop :=
  (∀ a x, ((![v425] : Fin 1 → IVec S16 32) a x).toNat < S64000.size a)
theorem k0_idx56_inb : ∀ (v425 : IVec S16 32) (k0_hw56 : k0_chk56 v425), ∀ a x, ((![v425] : Fin 1 → IVec S16 32) a x).toNat < S64000.size a := fun v425 k0_hw56 => k0_hw56
def k0_off58 (k0_t1 : Fin k0_t1_loop.trips) : Fin 2 → Nat :=
  let c55_i32 : BitVec 32 := 55#32
  let v428 : Index := Scalar.indexCast c55_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_102 : BitVec 32 := 16#32
  let v427 : BitVec 32 := Scalar.muli v34 c16_i32_102
  let v429 : Index := Scalar.indexCast v427
  ![55, v429.toNat]

def k0_chk57 (v432 : IVec S16 32) : Prop :=
  (∀ a x, ((![v432] : Fin 1 → IVec S16 32) a x).toNat < S64000.size a)
theorem k0_idx57_inb : ∀ (v432 : IVec S16 32) (k0_hw57 : k0_chk57 v432), ∀ a x, ((![v432] : Fin 1 → IVec S16 32) a x).toNat < S64000.size a := fun v432 k0_hw57 => k0_hw57
def k0_off59 (k0_t1 : Fin k0_t1_loop.trips) : Fin 2 → Nat :=
  let c56_i32 : BitVec 32 := 56#32
  let v435 : Index := Scalar.indexCast c56_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_103 : BitVec 32 := 16#32
  let v434 : BitVec 32 := Scalar.muli v34 c16_i32_103
  let v436 : Index := Scalar.indexCast v434
  ![56, v436.toNat]

def k0_chk58 (v439 : IVec S16 32) : Prop :=
  (∀ a x, ((![v439] : Fin 1 → IVec S16 32) a x).toNat < S64000.size a)
theorem k0_idx58_inb : ∀ (v439 : IVec S16 32) (k0_hw58 : k0_chk58 v439), ∀ a x, ((![v439] : Fin 1 → IVec S16 32) a x).toNat < S64000.size a := fun v439 k0_hw58 => k0_hw58
def k0_off60 (k0_t1 : Fin k0_t1_loop.trips) : Fin 2 → Nat :=
  let c57_i32 : BitVec 32 := 57#32
  let v442 : Index := Scalar.indexCast c57_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_104 : BitVec 32 := 16#32
  let v441 : BitVec 32 := Scalar.muli v34 c16_i32_104
  let v443 : Index := Scalar.indexCast v441
  ![57, v443.toNat]

def k0_chk59 (v446 : IVec S16 32) : Prop :=
  (∀ a x, ((![v446] : Fin 1 → IVec S16 32) a x).toNat < S64000.size a)
theorem k0_idx59_inb : ∀ (v446 : IVec S16 32) (k0_hw59 : k0_chk59 v446), ∀ a x, ((![v446] : Fin 1 → IVec S16 32) a x).toNat < S64000.size a := fun v446 k0_hw59 => k0_hw59
def k0_off61 (k0_t1 : Fin k0_t1_loop.trips) : Fin 2 → Nat :=
  let c58_i32 : BitVec 32 := 58#32
  let v449 : Index := Scalar.indexCast c58_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_105 : BitVec 32 := 16#32
  let v448 : BitVec 32 := Scalar.muli v34 c16_i32_105
  let v450 : Index := Scalar.indexCast v448
  ![58, v450.toNat]

def k0_chk60 (v453 : IVec S16 32) : Prop :=
  (∀ a x, ((![v453] : Fin 1 → IVec S16 32) a x).toNat < S64000.size a)
theorem k0_idx60_inb : ∀ (v453 : IVec S16 32) (k0_hw60 : k0_chk60 v453), ∀ a x, ((![v453] : Fin 1 → IVec S16 32) a x).toNat < S64000.size a := fun v453 k0_hw60 => k0_hw60
def k0_off62 (k0_t1 : Fin k0_t1_loop.trips) : Fin 2 → Nat :=
  let c59_i32 : BitVec 32 := 59#32
  let v456 : Index := Scalar.indexCast c59_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_106 : BitVec 32 := 16#32
  let v455 : BitVec 32 := Scalar.muli v34 c16_i32_106
  let v457 : Index := Scalar.indexCast v455
  ![59, v457.toNat]

def k0_chk61 (v460 : IVec S16 32) : Prop :=
  (∀ a x, ((![v460] : Fin 1 → IVec S16 32) a x).toNat < S64000.size a)
theorem k0_idx61_inb : ∀ (v460 : IVec S16 32) (k0_hw61 : k0_chk61 v460), ∀ a x, ((![v460] : Fin 1 → IVec S16 32) a x).toNat < S64000.size a := fun v460 k0_hw61 => k0_hw61
def k0_off63 (k0_t1 : Fin k0_t1_loop.trips) : Fin 2 → Nat :=
  let c60_i32 : BitVec 32 := 60#32
  let v463 : Index := Scalar.indexCast c60_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_107 : BitVec 32 := 16#32
  let v462 : BitVec 32 := Scalar.muli v34 c16_i32_107
  let v464 : Index := Scalar.indexCast v462
  ![60, v464.toNat]

def k0_chk62 (v467 : IVec S16 32) : Prop :=
  (∀ a x, ((![v467] : Fin 1 → IVec S16 32) a x).toNat < S64000.size a)
theorem k0_idx62_inb : ∀ (v467 : IVec S16 32) (k0_hw62 : k0_chk62 v467), ∀ a x, ((![v467] : Fin 1 → IVec S16 32) a x).toNat < S64000.size a := fun v467 k0_hw62 => k0_hw62
def k0_off64 (k0_t1 : Fin k0_t1_loop.trips) : Fin 2 → Nat :=
  let c61_i32 : BitVec 32 := 61#32
  let v470 : Index := Scalar.indexCast c61_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_108 : BitVec 32 := 16#32
  let v469 : BitVec 32 := Scalar.muli v34 c16_i32_108
  let v471 : Index := Scalar.indexCast v469
  ![61, v471.toNat]

def k0_chk63 (v474 : IVec S16 32) : Prop :=
  (∀ a x, ((![v474] : Fin 1 → IVec S16 32) a x).toNat < S64000.size a)
theorem k0_idx63_inb : ∀ (v474 : IVec S16 32) (k0_hw63 : k0_chk63 v474), ∀ a x, ((![v474] : Fin 1 → IVec S16 32) a x).toNat < S64000.size a := fun v474 k0_hw63 => k0_hw63
def k0_off65 (k0_t1 : Fin k0_t1_loop.trips) : Fin 2 → Nat :=
  let c62_i32 : BitVec 32 := 62#32
  let v477 : Index := Scalar.indexCast c62_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_109 : BitVec 32 := 16#32
  let v476 : BitVec 32 := Scalar.muli v34 c16_i32_109
  let v478 : Index := Scalar.indexCast v476
  ![62, v478.toNat]

def k0_chk64 (v481 : IVec S16 32) : Prop :=
  (∀ a x, ((![v481] : Fin 1 → IVec S16 32) a x).toNat < S64000.size a)
theorem k0_idx64_inb : ∀ (v481 : IVec S16 32) (k0_hw64 : k0_chk64 v481), ∀ a x, ((![v481] : Fin 1 → IVec S16 32) a x).toNat < S64000.size a := fun v481 k0_hw64 => k0_hw64
def k0_off66 (k0_t1 : Fin k0_t1_loop.trips) : Fin 2 → Nat :=
  let c63_i32 : BitVec 32 := 63#32
  let v484 : Index := Scalar.indexCast c63_i32
  let c0_i32_39 : BitVec 32 := 0#32
  let c0_i32 : BitVec 32 := 0#32
  let c1_i32 : BitVec 32 := 1#32
  let arg12 : BitVec 32 := Scf.iv c0_i32 c1_i32 k0_t1
  let c1_i32_38 : BitVec 32 := 1#32
  let v33 : BitVec 32 := Scalar.muli arg12 c1_i32_38
  let v34 : BitVec 32 := Scalar.addi c0_i32_39 v33
  let c16_i32_110 : BitVec 32 := 16#32
  let v483 : BitVec 32 := Scalar.muli v34 c16_i32_110
  let v485 : Index := Scalar.indexCast v483
  ![63, v485.toNat]
def k0_off67 (i : grid0.Coords) (c0_i32_1 : BitVec 32) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v4 : BitVec 32 := Scalar.addi v2 c0_i32_1
  ![0, v4.toNat]
@[reducible] def k0_t2_loop : Scf.Loop 32 :=
  let c0_i32_4 : BitVec 32 := 0#32
  let c20_i32_5 : BitVec 32 := 20#32
  let v7 : BitVec 32 := Scalar.addi c0_i32_4 c20_i32_5
  let c1_i32_6 : BitVec 32 := 1#32
  ⟨c0_i32_4, v7, c1_i32_6⟩
def k0_off68 (k0_t2 : Fin k0_t2_loop.trips) : Fin 1 → Nat :=
  let c320_i32_40 : BitVec 32 := 320#32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32 : BitVec 32 := 16#32
  let v35 : BitVec 32 := Scalar.muli v34 c16_i32
  let v36 : BitVec 32 := Scalar.addi c320_i32_40 v35
  let v37 : Index := Scalar.indexCast v36
  ![v37.toNat]

def k0_chk65 (v40 : IVec S16 32) : Prop :=
  (∀ a x, ((![v40] : Fin 1 → IVec S16 32) a x).toNat < S64000.size a)
theorem k0_idx65_inb : ∀ (v40 : IVec S16 32) (k0_hw65 : k0_chk65 v40), ∀ a x, ((![v40] : Fin 1 → IVec S16 32) a x).toNat < S64000.size a := fun v40 k0_hw65 => k0_hw65
def k0_off69 (k0_t2 : Fin k0_t2_loop.trips) : Fin 2 → Nat :=
  let c0_i32_43 : BitVec 32 := 0#32
  let v43 : Index := Scalar.indexCast c0_i32_43
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_42 : BitVec 32 := 16#32
  let v42 : BitVec 32 := Scalar.muli v34 c16_i32_42
  let v44 : Index := Scalar.indexCast v42
  ![0, v44.toNat]

def k0_chk66 (v47 : IVec S16 32) : Prop :=
  (∀ a x, ((![v47] : Fin 1 → IVec S16 32) a x).toNat < S64000.size a)
theorem k0_idx66_inb : ∀ (v47 : IVec S16 32) (k0_hw66 : k0_chk66 v47), ∀ a x, ((![v47] : Fin 1 → IVec S16 32) a x).toNat < S64000.size a := fun v47 k0_hw66 => k0_hw66
def k0_off70 (k0_t2 : Fin k0_t2_loop.trips) : Fin 2 → Nat :=
  let c1_i32_45 : BitVec 32 := 1#32
  let v50 : Index := Scalar.indexCast c1_i32_45
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_44 : BitVec 32 := 16#32
  let v49 : BitVec 32 := Scalar.muli v34 c16_i32_44
  let v51 : Index := Scalar.indexCast v49
  ![1, v51.toNat]

def k0_chk67 (v54 : IVec S16 32) : Prop :=
  (∀ a x, ((![v54] : Fin 1 → IVec S16 32) a x).toNat < S64000.size a)
theorem k0_idx67_inb : ∀ (v54 : IVec S16 32) (k0_hw67 : k0_chk67 v54), ∀ a x, ((![v54] : Fin 1 → IVec S16 32) a x).toNat < S64000.size a := fun v54 k0_hw67 => k0_hw67
def k0_off71 (k0_t2 : Fin k0_t2_loop.trips) : Fin 2 → Nat :=
  let c2_i32_47 : BitVec 32 := 2#32
  let v57 : Index := Scalar.indexCast c2_i32_47
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_46 : BitVec 32 := 16#32
  let v56 : BitVec 32 := Scalar.muli v34 c16_i32_46
  let v58 : Index := Scalar.indexCast v56
  ![2, v58.toNat]

def k0_chk68 (v61 : IVec S16 32) : Prop :=
  (∀ a x, ((![v61] : Fin 1 → IVec S16 32) a x).toNat < S64000.size a)
theorem k0_idx68_inb : ∀ (v61 : IVec S16 32) (k0_hw68 : k0_chk68 v61), ∀ a x, ((![v61] : Fin 1 → IVec S16 32) a x).toNat < S64000.size a := fun v61 k0_hw68 => k0_hw68
def k0_off72 (k0_t2 : Fin k0_t2_loop.trips) : Fin 2 → Nat :=
  let c3_i32 : BitVec 32 := 3#32
  let v64 : Index := Scalar.indexCast c3_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_48 : BitVec 32 := 16#32
  let v63 : BitVec 32 := Scalar.muli v34 c16_i32_48
  let v65 : Index := Scalar.indexCast v63
  ![3, v65.toNat]

def k0_chk69 (v68 : IVec S16 32) : Prop :=
  (∀ a x, ((![v68] : Fin 1 → IVec S16 32) a x).toNat < S64000.size a)
theorem k0_idx69_inb : ∀ (v68 : IVec S16 32) (k0_hw69 : k0_chk69 v68), ∀ a x, ((![v68] : Fin 1 → IVec S16 32) a x).toNat < S64000.size a := fun v68 k0_hw69 => k0_hw69
def k0_off73 (k0_t2 : Fin k0_t2_loop.trips) : Fin 2 → Nat :=
  let c4_i32 : BitVec 32 := 4#32
  let v71 : Index := Scalar.indexCast c4_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_49 : BitVec 32 := 16#32
  let v70 : BitVec 32 := Scalar.muli v34 c16_i32_49
  let v72 : Index := Scalar.indexCast v70
  ![4, v72.toNat]

def k0_chk70 (v75 : IVec S16 32) : Prop :=
  (∀ a x, ((![v75] : Fin 1 → IVec S16 32) a x).toNat < S64000.size a)
theorem k0_idx70_inb : ∀ (v75 : IVec S16 32) (k0_hw70 : k0_chk70 v75), ∀ a x, ((![v75] : Fin 1 → IVec S16 32) a x).toNat < S64000.size a := fun v75 k0_hw70 => k0_hw70
def k0_off74 (k0_t2 : Fin k0_t2_loop.trips) : Fin 2 → Nat :=
  let c5_i32 : BitVec 32 := 5#32
  let v78 : Index := Scalar.indexCast c5_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_50 : BitVec 32 := 16#32
  let v77 : BitVec 32 := Scalar.muli v34 c16_i32_50
  let v79 : Index := Scalar.indexCast v77
  ![5, v79.toNat]

def k0_chk71 (v82 : IVec S16 32) : Prop :=
  (∀ a x, ((![v82] : Fin 1 → IVec S16 32) a x).toNat < S64000.size a)
theorem k0_idx71_inb : ∀ (v82 : IVec S16 32) (k0_hw71 : k0_chk71 v82), ∀ a x, ((![v82] : Fin 1 → IVec S16 32) a x).toNat < S64000.size a := fun v82 k0_hw71 => k0_hw71
def k0_off75 (k0_t2 : Fin k0_t2_loop.trips) : Fin 2 → Nat :=
  let c6_i32 : BitVec 32 := 6#32
  let v85 : Index := Scalar.indexCast c6_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_51 : BitVec 32 := 16#32
  let v84 : BitVec 32 := Scalar.muli v34 c16_i32_51
  let v86 : Index := Scalar.indexCast v84
  ![6, v86.toNat]

def k0_chk72 (v89 : IVec S16 32) : Prop :=
  (∀ a x, ((![v89] : Fin 1 → IVec S16 32) a x).toNat < S64000.size a)
theorem k0_idx72_inb : ∀ (v89 : IVec S16 32) (k0_hw72 : k0_chk72 v89), ∀ a x, ((![v89] : Fin 1 → IVec S16 32) a x).toNat < S64000.size a := fun v89 k0_hw72 => k0_hw72
def k0_off76 (k0_t2 : Fin k0_t2_loop.trips) : Fin 2 → Nat :=
  let c7_i32 : BitVec 32 := 7#32
  let v92 : Index := Scalar.indexCast c7_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_52 : BitVec 32 := 16#32
  let v91 : BitVec 32 := Scalar.muli v34 c16_i32_52
  let v93 : Index := Scalar.indexCast v91
  ![7, v93.toNat]

def k0_chk73 (v96 : IVec S16 32) : Prop :=
  (∀ a x, ((![v96] : Fin 1 → IVec S16 32) a x).toNat < S64000.size a)
theorem k0_idx73_inb : ∀ (v96 : IVec S16 32) (k0_hw73 : k0_chk73 v96), ∀ a x, ((![v96] : Fin 1 → IVec S16 32) a x).toNat < S64000.size a := fun v96 k0_hw73 => k0_hw73
def k0_off77 (k0_t2 : Fin k0_t2_loop.trips) : Fin 2 → Nat :=
  let c8_i32 : BitVec 32 := 8#32
  let v99 : Index := Scalar.indexCast c8_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_53 : BitVec 32 := 16#32
  let v98 : BitVec 32 := Scalar.muli v34 c16_i32_53
  let v100 : Index := Scalar.indexCast v98
  ![8, v100.toNat]

def k0_chk74 (v103 : IVec S16 32) : Prop :=
  (∀ a x, ((![v103] : Fin 1 → IVec S16 32) a x).toNat < S64000.size a)
theorem k0_idx74_inb : ∀ (v103 : IVec S16 32) (k0_hw74 : k0_chk74 v103), ∀ a x, ((![v103] : Fin 1 → IVec S16 32) a x).toNat < S64000.size a := fun v103 k0_hw74 => k0_hw74
def k0_off78 (k0_t2 : Fin k0_t2_loop.trips) : Fin 2 → Nat :=
  let c9_i32 : BitVec 32 := 9#32
  let v106 : Index := Scalar.indexCast c9_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_54 : BitVec 32 := 16#32
  let v105 : BitVec 32 := Scalar.muli v34 c16_i32_54
  let v107 : Index := Scalar.indexCast v105
  ![9, v107.toNat]

def k0_chk75 (v110 : IVec S16 32) : Prop :=
  (∀ a x, ((![v110] : Fin 1 → IVec S16 32) a x).toNat < S64000.size a)
theorem k0_idx75_inb : ∀ (v110 : IVec S16 32) (k0_hw75 : k0_chk75 v110), ∀ a x, ((![v110] : Fin 1 → IVec S16 32) a x).toNat < S64000.size a := fun v110 k0_hw75 => k0_hw75
def k0_off79 (k0_t2 : Fin k0_t2_loop.trips) : Fin 2 → Nat :=
  let c10_i32 : BitVec 32 := 10#32
  let v113 : Index := Scalar.indexCast c10_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_55 : BitVec 32 := 16#32
  let v112 : BitVec 32 := Scalar.muli v34 c16_i32_55
  let v114 : Index := Scalar.indexCast v112
  ![10, v114.toNat]

def k0_chk76 (v117 : IVec S16 32) : Prop :=
  (∀ a x, ((![v117] : Fin 1 → IVec S16 32) a x).toNat < S64000.size a)
theorem k0_idx76_inb : ∀ (v117 : IVec S16 32) (k0_hw76 : k0_chk76 v117), ∀ a x, ((![v117] : Fin 1 → IVec S16 32) a x).toNat < S64000.size a := fun v117 k0_hw76 => k0_hw76
def k0_off80 (k0_t2 : Fin k0_t2_loop.trips) : Fin 2 → Nat :=
  let c11_i32 : BitVec 32 := 11#32
  let v120 : Index := Scalar.indexCast c11_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_56 : BitVec 32 := 16#32
  let v119 : BitVec 32 := Scalar.muli v34 c16_i32_56
  let v121 : Index := Scalar.indexCast v119
  ![11, v121.toNat]

def k0_chk77 (v124 : IVec S16 32) : Prop :=
  (∀ a x, ((![v124] : Fin 1 → IVec S16 32) a x).toNat < S64000.size a)
theorem k0_idx77_inb : ∀ (v124 : IVec S16 32) (k0_hw77 : k0_chk77 v124), ∀ a x, ((![v124] : Fin 1 → IVec S16 32) a x).toNat < S64000.size a := fun v124 k0_hw77 => k0_hw77
def k0_off81 (k0_t2 : Fin k0_t2_loop.trips) : Fin 2 → Nat :=
  let c12_i32 : BitVec 32 := 12#32
  let v127 : Index := Scalar.indexCast c12_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_57 : BitVec 32 := 16#32
  let v126 : BitVec 32 := Scalar.muli v34 c16_i32_57
  let v128 : Index := Scalar.indexCast v126
  ![12, v128.toNat]

def k0_chk78 (v131 : IVec S16 32) : Prop :=
  (∀ a x, ((![v131] : Fin 1 → IVec S16 32) a x).toNat < S64000.size a)
theorem k0_idx78_inb : ∀ (v131 : IVec S16 32) (k0_hw78 : k0_chk78 v131), ∀ a x, ((![v131] : Fin 1 → IVec S16 32) a x).toNat < S64000.size a := fun v131 k0_hw78 => k0_hw78
def k0_off82 (k0_t2 : Fin k0_t2_loop.trips) : Fin 2 → Nat :=
  let c13_i32 : BitVec 32 := 13#32
  let v134 : Index := Scalar.indexCast c13_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_58 : BitVec 32 := 16#32
  let v133 : BitVec 32 := Scalar.muli v34 c16_i32_58
  let v135 : Index := Scalar.indexCast v133
  ![13, v135.toNat]

def k0_chk79 (v138 : IVec S16 32) : Prop :=
  (∀ a x, ((![v138] : Fin 1 → IVec S16 32) a x).toNat < S64000.size a)
theorem k0_idx79_inb : ∀ (v138 : IVec S16 32) (k0_hw79 : k0_chk79 v138), ∀ a x, ((![v138] : Fin 1 → IVec S16 32) a x).toNat < S64000.size a := fun v138 k0_hw79 => k0_hw79
def k0_off83 (k0_t2 : Fin k0_t2_loop.trips) : Fin 2 → Nat :=
  let c14_i32 : BitVec 32 := 14#32
  let v141 : Index := Scalar.indexCast c14_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_59 : BitVec 32 := 16#32
  let v140 : BitVec 32 := Scalar.muli v34 c16_i32_59
  let v142 : Index := Scalar.indexCast v140
  ![14, v142.toNat]

def k0_chk80 (v145 : IVec S16 32) : Prop :=
  (∀ a x, ((![v145] : Fin 1 → IVec S16 32) a x).toNat < S64000.size a)
theorem k0_idx80_inb : ∀ (v145 : IVec S16 32) (k0_hw80 : k0_chk80 v145), ∀ a x, ((![v145] : Fin 1 → IVec S16 32) a x).toNat < S64000.size a := fun v145 k0_hw80 => k0_hw80
def k0_off84 (k0_t2 : Fin k0_t2_loop.trips) : Fin 2 → Nat :=
  let c15_i32 : BitVec 32 := 15#32
  let v148 : Index := Scalar.indexCast c15_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_60 : BitVec 32 := 16#32
  let v147 : BitVec 32 := Scalar.muli v34 c16_i32_60
  let v149 : Index := Scalar.indexCast v147
  ![15, v149.toNat]

def k0_chk81 (v152 : IVec S16 32) : Prop :=
  (∀ a x, ((![v152] : Fin 1 → IVec S16 32) a x).toNat < S64000.size a)
theorem k0_idx81_inb : ∀ (v152 : IVec S16 32) (k0_hw81 : k0_chk81 v152), ∀ a x, ((![v152] : Fin 1 → IVec S16 32) a x).toNat < S64000.size a := fun v152 k0_hw81 => k0_hw81
def k0_off85 (k0_t2 : Fin k0_t2_loop.trips) : Fin 2 → Nat :=
  let c16_i32_62 : BitVec 32 := 16#32
  let v155 : Index := Scalar.indexCast c16_i32_62
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_61 : BitVec 32 := 16#32
  let v154 : BitVec 32 := Scalar.muli v34 c16_i32_61
  let v156 : Index := Scalar.indexCast v154
  ![16, v156.toNat]

def k0_chk82 (v159 : IVec S16 32) : Prop :=
  (∀ a x, ((![v159] : Fin 1 → IVec S16 32) a x).toNat < S64000.size a)
theorem k0_idx82_inb : ∀ (v159 : IVec S16 32) (k0_hw82 : k0_chk82 v159), ∀ a x, ((![v159] : Fin 1 → IVec S16 32) a x).toNat < S64000.size a := fun v159 k0_hw82 => k0_hw82
def k0_off86 (k0_t2 : Fin k0_t2_loop.trips) : Fin 2 → Nat :=
  let c17_i32 : BitVec 32 := 17#32
  let v162 : Index := Scalar.indexCast c17_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_63 : BitVec 32 := 16#32
  let v161 : BitVec 32 := Scalar.muli v34 c16_i32_63
  let v163 : Index := Scalar.indexCast v161
  ![17, v163.toNat]

def k0_chk83 (v166 : IVec S16 32) : Prop :=
  (∀ a x, ((![v166] : Fin 1 → IVec S16 32) a x).toNat < S64000.size a)
theorem k0_idx83_inb : ∀ (v166 : IVec S16 32) (k0_hw83 : k0_chk83 v166), ∀ a x, ((![v166] : Fin 1 → IVec S16 32) a x).toNat < S64000.size a := fun v166 k0_hw83 => k0_hw83
def k0_off87 (k0_t2 : Fin k0_t2_loop.trips) : Fin 2 → Nat :=
  let c18_i32 : BitVec 32 := 18#32
  let v169 : Index := Scalar.indexCast c18_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_64 : BitVec 32 := 16#32
  let v168 : BitVec 32 := Scalar.muli v34 c16_i32_64
  let v170 : Index := Scalar.indexCast v168
  ![18, v170.toNat]

def k0_chk84 (v173 : IVec S16 32) : Prop :=
  (∀ a x, ((![v173] : Fin 1 → IVec S16 32) a x).toNat < S64000.size a)
theorem k0_idx84_inb : ∀ (v173 : IVec S16 32) (k0_hw84 : k0_chk84 v173), ∀ a x, ((![v173] : Fin 1 → IVec S16 32) a x).toNat < S64000.size a := fun v173 k0_hw84 => k0_hw84
def k0_off88 (k0_t2 : Fin k0_t2_loop.trips) : Fin 2 → Nat :=
  let c19_i32 : BitVec 32 := 19#32
  let v176 : Index := Scalar.indexCast c19_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_65 : BitVec 32 := 16#32
  let v175 : BitVec 32 := Scalar.muli v34 c16_i32_65
  let v177 : Index := Scalar.indexCast v175
  ![19, v177.toNat]

def k0_chk85 (v180 : IVec S16 32) : Prop :=
  (∀ a x, ((![v180] : Fin 1 → IVec S16 32) a x).toNat < S64000.size a)
theorem k0_idx85_inb : ∀ (v180 : IVec S16 32) (k0_hw85 : k0_chk85 v180), ∀ a x, ((![v180] : Fin 1 → IVec S16 32) a x).toNat < S64000.size a := fun v180 k0_hw85 => k0_hw85
def k0_off89 (k0_t2 : Fin k0_t2_loop.trips) : Fin 2 → Nat :=
  let c20_i32_67 : BitVec 32 := 20#32
  let v183 : Index := Scalar.indexCast c20_i32_67
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_66 : BitVec 32 := 16#32
  let v182 : BitVec 32 := Scalar.muli v34 c16_i32_66
  let v184 : Index := Scalar.indexCast v182
  ![20, v184.toNat]

def k0_chk86 (v187 : IVec S16 32) : Prop :=
  (∀ a x, ((![v187] : Fin 1 → IVec S16 32) a x).toNat < S64000.size a)
theorem k0_idx86_inb : ∀ (v187 : IVec S16 32) (k0_hw86 : k0_chk86 v187), ∀ a x, ((![v187] : Fin 1 → IVec S16 32) a x).toNat < S64000.size a := fun v187 k0_hw86 => k0_hw86
def k0_off90 (k0_t2 : Fin k0_t2_loop.trips) : Fin 2 → Nat :=
  let c21_i32 : BitVec 32 := 21#32
  let v190 : Index := Scalar.indexCast c21_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_68 : BitVec 32 := 16#32
  let v189 : BitVec 32 := Scalar.muli v34 c16_i32_68
  let v191 : Index := Scalar.indexCast v189
  ![21, v191.toNat]

def k0_chk87 (v194 : IVec S16 32) : Prop :=
  (∀ a x, ((![v194] : Fin 1 → IVec S16 32) a x).toNat < S64000.size a)
theorem k0_idx87_inb : ∀ (v194 : IVec S16 32) (k0_hw87 : k0_chk87 v194), ∀ a x, ((![v194] : Fin 1 → IVec S16 32) a x).toNat < S64000.size a := fun v194 k0_hw87 => k0_hw87
def k0_off91 (k0_t2 : Fin k0_t2_loop.trips) : Fin 2 → Nat :=
  let c22_i32 : BitVec 32 := 22#32
  let v197 : Index := Scalar.indexCast c22_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_69 : BitVec 32 := 16#32
  let v196 : BitVec 32 := Scalar.muli v34 c16_i32_69
  let v198 : Index := Scalar.indexCast v196
  ![22, v198.toNat]

def k0_chk88 (v201 : IVec S16 32) : Prop :=
  (∀ a x, ((![v201] : Fin 1 → IVec S16 32) a x).toNat < S64000.size a)
theorem k0_idx88_inb : ∀ (v201 : IVec S16 32) (k0_hw88 : k0_chk88 v201), ∀ a x, ((![v201] : Fin 1 → IVec S16 32) a x).toNat < S64000.size a := fun v201 k0_hw88 => k0_hw88
def k0_off92 (k0_t2 : Fin k0_t2_loop.trips) : Fin 2 → Nat :=
  let c23_i32 : BitVec 32 := 23#32
  let v204 : Index := Scalar.indexCast c23_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_70 : BitVec 32 := 16#32
  let v203 : BitVec 32 := Scalar.muli v34 c16_i32_70
  let v205 : Index := Scalar.indexCast v203
  ![23, v205.toNat]

def k0_chk89 (v208 : IVec S16 32) : Prop :=
  (∀ a x, ((![v208] : Fin 1 → IVec S16 32) a x).toNat < S64000.size a)
theorem k0_idx89_inb : ∀ (v208 : IVec S16 32) (k0_hw89 : k0_chk89 v208), ∀ a x, ((![v208] : Fin 1 → IVec S16 32) a x).toNat < S64000.size a := fun v208 k0_hw89 => k0_hw89
def k0_off93 (k0_t2 : Fin k0_t2_loop.trips) : Fin 2 → Nat :=
  let c24_i32 : BitVec 32 := 24#32
  let v211 : Index := Scalar.indexCast c24_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_71 : BitVec 32 := 16#32
  let v210 : BitVec 32 := Scalar.muli v34 c16_i32_71
  let v212 : Index := Scalar.indexCast v210
  ![24, v212.toNat]

def k0_chk90 (v215 : IVec S16 32) : Prop :=
  (∀ a x, ((![v215] : Fin 1 → IVec S16 32) a x).toNat < S64000.size a)
theorem k0_idx90_inb : ∀ (v215 : IVec S16 32) (k0_hw90 : k0_chk90 v215), ∀ a x, ((![v215] : Fin 1 → IVec S16 32) a x).toNat < S64000.size a := fun v215 k0_hw90 => k0_hw90
def k0_off94 (k0_t2 : Fin k0_t2_loop.trips) : Fin 2 → Nat :=
  let c25_i32 : BitVec 32 := 25#32
  let v218 : Index := Scalar.indexCast c25_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_72 : BitVec 32 := 16#32
  let v217 : BitVec 32 := Scalar.muli v34 c16_i32_72
  let v219 : Index := Scalar.indexCast v217
  ![25, v219.toNat]

def k0_chk91 (v222 : IVec S16 32) : Prop :=
  (∀ a x, ((![v222] : Fin 1 → IVec S16 32) a x).toNat < S64000.size a)
theorem k0_idx91_inb : ∀ (v222 : IVec S16 32) (k0_hw91 : k0_chk91 v222), ∀ a x, ((![v222] : Fin 1 → IVec S16 32) a x).toNat < S64000.size a := fun v222 k0_hw91 => k0_hw91
def k0_off95 (k0_t2 : Fin k0_t2_loop.trips) : Fin 2 → Nat :=
  let c26_i32 : BitVec 32 := 26#32
  let v225 : Index := Scalar.indexCast c26_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_73 : BitVec 32 := 16#32
  let v224 : BitVec 32 := Scalar.muli v34 c16_i32_73
  let v226 : Index := Scalar.indexCast v224
  ![26, v226.toNat]

def k0_chk92 (v229 : IVec S16 32) : Prop :=
  (∀ a x, ((![v229] : Fin 1 → IVec S16 32) a x).toNat < S64000.size a)
theorem k0_idx92_inb : ∀ (v229 : IVec S16 32) (k0_hw92 : k0_chk92 v229), ∀ a x, ((![v229] : Fin 1 → IVec S16 32) a x).toNat < S64000.size a := fun v229 k0_hw92 => k0_hw92
def k0_off96 (k0_t2 : Fin k0_t2_loop.trips) : Fin 2 → Nat :=
  let c27_i32 : BitVec 32 := 27#32
  let v232 : Index := Scalar.indexCast c27_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_74 : BitVec 32 := 16#32
  let v231 : BitVec 32 := Scalar.muli v34 c16_i32_74
  let v233 : Index := Scalar.indexCast v231
  ![27, v233.toNat]

def k0_chk93 (v236 : IVec S16 32) : Prop :=
  (∀ a x, ((![v236] : Fin 1 → IVec S16 32) a x).toNat < S64000.size a)
theorem k0_idx93_inb : ∀ (v236 : IVec S16 32) (k0_hw93 : k0_chk93 v236), ∀ a x, ((![v236] : Fin 1 → IVec S16 32) a x).toNat < S64000.size a := fun v236 k0_hw93 => k0_hw93
def k0_off97 (k0_t2 : Fin k0_t2_loop.trips) : Fin 2 → Nat :=
  let c28_i32 : BitVec 32 := 28#32
  let v239 : Index := Scalar.indexCast c28_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_75 : BitVec 32 := 16#32
  let v238 : BitVec 32 := Scalar.muli v34 c16_i32_75
  let v240 : Index := Scalar.indexCast v238
  ![28, v240.toNat]

def k0_chk94 (v243 : IVec S16 32) : Prop :=
  (∀ a x, ((![v243] : Fin 1 → IVec S16 32) a x).toNat < S64000.size a)
theorem k0_idx94_inb : ∀ (v243 : IVec S16 32) (k0_hw94 : k0_chk94 v243), ∀ a x, ((![v243] : Fin 1 → IVec S16 32) a x).toNat < S64000.size a := fun v243 k0_hw94 => k0_hw94
def k0_off98 (k0_t2 : Fin k0_t2_loop.trips) : Fin 2 → Nat :=
  let c29_i32 : BitVec 32 := 29#32
  let v246 : Index := Scalar.indexCast c29_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_76 : BitVec 32 := 16#32
  let v245 : BitVec 32 := Scalar.muli v34 c16_i32_76
  let v247 : Index := Scalar.indexCast v245
  ![29, v247.toNat]

def k0_chk95 (v250 : IVec S16 32) : Prop :=
  (∀ a x, ((![v250] : Fin 1 → IVec S16 32) a x).toNat < S64000.size a)
theorem k0_idx95_inb : ∀ (v250 : IVec S16 32) (k0_hw95 : k0_chk95 v250), ∀ a x, ((![v250] : Fin 1 → IVec S16 32) a x).toNat < S64000.size a := fun v250 k0_hw95 => k0_hw95
def k0_off99 (k0_t2 : Fin k0_t2_loop.trips) : Fin 2 → Nat :=
  let c30_i32 : BitVec 32 := 30#32
  let v253 : Index := Scalar.indexCast c30_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_77 : BitVec 32 := 16#32
  let v252 : BitVec 32 := Scalar.muli v34 c16_i32_77
  let v254 : Index := Scalar.indexCast v252
  ![30, v254.toNat]

def k0_chk96 (v257 : IVec S16 32) : Prop :=
  (∀ a x, ((![v257] : Fin 1 → IVec S16 32) a x).toNat < S64000.size a)
theorem k0_idx96_inb : ∀ (v257 : IVec S16 32) (k0_hw96 : k0_chk96 v257), ∀ a x, ((![v257] : Fin 1 → IVec S16 32) a x).toNat < S64000.size a := fun v257 k0_hw96 => k0_hw96
def k0_off100 (k0_t2 : Fin k0_t2_loop.trips) : Fin 2 → Nat :=
  let c31_i32 : BitVec 32 := 31#32
  let v260 : Index := Scalar.indexCast c31_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_78 : BitVec 32 := 16#32
  let v259 : BitVec 32 := Scalar.muli v34 c16_i32_78
  let v261 : Index := Scalar.indexCast v259
  ![31, v261.toNat]

def k0_chk97 (v264 : IVec S16 32) : Prop :=
  (∀ a x, ((![v264] : Fin 1 → IVec S16 32) a x).toNat < S64000.size a)
theorem k0_idx97_inb : ∀ (v264 : IVec S16 32) (k0_hw97 : k0_chk97 v264), ∀ a x, ((![v264] : Fin 1 → IVec S16 32) a x).toNat < S64000.size a := fun v264 k0_hw97 => k0_hw97
def k0_off101 (k0_t2 : Fin k0_t2_loop.trips) : Fin 2 → Nat :=
  let c32_i32 : BitVec 32 := 32#32
  let v267 : Index := Scalar.indexCast c32_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_79 : BitVec 32 := 16#32
  let v266 : BitVec 32 := Scalar.muli v34 c16_i32_79
  let v268 : Index := Scalar.indexCast v266
  ![32, v268.toNat]

def k0_chk98 (v271 : IVec S16 32) : Prop :=
  (∀ a x, ((![v271] : Fin 1 → IVec S16 32) a x).toNat < S64000.size a)
theorem k0_idx98_inb : ∀ (v271 : IVec S16 32) (k0_hw98 : k0_chk98 v271), ∀ a x, ((![v271] : Fin 1 → IVec S16 32) a x).toNat < S64000.size a := fun v271 k0_hw98 => k0_hw98
def k0_off102 (k0_t2 : Fin k0_t2_loop.trips) : Fin 2 → Nat :=
  let c33_i32 : BitVec 32 := 33#32
  let v274 : Index := Scalar.indexCast c33_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_80 : BitVec 32 := 16#32
  let v273 : BitVec 32 := Scalar.muli v34 c16_i32_80
  let v275 : Index := Scalar.indexCast v273
  ![33, v275.toNat]

def k0_chk99 (v278 : IVec S16 32) : Prop :=
  (∀ a x, ((![v278] : Fin 1 → IVec S16 32) a x).toNat < S64000.size a)
theorem k0_idx99_inb : ∀ (v278 : IVec S16 32) (k0_hw99 : k0_chk99 v278), ∀ a x, ((![v278] : Fin 1 → IVec S16 32) a x).toNat < S64000.size a := fun v278 k0_hw99 => k0_hw99
def k0_off103 (k0_t2 : Fin k0_t2_loop.trips) : Fin 2 → Nat :=
  let c34_i32 : BitVec 32 := 34#32
  let v281 : Index := Scalar.indexCast c34_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_81 : BitVec 32 := 16#32
  let v280 : BitVec 32 := Scalar.muli v34 c16_i32_81
  let v282 : Index := Scalar.indexCast v280
  ![34, v282.toNat]

def k0_chk100 (v285 : IVec S16 32) : Prop :=
  (∀ a x, ((![v285] : Fin 1 → IVec S16 32) a x).toNat < S64000.size a)
theorem k0_idx100_inb : ∀ (v285 : IVec S16 32) (k0_hw100 : k0_chk100 v285), ∀ a x, ((![v285] : Fin 1 → IVec S16 32) a x).toNat < S64000.size a := fun v285 k0_hw100 => k0_hw100
def k0_off104 (k0_t2 : Fin k0_t2_loop.trips) : Fin 2 → Nat :=
  let c35_i32 : BitVec 32 := 35#32
  let v288 : Index := Scalar.indexCast c35_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_82 : BitVec 32 := 16#32
  let v287 : BitVec 32 := Scalar.muli v34 c16_i32_82
  let v289 : Index := Scalar.indexCast v287
  ![35, v289.toNat]

def k0_chk101 (v292 : IVec S16 32) : Prop :=
  (∀ a x, ((![v292] : Fin 1 → IVec S16 32) a x).toNat < S64000.size a)
theorem k0_idx101_inb : ∀ (v292 : IVec S16 32) (k0_hw101 : k0_chk101 v292), ∀ a x, ((![v292] : Fin 1 → IVec S16 32) a x).toNat < S64000.size a := fun v292 k0_hw101 => k0_hw101
def k0_off105 (k0_t2 : Fin k0_t2_loop.trips) : Fin 2 → Nat :=
  let c36_i32 : BitVec 32 := 36#32
  let v295 : Index := Scalar.indexCast c36_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_83 : BitVec 32 := 16#32
  let v294 : BitVec 32 := Scalar.muli v34 c16_i32_83
  let v296 : Index := Scalar.indexCast v294
  ![36, v296.toNat]

def k0_chk102 (v299 : IVec S16 32) : Prop :=
  (∀ a x, ((![v299] : Fin 1 → IVec S16 32) a x).toNat < S64000.size a)
theorem k0_idx102_inb : ∀ (v299 : IVec S16 32) (k0_hw102 : k0_chk102 v299), ∀ a x, ((![v299] : Fin 1 → IVec S16 32) a x).toNat < S64000.size a := fun v299 k0_hw102 => k0_hw102
def k0_off106 (k0_t2 : Fin k0_t2_loop.trips) : Fin 2 → Nat :=
  let c37_i32 : BitVec 32 := 37#32
  let v302 : Index := Scalar.indexCast c37_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_84 : BitVec 32 := 16#32
  let v301 : BitVec 32 := Scalar.muli v34 c16_i32_84
  let v303 : Index := Scalar.indexCast v301
  ![37, v303.toNat]

def k0_chk103 (v306 : IVec S16 32) : Prop :=
  (∀ a x, ((![v306] : Fin 1 → IVec S16 32) a x).toNat < S64000.size a)
theorem k0_idx103_inb : ∀ (v306 : IVec S16 32) (k0_hw103 : k0_chk103 v306), ∀ a x, ((![v306] : Fin 1 → IVec S16 32) a x).toNat < S64000.size a := fun v306 k0_hw103 => k0_hw103
def k0_off107 (k0_t2 : Fin k0_t2_loop.trips) : Fin 2 → Nat :=
  let c38_i32 : BitVec 32 := 38#32
  let v309 : Index := Scalar.indexCast c38_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_85 : BitVec 32 := 16#32
  let v308 : BitVec 32 := Scalar.muli v34 c16_i32_85
  let v310 : Index := Scalar.indexCast v308
  ![38, v310.toNat]

def k0_chk104 (v313 : IVec S16 32) : Prop :=
  (∀ a x, ((![v313] : Fin 1 → IVec S16 32) a x).toNat < S64000.size a)
theorem k0_idx104_inb : ∀ (v313 : IVec S16 32) (k0_hw104 : k0_chk104 v313), ∀ a x, ((![v313] : Fin 1 → IVec S16 32) a x).toNat < S64000.size a := fun v313 k0_hw104 => k0_hw104
def k0_off108 (k0_t2 : Fin k0_t2_loop.trips) : Fin 2 → Nat :=
  let c39_i32 : BitVec 32 := 39#32
  let v316 : Index := Scalar.indexCast c39_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_86 : BitVec 32 := 16#32
  let v315 : BitVec 32 := Scalar.muli v34 c16_i32_86
  let v317 : Index := Scalar.indexCast v315
  ![39, v317.toNat]

def k0_chk105 (v320 : IVec S16 32) : Prop :=
  (∀ a x, ((![v320] : Fin 1 → IVec S16 32) a x).toNat < S64000.size a)
theorem k0_idx105_inb : ∀ (v320 : IVec S16 32) (k0_hw105 : k0_chk105 v320), ∀ a x, ((![v320] : Fin 1 → IVec S16 32) a x).toNat < S64000.size a := fun v320 k0_hw105 => k0_hw105
def k0_off109 (k0_t2 : Fin k0_t2_loop.trips) : Fin 2 → Nat :=
  let c40_i32 : BitVec 32 := 40#32
  let v323 : Index := Scalar.indexCast c40_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_87 : BitVec 32 := 16#32
  let v322 : BitVec 32 := Scalar.muli v34 c16_i32_87
  let v324 : Index := Scalar.indexCast v322
  ![40, v324.toNat]

def k0_chk106 (v327 : IVec S16 32) : Prop :=
  (∀ a x, ((![v327] : Fin 1 → IVec S16 32) a x).toNat < S64000.size a)
theorem k0_idx106_inb : ∀ (v327 : IVec S16 32) (k0_hw106 : k0_chk106 v327), ∀ a x, ((![v327] : Fin 1 → IVec S16 32) a x).toNat < S64000.size a := fun v327 k0_hw106 => k0_hw106
def k0_off110 (k0_t2 : Fin k0_t2_loop.trips) : Fin 2 → Nat :=
  let c41_i32 : BitVec 32 := 41#32
  let v330 : Index := Scalar.indexCast c41_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_88 : BitVec 32 := 16#32
  let v329 : BitVec 32 := Scalar.muli v34 c16_i32_88
  let v331 : Index := Scalar.indexCast v329
  ![41, v331.toNat]

def k0_chk107 (v334 : IVec S16 32) : Prop :=
  (∀ a x, ((![v334] : Fin 1 → IVec S16 32) a x).toNat < S64000.size a)
theorem k0_idx107_inb : ∀ (v334 : IVec S16 32) (k0_hw107 : k0_chk107 v334), ∀ a x, ((![v334] : Fin 1 → IVec S16 32) a x).toNat < S64000.size a := fun v334 k0_hw107 => k0_hw107
def k0_off111 (k0_t2 : Fin k0_t2_loop.trips) : Fin 2 → Nat :=
  let c42_i32 : BitVec 32 := 42#32
  let v337 : Index := Scalar.indexCast c42_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_89 : BitVec 32 := 16#32
  let v336 : BitVec 32 := Scalar.muli v34 c16_i32_89
  let v338 : Index := Scalar.indexCast v336
  ![42, v338.toNat]

def k0_chk108 (v341 : IVec S16 32) : Prop :=
  (∀ a x, ((![v341] : Fin 1 → IVec S16 32) a x).toNat < S64000.size a)
theorem k0_idx108_inb : ∀ (v341 : IVec S16 32) (k0_hw108 : k0_chk108 v341), ∀ a x, ((![v341] : Fin 1 → IVec S16 32) a x).toNat < S64000.size a := fun v341 k0_hw108 => k0_hw108
def k0_off112 (k0_t2 : Fin k0_t2_loop.trips) : Fin 2 → Nat :=
  let c43_i32 : BitVec 32 := 43#32
  let v344 : Index := Scalar.indexCast c43_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_90 : BitVec 32 := 16#32
  let v343 : BitVec 32 := Scalar.muli v34 c16_i32_90
  let v345 : Index := Scalar.indexCast v343
  ![43, v345.toNat]

def k0_chk109 (v348 : IVec S16 32) : Prop :=
  (∀ a x, ((![v348] : Fin 1 → IVec S16 32) a x).toNat < S64000.size a)
theorem k0_idx109_inb : ∀ (v348 : IVec S16 32) (k0_hw109 : k0_chk109 v348), ∀ a x, ((![v348] : Fin 1 → IVec S16 32) a x).toNat < S64000.size a := fun v348 k0_hw109 => k0_hw109
def k0_off113 (k0_t2 : Fin k0_t2_loop.trips) : Fin 2 → Nat :=
  let c44_i32 : BitVec 32 := 44#32
  let v351 : Index := Scalar.indexCast c44_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_91 : BitVec 32 := 16#32
  let v350 : BitVec 32 := Scalar.muli v34 c16_i32_91
  let v352 : Index := Scalar.indexCast v350
  ![44, v352.toNat]

def k0_chk110 (v355 : IVec S16 32) : Prop :=
  (∀ a x, ((![v355] : Fin 1 → IVec S16 32) a x).toNat < S64000.size a)
theorem k0_idx110_inb : ∀ (v355 : IVec S16 32) (k0_hw110 : k0_chk110 v355), ∀ a x, ((![v355] : Fin 1 → IVec S16 32) a x).toNat < S64000.size a := fun v355 k0_hw110 => k0_hw110
def k0_off114 (k0_t2 : Fin k0_t2_loop.trips) : Fin 2 → Nat :=
  let c45_i32 : BitVec 32 := 45#32
  let v358 : Index := Scalar.indexCast c45_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_92 : BitVec 32 := 16#32
  let v357 : BitVec 32 := Scalar.muli v34 c16_i32_92
  let v359 : Index := Scalar.indexCast v357
  ![45, v359.toNat]

def k0_chk111 (v362 : IVec S16 32) : Prop :=
  (∀ a x, ((![v362] : Fin 1 → IVec S16 32) a x).toNat < S64000.size a)
theorem k0_idx111_inb : ∀ (v362 : IVec S16 32) (k0_hw111 : k0_chk111 v362), ∀ a x, ((![v362] : Fin 1 → IVec S16 32) a x).toNat < S64000.size a := fun v362 k0_hw111 => k0_hw111
def k0_off115 (k0_t2 : Fin k0_t2_loop.trips) : Fin 2 → Nat :=
  let c46_i32 : BitVec 32 := 46#32
  let v365 : Index := Scalar.indexCast c46_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_93 : BitVec 32 := 16#32
  let v364 : BitVec 32 := Scalar.muli v34 c16_i32_93
  let v366 : Index := Scalar.indexCast v364
  ![46, v366.toNat]

def k0_chk112 (v369 : IVec S16 32) : Prop :=
  (∀ a x, ((![v369] : Fin 1 → IVec S16 32) a x).toNat < S64000.size a)
theorem k0_idx112_inb : ∀ (v369 : IVec S16 32) (k0_hw112 : k0_chk112 v369), ∀ a x, ((![v369] : Fin 1 → IVec S16 32) a x).toNat < S64000.size a := fun v369 k0_hw112 => k0_hw112
def k0_off116 (k0_t2 : Fin k0_t2_loop.trips) : Fin 2 → Nat :=
  let c47_i32 : BitVec 32 := 47#32
  let v372 : Index := Scalar.indexCast c47_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_94 : BitVec 32 := 16#32
  let v371 : BitVec 32 := Scalar.muli v34 c16_i32_94
  let v373 : Index := Scalar.indexCast v371
  ![47, v373.toNat]

def k0_chk113 (v376 : IVec S16 32) : Prop :=
  (∀ a x, ((![v376] : Fin 1 → IVec S16 32) a x).toNat < S64000.size a)
theorem k0_idx113_inb : ∀ (v376 : IVec S16 32) (k0_hw113 : k0_chk113 v376), ∀ a x, ((![v376] : Fin 1 → IVec S16 32) a x).toNat < S64000.size a := fun v376 k0_hw113 => k0_hw113
def k0_off117 (k0_t2 : Fin k0_t2_loop.trips) : Fin 2 → Nat :=
  let c48_i32 : BitVec 32 := 48#32
  let v379 : Index := Scalar.indexCast c48_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_95 : BitVec 32 := 16#32
  let v378 : BitVec 32 := Scalar.muli v34 c16_i32_95
  let v380 : Index := Scalar.indexCast v378
  ![48, v380.toNat]

def k0_chk114 (v383 : IVec S16 32) : Prop :=
  (∀ a x, ((![v383] : Fin 1 → IVec S16 32) a x).toNat < S64000.size a)
theorem k0_idx114_inb : ∀ (v383 : IVec S16 32) (k0_hw114 : k0_chk114 v383), ∀ a x, ((![v383] : Fin 1 → IVec S16 32) a x).toNat < S64000.size a := fun v383 k0_hw114 => k0_hw114
def k0_off118 (k0_t2 : Fin k0_t2_loop.trips) : Fin 2 → Nat :=
  let c49_i32 : BitVec 32 := 49#32
  let v386 : Index := Scalar.indexCast c49_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_96 : BitVec 32 := 16#32
  let v385 : BitVec 32 := Scalar.muli v34 c16_i32_96
  let v387 : Index := Scalar.indexCast v385
  ![49, v387.toNat]

def k0_chk115 (v390 : IVec S16 32) : Prop :=
  (∀ a x, ((![v390] : Fin 1 → IVec S16 32) a x).toNat < S64000.size a)
theorem k0_idx115_inb : ∀ (v390 : IVec S16 32) (k0_hw115 : k0_chk115 v390), ∀ a x, ((![v390] : Fin 1 → IVec S16 32) a x).toNat < S64000.size a := fun v390 k0_hw115 => k0_hw115
def k0_off119 (k0_t2 : Fin k0_t2_loop.trips) : Fin 2 → Nat :=
  let c50_i32 : BitVec 32 := 50#32
  let v393 : Index := Scalar.indexCast c50_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_97 : BitVec 32 := 16#32
  let v392 : BitVec 32 := Scalar.muli v34 c16_i32_97
  let v394 : Index := Scalar.indexCast v392
  ![50, v394.toNat]

def k0_chk116 (v397 : IVec S16 32) : Prop :=
  (∀ a x, ((![v397] : Fin 1 → IVec S16 32) a x).toNat < S64000.size a)
theorem k0_idx116_inb : ∀ (v397 : IVec S16 32) (k0_hw116 : k0_chk116 v397), ∀ a x, ((![v397] : Fin 1 → IVec S16 32) a x).toNat < S64000.size a := fun v397 k0_hw116 => k0_hw116
def k0_off120 (k0_t2 : Fin k0_t2_loop.trips) : Fin 2 → Nat :=
  let c51_i32 : BitVec 32 := 51#32
  let v400 : Index := Scalar.indexCast c51_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_98 : BitVec 32 := 16#32
  let v399 : BitVec 32 := Scalar.muli v34 c16_i32_98
  let v401 : Index := Scalar.indexCast v399
  ![51, v401.toNat]

def k0_chk117 (v404 : IVec S16 32) : Prop :=
  (∀ a x, ((![v404] : Fin 1 → IVec S16 32) a x).toNat < S64000.size a)
theorem k0_idx117_inb : ∀ (v404 : IVec S16 32) (k0_hw117 : k0_chk117 v404), ∀ a x, ((![v404] : Fin 1 → IVec S16 32) a x).toNat < S64000.size a := fun v404 k0_hw117 => k0_hw117
def k0_off121 (k0_t2 : Fin k0_t2_loop.trips) : Fin 2 → Nat :=
  let c52_i32 : BitVec 32 := 52#32
  let v407 : Index := Scalar.indexCast c52_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_99 : BitVec 32 := 16#32
  let v406 : BitVec 32 := Scalar.muli v34 c16_i32_99
  let v408 : Index := Scalar.indexCast v406
  ![52, v408.toNat]

def k0_chk118 (v411 : IVec S16 32) : Prop :=
  (∀ a x, ((![v411] : Fin 1 → IVec S16 32) a x).toNat < S64000.size a)
theorem k0_idx118_inb : ∀ (v411 : IVec S16 32) (k0_hw118 : k0_chk118 v411), ∀ a x, ((![v411] : Fin 1 → IVec S16 32) a x).toNat < S64000.size a := fun v411 k0_hw118 => k0_hw118
def k0_off122 (k0_t2 : Fin k0_t2_loop.trips) : Fin 2 → Nat :=
  let c53_i32 : BitVec 32 := 53#32
  let v414 : Index := Scalar.indexCast c53_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_100 : BitVec 32 := 16#32
  let v413 : BitVec 32 := Scalar.muli v34 c16_i32_100
  let v415 : Index := Scalar.indexCast v413
  ![53, v415.toNat]

def k0_chk119 (v418 : IVec S16 32) : Prop :=
  (∀ a x, ((![v418] : Fin 1 → IVec S16 32) a x).toNat < S64000.size a)
theorem k0_idx119_inb : ∀ (v418 : IVec S16 32) (k0_hw119 : k0_chk119 v418), ∀ a x, ((![v418] : Fin 1 → IVec S16 32) a x).toNat < S64000.size a := fun v418 k0_hw119 => k0_hw119
def k0_off123 (k0_t2 : Fin k0_t2_loop.trips) : Fin 2 → Nat :=
  let c54_i32 : BitVec 32 := 54#32
  let v421 : Index := Scalar.indexCast c54_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_101 : BitVec 32 := 16#32
  let v420 : BitVec 32 := Scalar.muli v34 c16_i32_101
  let v422 : Index := Scalar.indexCast v420
  ![54, v422.toNat]

def k0_chk120 (v425 : IVec S16 32) : Prop :=
  (∀ a x, ((![v425] : Fin 1 → IVec S16 32) a x).toNat < S64000.size a)
theorem k0_idx120_inb : ∀ (v425 : IVec S16 32) (k0_hw120 : k0_chk120 v425), ∀ a x, ((![v425] : Fin 1 → IVec S16 32) a x).toNat < S64000.size a := fun v425 k0_hw120 => k0_hw120
def k0_off124 (k0_t2 : Fin k0_t2_loop.trips) : Fin 2 → Nat :=
  let c55_i32 : BitVec 32 := 55#32
  let v428 : Index := Scalar.indexCast c55_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_102 : BitVec 32 := 16#32
  let v427 : BitVec 32 := Scalar.muli v34 c16_i32_102
  let v429 : Index := Scalar.indexCast v427
  ![55, v429.toNat]

def k0_chk121 (v432 : IVec S16 32) : Prop :=
  (∀ a x, ((![v432] : Fin 1 → IVec S16 32) a x).toNat < S64000.size a)
theorem k0_idx121_inb : ∀ (v432 : IVec S16 32) (k0_hw121 : k0_chk121 v432), ∀ a x, ((![v432] : Fin 1 → IVec S16 32) a x).toNat < S64000.size a := fun v432 k0_hw121 => k0_hw121
def k0_off125 (k0_t2 : Fin k0_t2_loop.trips) : Fin 2 → Nat :=
  let c56_i32 : BitVec 32 := 56#32
  let v435 : Index := Scalar.indexCast c56_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_103 : BitVec 32 := 16#32
  let v434 : BitVec 32 := Scalar.muli v34 c16_i32_103
  let v436 : Index := Scalar.indexCast v434
  ![56, v436.toNat]

def k0_chk122 (v439 : IVec S16 32) : Prop :=
  (∀ a x, ((![v439] : Fin 1 → IVec S16 32) a x).toNat < S64000.size a)
theorem k0_idx122_inb : ∀ (v439 : IVec S16 32) (k0_hw122 : k0_chk122 v439), ∀ a x, ((![v439] : Fin 1 → IVec S16 32) a x).toNat < S64000.size a := fun v439 k0_hw122 => k0_hw122
def k0_off126 (k0_t2 : Fin k0_t2_loop.trips) : Fin 2 → Nat :=
  let c57_i32 : BitVec 32 := 57#32
  let v442 : Index := Scalar.indexCast c57_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_104 : BitVec 32 := 16#32
  let v441 : BitVec 32 := Scalar.muli v34 c16_i32_104
  let v443 : Index := Scalar.indexCast v441
  ![57, v443.toNat]

def k0_chk123 (v446 : IVec S16 32) : Prop :=
  (∀ a x, ((![v446] : Fin 1 → IVec S16 32) a x).toNat < S64000.size a)
theorem k0_idx123_inb : ∀ (v446 : IVec S16 32) (k0_hw123 : k0_chk123 v446), ∀ a x, ((![v446] : Fin 1 → IVec S16 32) a x).toNat < S64000.size a := fun v446 k0_hw123 => k0_hw123
def k0_off127 (k0_t2 : Fin k0_t2_loop.trips) : Fin 2 → Nat :=
  let c58_i32 : BitVec 32 := 58#32
  let v449 : Index := Scalar.indexCast c58_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_105 : BitVec 32 := 16#32
  let v448 : BitVec 32 := Scalar.muli v34 c16_i32_105
  let v450 : Index := Scalar.indexCast v448
  ![58, v450.toNat]

def k0_chk124 (v453 : IVec S16 32) : Prop :=
  (∀ a x, ((![v453] : Fin 1 → IVec S16 32) a x).toNat < S64000.size a)
theorem k0_idx124_inb : ∀ (v453 : IVec S16 32) (k0_hw124 : k0_chk124 v453), ∀ a x, ((![v453] : Fin 1 → IVec S16 32) a x).toNat < S64000.size a := fun v453 k0_hw124 => k0_hw124
def k0_off128 (k0_t2 : Fin k0_t2_loop.trips) : Fin 2 → Nat :=
  let c59_i32 : BitVec 32 := 59#32
  let v456 : Index := Scalar.indexCast c59_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_106 : BitVec 32 := 16#32
  let v455 : BitVec 32 := Scalar.muli v34 c16_i32_106
  let v457 : Index := Scalar.indexCast v455
  ![59, v457.toNat]

def k0_chk125 (v460 : IVec S16 32) : Prop :=
  (∀ a x, ((![v460] : Fin 1 → IVec S16 32) a x).toNat < S64000.size a)
theorem k0_idx125_inb : ∀ (v460 : IVec S16 32) (k0_hw125 : k0_chk125 v460), ∀ a x, ((![v460] : Fin 1 → IVec S16 32) a x).toNat < S64000.size a := fun v460 k0_hw125 => k0_hw125
def k0_off129 (k0_t2 : Fin k0_t2_loop.trips) : Fin 2 → Nat :=
  let c60_i32 : BitVec 32 := 60#32
  let v463 : Index := Scalar.indexCast c60_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_107 : BitVec 32 := 16#32
  let v462 : BitVec 32 := Scalar.muli v34 c16_i32_107
  let v464 : Index := Scalar.indexCast v462
  ![60, v464.toNat]

def k0_chk126 (v467 : IVec S16 32) : Prop :=
  (∀ a x, ((![v467] : Fin 1 → IVec S16 32) a x).toNat < S64000.size a)
theorem k0_idx126_inb : ∀ (v467 : IVec S16 32) (k0_hw126 : k0_chk126 v467), ∀ a x, ((![v467] : Fin 1 → IVec S16 32) a x).toNat < S64000.size a := fun v467 k0_hw126 => k0_hw126
def k0_off130 (k0_t2 : Fin k0_t2_loop.trips) : Fin 2 → Nat :=
  let c61_i32 : BitVec 32 := 61#32
  let v470 : Index := Scalar.indexCast c61_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_108 : BitVec 32 := 16#32
  let v469 : BitVec 32 := Scalar.muli v34 c16_i32_108
  let v471 : Index := Scalar.indexCast v469
  ![61, v471.toNat]

def k0_chk127 (v474 : IVec S16 32) : Prop :=
  (∀ a x, ((![v474] : Fin 1 → IVec S16 32) a x).toNat < S64000.size a)
theorem k0_idx127_inb : ∀ (v474 : IVec S16 32) (k0_hw127 : k0_chk127 v474), ∀ a x, ((![v474] : Fin 1 → IVec S16 32) a x).toNat < S64000.size a := fun v474 k0_hw127 => k0_hw127
def k0_off131 (k0_t2 : Fin k0_t2_loop.trips) : Fin 2 → Nat :=
  let c62_i32 : BitVec 32 := 62#32
  let v477 : Index := Scalar.indexCast c62_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_109 : BitVec 32 := 16#32
  let v476 : BitVec 32 := Scalar.muli v34 c16_i32_109
  let v478 : Index := Scalar.indexCast v476
  ![62, v478.toNat]

def k0_chk128 (v481 : IVec S16 32) : Prop :=
  (∀ a x, ((![v481] : Fin 1 → IVec S16 32) a x).toNat < S64000.size a)
theorem k0_idx128_inb : ∀ (v481 : IVec S16 32) (k0_hw128 : k0_chk128 v481), ∀ a x, ((![v481] : Fin 1 → IVec S16 32) a x).toNat < S64000.size a := fun v481 k0_hw128 => k0_hw128
def k0_off132 (k0_t2 : Fin k0_t2_loop.trips) : Fin 2 → Nat :=
  let c63_i32 : BitVec 32 := 63#32
  let v484 : Index := Scalar.indexCast c63_i32
  let c0_i32_39 : BitVec 32 := 0#32
  let c0_i32_4 : BitVec 32 := 0#32
  let c1_i32_6 : BitVec 32 := 1#32
  let arg12 : BitVec 32 := Scf.iv c0_i32_4 c1_i32_6 k0_t2
  let c1_i32_38 : BitVec 32 := 1#32
  let v33 : BitVec 32 := Scalar.muli arg12 c1_i32_38
  let v34 : BitVec 32 := Scalar.addi c0_i32_39 v33
  let c16_i32_110 : BitVec 32 := 16#32
  let v483 : BitVec 32 := Scalar.muli v34 c16_i32_110
  let v485 : Index := Scalar.indexCast v483
  ![63, v485.toNat]
@[reducible] def k0_t3_loop : Scf.Loop 32 :=
  let c0_i32_12 : BitVec 32 := 0#32
  let c20_i32_13 : BitVec 32 := 20#32
  let v13 : BitVec 32 := Scalar.addi c0_i32_12 c20_i32_13
  let c1_i32_14 : BitVec 32 := 1#32
  ⟨c0_i32_12, v13, c1_i32_14⟩
def k0_off133 (k0_t3 : Fin k0_t3_loop.trips) : Fin 1 → Nat :=
  let c640_i32_40 : BitVec 32 := 640#32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32 : BitVec 32 := 16#32
  let v35 : BitVec 32 := Scalar.muli v34 c16_i32
  let v36 : BitVec 32 := Scalar.addi c640_i32_40 v35
  let v37 : Index := Scalar.indexCast v36
  ![v37.toNat]

def k0_chk129 (v40 : IVec S16 32) : Prop :=
  (∀ a x, ((![v40] : Fin 1 → IVec S16 32) a x).toNat < S64000.size a)
theorem k0_idx129_inb : ∀ (v40 : IVec S16 32) (k0_hw129 : k0_chk129 v40), ∀ a x, ((![v40] : Fin 1 → IVec S16 32) a x).toNat < S64000.size a := fun v40 k0_hw129 => k0_hw129
def k0_off134 (k0_t3 : Fin k0_t3_loop.trips) : Fin 2 → Nat :=
  let c0_i32_43 : BitVec 32 := 0#32
  let v43 : Index := Scalar.indexCast c0_i32_43
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_42 : BitVec 32 := 16#32
  let v42 : BitVec 32 := Scalar.muli v34 c16_i32_42
  let v44 : Index := Scalar.indexCast v42
  ![0, v44.toNat]

def k0_chk130 (v47 : IVec S16 32) : Prop :=
  (∀ a x, ((![v47] : Fin 1 → IVec S16 32) a x).toNat < S64000.size a)
theorem k0_idx130_inb : ∀ (v47 : IVec S16 32) (k0_hw130 : k0_chk130 v47), ∀ a x, ((![v47] : Fin 1 → IVec S16 32) a x).toNat < S64000.size a := fun v47 k0_hw130 => k0_hw130
def k0_off135 (k0_t3 : Fin k0_t3_loop.trips) : Fin 2 → Nat :=
  let c1_i32_45 : BitVec 32 := 1#32
  let v50 : Index := Scalar.indexCast c1_i32_45
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_44 : BitVec 32 := 16#32
  let v49 : BitVec 32 := Scalar.muli v34 c16_i32_44
  let v51 : Index := Scalar.indexCast v49
  ![1, v51.toNat]

def k0_chk131 (v54 : IVec S16 32) : Prop :=
  (∀ a x, ((![v54] : Fin 1 → IVec S16 32) a x).toNat < S64000.size a)
theorem k0_idx131_inb : ∀ (v54 : IVec S16 32) (k0_hw131 : k0_chk131 v54), ∀ a x, ((![v54] : Fin 1 → IVec S16 32) a x).toNat < S64000.size a := fun v54 k0_hw131 => k0_hw131
def k0_off136 (k0_t3 : Fin k0_t3_loop.trips) : Fin 2 → Nat :=
  let c2_i32_47 : BitVec 32 := 2#32
  let v57 : Index := Scalar.indexCast c2_i32_47
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_46 : BitVec 32 := 16#32
  let v56 : BitVec 32 := Scalar.muli v34 c16_i32_46
  let v58 : Index := Scalar.indexCast v56
  ![2, v58.toNat]

def k0_chk132 (v61 : IVec S16 32) : Prop :=
  (∀ a x, ((![v61] : Fin 1 → IVec S16 32) a x).toNat < S64000.size a)
theorem k0_idx132_inb : ∀ (v61 : IVec S16 32) (k0_hw132 : k0_chk132 v61), ∀ a x, ((![v61] : Fin 1 → IVec S16 32) a x).toNat < S64000.size a := fun v61 k0_hw132 => k0_hw132
def k0_off137 (k0_t3 : Fin k0_t3_loop.trips) : Fin 2 → Nat :=
  let c3_i32 : BitVec 32 := 3#32
  let v64 : Index := Scalar.indexCast c3_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_48 : BitVec 32 := 16#32
  let v63 : BitVec 32 := Scalar.muli v34 c16_i32_48
  let v65 : Index := Scalar.indexCast v63
  ![3, v65.toNat]

def k0_chk133 (v68 : IVec S16 32) : Prop :=
  (∀ a x, ((![v68] : Fin 1 → IVec S16 32) a x).toNat < S64000.size a)
theorem k0_idx133_inb : ∀ (v68 : IVec S16 32) (k0_hw133 : k0_chk133 v68), ∀ a x, ((![v68] : Fin 1 → IVec S16 32) a x).toNat < S64000.size a := fun v68 k0_hw133 => k0_hw133
def k0_off138 (k0_t3 : Fin k0_t3_loop.trips) : Fin 2 → Nat :=
  let c4_i32 : BitVec 32 := 4#32
  let v71 : Index := Scalar.indexCast c4_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_49 : BitVec 32 := 16#32
  let v70 : BitVec 32 := Scalar.muli v34 c16_i32_49
  let v72 : Index := Scalar.indexCast v70
  ![4, v72.toNat]

def k0_chk134 (v75 : IVec S16 32) : Prop :=
  (∀ a x, ((![v75] : Fin 1 → IVec S16 32) a x).toNat < S64000.size a)
theorem k0_idx134_inb : ∀ (v75 : IVec S16 32) (k0_hw134 : k0_chk134 v75), ∀ a x, ((![v75] : Fin 1 → IVec S16 32) a x).toNat < S64000.size a := fun v75 k0_hw134 => k0_hw134
def k0_off139 (k0_t3 : Fin k0_t3_loop.trips) : Fin 2 → Nat :=
  let c5_i32 : BitVec 32 := 5#32
  let v78 : Index := Scalar.indexCast c5_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_50 : BitVec 32 := 16#32
  let v77 : BitVec 32 := Scalar.muli v34 c16_i32_50
  let v79 : Index := Scalar.indexCast v77
  ![5, v79.toNat]

def k0_chk135 (v82 : IVec S16 32) : Prop :=
  (∀ a x, ((![v82] : Fin 1 → IVec S16 32) a x).toNat < S64000.size a)
theorem k0_idx135_inb : ∀ (v82 : IVec S16 32) (k0_hw135 : k0_chk135 v82), ∀ a x, ((![v82] : Fin 1 → IVec S16 32) a x).toNat < S64000.size a := fun v82 k0_hw135 => k0_hw135
def k0_off140 (k0_t3 : Fin k0_t3_loop.trips) : Fin 2 → Nat :=
  let c6_i32 : BitVec 32 := 6#32
  let v85 : Index := Scalar.indexCast c6_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_51 : BitVec 32 := 16#32
  let v84 : BitVec 32 := Scalar.muli v34 c16_i32_51
  let v86 : Index := Scalar.indexCast v84
  ![6, v86.toNat]

def k0_chk136 (v89 : IVec S16 32) : Prop :=
  (∀ a x, ((![v89] : Fin 1 → IVec S16 32) a x).toNat < S64000.size a)
theorem k0_idx136_inb : ∀ (v89 : IVec S16 32) (k0_hw136 : k0_chk136 v89), ∀ a x, ((![v89] : Fin 1 → IVec S16 32) a x).toNat < S64000.size a := fun v89 k0_hw136 => k0_hw136
def k0_off141 (k0_t3 : Fin k0_t3_loop.trips) : Fin 2 → Nat :=
  let c7_i32 : BitVec 32 := 7#32
  let v92 : Index := Scalar.indexCast c7_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_52 : BitVec 32 := 16#32
  let v91 : BitVec 32 := Scalar.muli v34 c16_i32_52
  let v93 : Index := Scalar.indexCast v91
  ![7, v93.toNat]

def k0_chk137 (v96 : IVec S16 32) : Prop :=
  (∀ a x, ((![v96] : Fin 1 → IVec S16 32) a x).toNat < S64000.size a)
theorem k0_idx137_inb : ∀ (v96 : IVec S16 32) (k0_hw137 : k0_chk137 v96), ∀ a x, ((![v96] : Fin 1 → IVec S16 32) a x).toNat < S64000.size a := fun v96 k0_hw137 => k0_hw137
def k0_off142 (k0_t3 : Fin k0_t3_loop.trips) : Fin 2 → Nat :=
  let c8_i32 : BitVec 32 := 8#32
  let v99 : Index := Scalar.indexCast c8_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_53 : BitVec 32 := 16#32
  let v98 : BitVec 32 := Scalar.muli v34 c16_i32_53
  let v100 : Index := Scalar.indexCast v98
  ![8, v100.toNat]

def k0_chk138 (v103 : IVec S16 32) : Prop :=
  (∀ a x, ((![v103] : Fin 1 → IVec S16 32) a x).toNat < S64000.size a)
theorem k0_idx138_inb : ∀ (v103 : IVec S16 32) (k0_hw138 : k0_chk138 v103), ∀ a x, ((![v103] : Fin 1 → IVec S16 32) a x).toNat < S64000.size a := fun v103 k0_hw138 => k0_hw138
def k0_off143 (k0_t3 : Fin k0_t3_loop.trips) : Fin 2 → Nat :=
  let c9_i32 : BitVec 32 := 9#32
  let v106 : Index := Scalar.indexCast c9_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_54 : BitVec 32 := 16#32
  let v105 : BitVec 32 := Scalar.muli v34 c16_i32_54
  let v107 : Index := Scalar.indexCast v105
  ![9, v107.toNat]

def k0_chk139 (v110 : IVec S16 32) : Prop :=
  (∀ a x, ((![v110] : Fin 1 → IVec S16 32) a x).toNat < S64000.size a)
theorem k0_idx139_inb : ∀ (v110 : IVec S16 32) (k0_hw139 : k0_chk139 v110), ∀ a x, ((![v110] : Fin 1 → IVec S16 32) a x).toNat < S64000.size a := fun v110 k0_hw139 => k0_hw139
def k0_off144 (k0_t3 : Fin k0_t3_loop.trips) : Fin 2 → Nat :=
  let c10_i32 : BitVec 32 := 10#32
  let v113 : Index := Scalar.indexCast c10_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_55 : BitVec 32 := 16#32
  let v112 : BitVec 32 := Scalar.muli v34 c16_i32_55
  let v114 : Index := Scalar.indexCast v112
  ![10, v114.toNat]

def k0_chk140 (v117 : IVec S16 32) : Prop :=
  (∀ a x, ((![v117] : Fin 1 → IVec S16 32) a x).toNat < S64000.size a)
theorem k0_idx140_inb : ∀ (v117 : IVec S16 32) (k0_hw140 : k0_chk140 v117), ∀ a x, ((![v117] : Fin 1 → IVec S16 32) a x).toNat < S64000.size a := fun v117 k0_hw140 => k0_hw140
def k0_off145 (k0_t3 : Fin k0_t3_loop.trips) : Fin 2 → Nat :=
  let c11_i32 : BitVec 32 := 11#32
  let v120 : Index := Scalar.indexCast c11_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_56 : BitVec 32 := 16#32
  let v119 : BitVec 32 := Scalar.muli v34 c16_i32_56
  let v121 : Index := Scalar.indexCast v119
  ![11, v121.toNat]

def k0_chk141 (v124 : IVec S16 32) : Prop :=
  (∀ a x, ((![v124] : Fin 1 → IVec S16 32) a x).toNat < S64000.size a)
theorem k0_idx141_inb : ∀ (v124 : IVec S16 32) (k0_hw141 : k0_chk141 v124), ∀ a x, ((![v124] : Fin 1 → IVec S16 32) a x).toNat < S64000.size a := fun v124 k0_hw141 => k0_hw141
def k0_off146 (k0_t3 : Fin k0_t3_loop.trips) : Fin 2 → Nat :=
  let c12_i32 : BitVec 32 := 12#32
  let v127 : Index := Scalar.indexCast c12_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_57 : BitVec 32 := 16#32
  let v126 : BitVec 32 := Scalar.muli v34 c16_i32_57
  let v128 : Index := Scalar.indexCast v126
  ![12, v128.toNat]

def k0_chk142 (v131 : IVec S16 32) : Prop :=
  (∀ a x, ((![v131] : Fin 1 → IVec S16 32) a x).toNat < S64000.size a)
theorem k0_idx142_inb : ∀ (v131 : IVec S16 32) (k0_hw142 : k0_chk142 v131), ∀ a x, ((![v131] : Fin 1 → IVec S16 32) a x).toNat < S64000.size a := fun v131 k0_hw142 => k0_hw142
def k0_off147 (k0_t3 : Fin k0_t3_loop.trips) : Fin 2 → Nat :=
  let c13_i32 : BitVec 32 := 13#32
  let v134 : Index := Scalar.indexCast c13_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_58 : BitVec 32 := 16#32
  let v133 : BitVec 32 := Scalar.muli v34 c16_i32_58
  let v135 : Index := Scalar.indexCast v133
  ![13, v135.toNat]

def k0_chk143 (v138 : IVec S16 32) : Prop :=
  (∀ a x, ((![v138] : Fin 1 → IVec S16 32) a x).toNat < S64000.size a)
theorem k0_idx143_inb : ∀ (v138 : IVec S16 32) (k0_hw143 : k0_chk143 v138), ∀ a x, ((![v138] : Fin 1 → IVec S16 32) a x).toNat < S64000.size a := fun v138 k0_hw143 => k0_hw143
def k0_off148 (k0_t3 : Fin k0_t3_loop.trips) : Fin 2 → Nat :=
  let c14_i32 : BitVec 32 := 14#32
  let v141 : Index := Scalar.indexCast c14_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_59 : BitVec 32 := 16#32
  let v140 : BitVec 32 := Scalar.muli v34 c16_i32_59
  let v142 : Index := Scalar.indexCast v140
  ![14, v142.toNat]

def k0_chk144 (v145 : IVec S16 32) : Prop :=
  (∀ a x, ((![v145] : Fin 1 → IVec S16 32) a x).toNat < S64000.size a)
theorem k0_idx144_inb : ∀ (v145 : IVec S16 32) (k0_hw144 : k0_chk144 v145), ∀ a x, ((![v145] : Fin 1 → IVec S16 32) a x).toNat < S64000.size a := fun v145 k0_hw144 => k0_hw144
def k0_off149 (k0_t3 : Fin k0_t3_loop.trips) : Fin 2 → Nat :=
  let c15_i32 : BitVec 32 := 15#32
  let v148 : Index := Scalar.indexCast c15_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_60 : BitVec 32 := 16#32
  let v147 : BitVec 32 := Scalar.muli v34 c16_i32_60
  let v149 : Index := Scalar.indexCast v147
  ![15, v149.toNat]

def k0_chk145 (v152 : IVec S16 32) : Prop :=
  (∀ a x, ((![v152] : Fin 1 → IVec S16 32) a x).toNat < S64000.size a)
theorem k0_idx145_inb : ∀ (v152 : IVec S16 32) (k0_hw145 : k0_chk145 v152), ∀ a x, ((![v152] : Fin 1 → IVec S16 32) a x).toNat < S64000.size a := fun v152 k0_hw145 => k0_hw145
def k0_off150 (k0_t3 : Fin k0_t3_loop.trips) : Fin 2 → Nat :=
  let c16_i32_62 : BitVec 32 := 16#32
  let v155 : Index := Scalar.indexCast c16_i32_62
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_61 : BitVec 32 := 16#32
  let v154 : BitVec 32 := Scalar.muli v34 c16_i32_61
  let v156 : Index := Scalar.indexCast v154
  ![16, v156.toNat]

def k0_chk146 (v159 : IVec S16 32) : Prop :=
  (∀ a x, ((![v159] : Fin 1 → IVec S16 32) a x).toNat < S64000.size a)
theorem k0_idx146_inb : ∀ (v159 : IVec S16 32) (k0_hw146 : k0_chk146 v159), ∀ a x, ((![v159] : Fin 1 → IVec S16 32) a x).toNat < S64000.size a := fun v159 k0_hw146 => k0_hw146
def k0_off151 (k0_t3 : Fin k0_t3_loop.trips) : Fin 2 → Nat :=
  let c17_i32 : BitVec 32 := 17#32
  let v162 : Index := Scalar.indexCast c17_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_63 : BitVec 32 := 16#32
  let v161 : BitVec 32 := Scalar.muli v34 c16_i32_63
  let v163 : Index := Scalar.indexCast v161
  ![17, v163.toNat]

def k0_chk147 (v166 : IVec S16 32) : Prop :=
  (∀ a x, ((![v166] : Fin 1 → IVec S16 32) a x).toNat < S64000.size a)
theorem k0_idx147_inb : ∀ (v166 : IVec S16 32) (k0_hw147 : k0_chk147 v166), ∀ a x, ((![v166] : Fin 1 → IVec S16 32) a x).toNat < S64000.size a := fun v166 k0_hw147 => k0_hw147
def k0_off152 (k0_t3 : Fin k0_t3_loop.trips) : Fin 2 → Nat :=
  let c18_i32 : BitVec 32 := 18#32
  let v169 : Index := Scalar.indexCast c18_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_64 : BitVec 32 := 16#32
  let v168 : BitVec 32 := Scalar.muli v34 c16_i32_64
  let v170 : Index := Scalar.indexCast v168
  ![18, v170.toNat]

def k0_chk148 (v173 : IVec S16 32) : Prop :=
  (∀ a x, ((![v173] : Fin 1 → IVec S16 32) a x).toNat < S64000.size a)
theorem k0_idx148_inb : ∀ (v173 : IVec S16 32) (k0_hw148 : k0_chk148 v173), ∀ a x, ((![v173] : Fin 1 → IVec S16 32) a x).toNat < S64000.size a := fun v173 k0_hw148 => k0_hw148
def k0_off153 (k0_t3 : Fin k0_t3_loop.trips) : Fin 2 → Nat :=
  let c19_i32 : BitVec 32 := 19#32
  let v176 : Index := Scalar.indexCast c19_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_65 : BitVec 32 := 16#32
  let v175 : BitVec 32 := Scalar.muli v34 c16_i32_65
  let v177 : Index := Scalar.indexCast v175
  ![19, v177.toNat]

def k0_chk149 (v180 : IVec S16 32) : Prop :=
  (∀ a x, ((![v180] : Fin 1 → IVec S16 32) a x).toNat < S64000.size a)
theorem k0_idx149_inb : ∀ (v180 : IVec S16 32) (k0_hw149 : k0_chk149 v180), ∀ a x, ((![v180] : Fin 1 → IVec S16 32) a x).toNat < S64000.size a := fun v180 k0_hw149 => k0_hw149
def k0_off154 (k0_t3 : Fin k0_t3_loop.trips) : Fin 2 → Nat :=
  let c20_i32_67 : BitVec 32 := 20#32
  let v183 : Index := Scalar.indexCast c20_i32_67
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_66 : BitVec 32 := 16#32
  let v182 : BitVec 32 := Scalar.muli v34 c16_i32_66
  let v184 : Index := Scalar.indexCast v182
  ![20, v184.toNat]

def k0_chk150 (v187 : IVec S16 32) : Prop :=
  (∀ a x, ((![v187] : Fin 1 → IVec S16 32) a x).toNat < S64000.size a)
theorem k0_idx150_inb : ∀ (v187 : IVec S16 32) (k0_hw150 : k0_chk150 v187), ∀ a x, ((![v187] : Fin 1 → IVec S16 32) a x).toNat < S64000.size a := fun v187 k0_hw150 => k0_hw150
def k0_off155 (k0_t3 : Fin k0_t3_loop.trips) : Fin 2 → Nat :=
  let c21_i32 : BitVec 32 := 21#32
  let v190 : Index := Scalar.indexCast c21_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_68 : BitVec 32 := 16#32
  let v189 : BitVec 32 := Scalar.muli v34 c16_i32_68
  let v191 : Index := Scalar.indexCast v189
  ![21, v191.toNat]

def k0_chk151 (v194 : IVec S16 32) : Prop :=
  (∀ a x, ((![v194] : Fin 1 → IVec S16 32) a x).toNat < S64000.size a)
theorem k0_idx151_inb : ∀ (v194 : IVec S16 32) (k0_hw151 : k0_chk151 v194), ∀ a x, ((![v194] : Fin 1 → IVec S16 32) a x).toNat < S64000.size a := fun v194 k0_hw151 => k0_hw151
def k0_off156 (k0_t3 : Fin k0_t3_loop.trips) : Fin 2 → Nat :=
  let c22_i32 : BitVec 32 := 22#32
  let v197 : Index := Scalar.indexCast c22_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_69 : BitVec 32 := 16#32
  let v196 : BitVec 32 := Scalar.muli v34 c16_i32_69
  let v198 : Index := Scalar.indexCast v196
  ![22, v198.toNat]

def k0_chk152 (v201 : IVec S16 32) : Prop :=
  (∀ a x, ((![v201] : Fin 1 → IVec S16 32) a x).toNat < S64000.size a)
theorem k0_idx152_inb : ∀ (v201 : IVec S16 32) (k0_hw152 : k0_chk152 v201), ∀ a x, ((![v201] : Fin 1 → IVec S16 32) a x).toNat < S64000.size a := fun v201 k0_hw152 => k0_hw152
def k0_off157 (k0_t3 : Fin k0_t3_loop.trips) : Fin 2 → Nat :=
  let c23_i32 : BitVec 32 := 23#32
  let v204 : Index := Scalar.indexCast c23_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_70 : BitVec 32 := 16#32
  let v203 : BitVec 32 := Scalar.muli v34 c16_i32_70
  let v205 : Index := Scalar.indexCast v203
  ![23, v205.toNat]

def k0_chk153 (v208 : IVec S16 32) : Prop :=
  (∀ a x, ((![v208] : Fin 1 → IVec S16 32) a x).toNat < S64000.size a)
theorem k0_idx153_inb : ∀ (v208 : IVec S16 32) (k0_hw153 : k0_chk153 v208), ∀ a x, ((![v208] : Fin 1 → IVec S16 32) a x).toNat < S64000.size a := fun v208 k0_hw153 => k0_hw153
def k0_off158 (k0_t3 : Fin k0_t3_loop.trips) : Fin 2 → Nat :=
  let c24_i32 : BitVec 32 := 24#32
  let v211 : Index := Scalar.indexCast c24_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_71 : BitVec 32 := 16#32
  let v210 : BitVec 32 := Scalar.muli v34 c16_i32_71
  let v212 : Index := Scalar.indexCast v210
  ![24, v212.toNat]

def k0_chk154 (v215 : IVec S16 32) : Prop :=
  (∀ a x, ((![v215] : Fin 1 → IVec S16 32) a x).toNat < S64000.size a)
theorem k0_idx154_inb : ∀ (v215 : IVec S16 32) (k0_hw154 : k0_chk154 v215), ∀ a x, ((![v215] : Fin 1 → IVec S16 32) a x).toNat < S64000.size a := fun v215 k0_hw154 => k0_hw154
def k0_off159 (k0_t3 : Fin k0_t3_loop.trips) : Fin 2 → Nat :=
  let c25_i32 : BitVec 32 := 25#32
  let v218 : Index := Scalar.indexCast c25_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_72 : BitVec 32 := 16#32
  let v217 : BitVec 32 := Scalar.muli v34 c16_i32_72
  let v219 : Index := Scalar.indexCast v217
  ![25, v219.toNat]

def k0_chk155 (v222 : IVec S16 32) : Prop :=
  (∀ a x, ((![v222] : Fin 1 → IVec S16 32) a x).toNat < S64000.size a)
theorem k0_idx155_inb : ∀ (v222 : IVec S16 32) (k0_hw155 : k0_chk155 v222), ∀ a x, ((![v222] : Fin 1 → IVec S16 32) a x).toNat < S64000.size a := fun v222 k0_hw155 => k0_hw155
def k0_off160 (k0_t3 : Fin k0_t3_loop.trips) : Fin 2 → Nat :=
  let c26_i32 : BitVec 32 := 26#32
  let v225 : Index := Scalar.indexCast c26_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_73 : BitVec 32 := 16#32
  let v224 : BitVec 32 := Scalar.muli v34 c16_i32_73
  let v226 : Index := Scalar.indexCast v224
  ![26, v226.toNat]

def k0_chk156 (v229 : IVec S16 32) : Prop :=
  (∀ a x, ((![v229] : Fin 1 → IVec S16 32) a x).toNat < S64000.size a)
theorem k0_idx156_inb : ∀ (v229 : IVec S16 32) (k0_hw156 : k0_chk156 v229), ∀ a x, ((![v229] : Fin 1 → IVec S16 32) a x).toNat < S64000.size a := fun v229 k0_hw156 => k0_hw156
def k0_off161 (k0_t3 : Fin k0_t3_loop.trips) : Fin 2 → Nat :=
  let c27_i32 : BitVec 32 := 27#32
  let v232 : Index := Scalar.indexCast c27_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_74 : BitVec 32 := 16#32
  let v231 : BitVec 32 := Scalar.muli v34 c16_i32_74
  let v233 : Index := Scalar.indexCast v231
  ![27, v233.toNat]

def k0_chk157 (v236 : IVec S16 32) : Prop :=
  (∀ a x, ((![v236] : Fin 1 → IVec S16 32) a x).toNat < S64000.size a)
theorem k0_idx157_inb : ∀ (v236 : IVec S16 32) (k0_hw157 : k0_chk157 v236), ∀ a x, ((![v236] : Fin 1 → IVec S16 32) a x).toNat < S64000.size a := fun v236 k0_hw157 => k0_hw157
def k0_off162 (k0_t3 : Fin k0_t3_loop.trips) : Fin 2 → Nat :=
  let c28_i32 : BitVec 32 := 28#32
  let v239 : Index := Scalar.indexCast c28_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_75 : BitVec 32 := 16#32
  let v238 : BitVec 32 := Scalar.muli v34 c16_i32_75
  let v240 : Index := Scalar.indexCast v238
  ![28, v240.toNat]

def k0_chk158 (v243 : IVec S16 32) : Prop :=
  (∀ a x, ((![v243] : Fin 1 → IVec S16 32) a x).toNat < S64000.size a)
theorem k0_idx158_inb : ∀ (v243 : IVec S16 32) (k0_hw158 : k0_chk158 v243), ∀ a x, ((![v243] : Fin 1 → IVec S16 32) a x).toNat < S64000.size a := fun v243 k0_hw158 => k0_hw158
def k0_off163 (k0_t3 : Fin k0_t3_loop.trips) : Fin 2 → Nat :=
  let c29_i32 : BitVec 32 := 29#32
  let v246 : Index := Scalar.indexCast c29_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_76 : BitVec 32 := 16#32
  let v245 : BitVec 32 := Scalar.muli v34 c16_i32_76
  let v247 : Index := Scalar.indexCast v245
  ![29, v247.toNat]

def k0_chk159 (v250 : IVec S16 32) : Prop :=
  (∀ a x, ((![v250] : Fin 1 → IVec S16 32) a x).toNat < S64000.size a)
theorem k0_idx159_inb : ∀ (v250 : IVec S16 32) (k0_hw159 : k0_chk159 v250), ∀ a x, ((![v250] : Fin 1 → IVec S16 32) a x).toNat < S64000.size a := fun v250 k0_hw159 => k0_hw159
def k0_off164 (k0_t3 : Fin k0_t3_loop.trips) : Fin 2 → Nat :=
  let c30_i32 : BitVec 32 := 30#32
  let v253 : Index := Scalar.indexCast c30_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_77 : BitVec 32 := 16#32
  let v252 : BitVec 32 := Scalar.muli v34 c16_i32_77
  let v254 : Index := Scalar.indexCast v252
  ![30, v254.toNat]

def k0_chk160 (v257 : IVec S16 32) : Prop :=
  (∀ a x, ((![v257] : Fin 1 → IVec S16 32) a x).toNat < S64000.size a)
theorem k0_idx160_inb : ∀ (v257 : IVec S16 32) (k0_hw160 : k0_chk160 v257), ∀ a x, ((![v257] : Fin 1 → IVec S16 32) a x).toNat < S64000.size a := fun v257 k0_hw160 => k0_hw160
def k0_off165 (k0_t3 : Fin k0_t3_loop.trips) : Fin 2 → Nat :=
  let c31_i32 : BitVec 32 := 31#32
  let v260 : Index := Scalar.indexCast c31_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_78 : BitVec 32 := 16#32
  let v259 : BitVec 32 := Scalar.muli v34 c16_i32_78
  let v261 : Index := Scalar.indexCast v259
  ![31, v261.toNat]

def k0_chk161 (v264 : IVec S16 32) : Prop :=
  (∀ a x, ((![v264] : Fin 1 → IVec S16 32) a x).toNat < S64000.size a)
theorem k0_idx161_inb : ∀ (v264 : IVec S16 32) (k0_hw161 : k0_chk161 v264), ∀ a x, ((![v264] : Fin 1 → IVec S16 32) a x).toNat < S64000.size a := fun v264 k0_hw161 => k0_hw161
def k0_off166 (k0_t3 : Fin k0_t3_loop.trips) : Fin 2 → Nat :=
  let c32_i32 : BitVec 32 := 32#32
  let v267 : Index := Scalar.indexCast c32_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_79 : BitVec 32 := 16#32
  let v266 : BitVec 32 := Scalar.muli v34 c16_i32_79
  let v268 : Index := Scalar.indexCast v266
  ![32, v268.toNat]

def k0_chk162 (v271 : IVec S16 32) : Prop :=
  (∀ a x, ((![v271] : Fin 1 → IVec S16 32) a x).toNat < S64000.size a)
theorem k0_idx162_inb : ∀ (v271 : IVec S16 32) (k0_hw162 : k0_chk162 v271), ∀ a x, ((![v271] : Fin 1 → IVec S16 32) a x).toNat < S64000.size a := fun v271 k0_hw162 => k0_hw162
def k0_off167 (k0_t3 : Fin k0_t3_loop.trips) : Fin 2 → Nat :=
  let c33_i32 : BitVec 32 := 33#32
  let v274 : Index := Scalar.indexCast c33_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_80 : BitVec 32 := 16#32
  let v273 : BitVec 32 := Scalar.muli v34 c16_i32_80
  let v275 : Index := Scalar.indexCast v273
  ![33, v275.toNat]

def k0_chk163 (v278 : IVec S16 32) : Prop :=
  (∀ a x, ((![v278] : Fin 1 → IVec S16 32) a x).toNat < S64000.size a)
theorem k0_idx163_inb : ∀ (v278 : IVec S16 32) (k0_hw163 : k0_chk163 v278), ∀ a x, ((![v278] : Fin 1 → IVec S16 32) a x).toNat < S64000.size a := fun v278 k0_hw163 => k0_hw163
def k0_off168 (k0_t3 : Fin k0_t3_loop.trips) : Fin 2 → Nat :=
  let c34_i32 : BitVec 32 := 34#32
  let v281 : Index := Scalar.indexCast c34_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_81 : BitVec 32 := 16#32
  let v280 : BitVec 32 := Scalar.muli v34 c16_i32_81
  let v282 : Index := Scalar.indexCast v280
  ![34, v282.toNat]

def k0_chk164 (v285 : IVec S16 32) : Prop :=
  (∀ a x, ((![v285] : Fin 1 → IVec S16 32) a x).toNat < S64000.size a)
theorem k0_idx164_inb : ∀ (v285 : IVec S16 32) (k0_hw164 : k0_chk164 v285), ∀ a x, ((![v285] : Fin 1 → IVec S16 32) a x).toNat < S64000.size a := fun v285 k0_hw164 => k0_hw164
def k0_off169 (k0_t3 : Fin k0_t3_loop.trips) : Fin 2 → Nat :=
  let c35_i32 : BitVec 32 := 35#32
  let v288 : Index := Scalar.indexCast c35_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_82 : BitVec 32 := 16#32
  let v287 : BitVec 32 := Scalar.muli v34 c16_i32_82
  let v289 : Index := Scalar.indexCast v287
  ![35, v289.toNat]

def k0_chk165 (v292 : IVec S16 32) : Prop :=
  (∀ a x, ((![v292] : Fin 1 → IVec S16 32) a x).toNat < S64000.size a)
theorem k0_idx165_inb : ∀ (v292 : IVec S16 32) (k0_hw165 : k0_chk165 v292), ∀ a x, ((![v292] : Fin 1 → IVec S16 32) a x).toNat < S64000.size a := fun v292 k0_hw165 => k0_hw165
def k0_off170 (k0_t3 : Fin k0_t3_loop.trips) : Fin 2 → Nat :=
  let c36_i32 : BitVec 32 := 36#32
  let v295 : Index := Scalar.indexCast c36_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_83 : BitVec 32 := 16#32
  let v294 : BitVec 32 := Scalar.muli v34 c16_i32_83
  let v296 : Index := Scalar.indexCast v294
  ![36, v296.toNat]

def k0_chk166 (v299 : IVec S16 32) : Prop :=
  (∀ a x, ((![v299] : Fin 1 → IVec S16 32) a x).toNat < S64000.size a)
theorem k0_idx166_inb : ∀ (v299 : IVec S16 32) (k0_hw166 : k0_chk166 v299), ∀ a x, ((![v299] : Fin 1 → IVec S16 32) a x).toNat < S64000.size a := fun v299 k0_hw166 => k0_hw166
def k0_off171 (k0_t3 : Fin k0_t3_loop.trips) : Fin 2 → Nat :=
  let c37_i32 : BitVec 32 := 37#32
  let v302 : Index := Scalar.indexCast c37_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_84 : BitVec 32 := 16#32
  let v301 : BitVec 32 := Scalar.muli v34 c16_i32_84
  let v303 : Index := Scalar.indexCast v301
  ![37, v303.toNat]

def k0_chk167 (v306 : IVec S16 32) : Prop :=
  (∀ a x, ((![v306] : Fin 1 → IVec S16 32) a x).toNat < S64000.size a)
theorem k0_idx167_inb : ∀ (v306 : IVec S16 32) (k0_hw167 : k0_chk167 v306), ∀ a x, ((![v306] : Fin 1 → IVec S16 32) a x).toNat < S64000.size a := fun v306 k0_hw167 => k0_hw167
def k0_off172 (k0_t3 : Fin k0_t3_loop.trips) : Fin 2 → Nat :=
  let c38_i32 : BitVec 32 := 38#32
  let v309 : Index := Scalar.indexCast c38_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_85 : BitVec 32 := 16#32
  let v308 : BitVec 32 := Scalar.muli v34 c16_i32_85
  let v310 : Index := Scalar.indexCast v308
  ![38, v310.toNat]

def k0_chk168 (v313 : IVec S16 32) : Prop :=
  (∀ a x, ((![v313] : Fin 1 → IVec S16 32) a x).toNat < S64000.size a)
theorem k0_idx168_inb : ∀ (v313 : IVec S16 32) (k0_hw168 : k0_chk168 v313), ∀ a x, ((![v313] : Fin 1 → IVec S16 32) a x).toNat < S64000.size a := fun v313 k0_hw168 => k0_hw168
def k0_off173 (k0_t3 : Fin k0_t3_loop.trips) : Fin 2 → Nat :=
  let c39_i32 : BitVec 32 := 39#32
  let v316 : Index := Scalar.indexCast c39_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_86 : BitVec 32 := 16#32
  let v315 : BitVec 32 := Scalar.muli v34 c16_i32_86
  let v317 : Index := Scalar.indexCast v315
  ![39, v317.toNat]

def k0_chk169 (v320 : IVec S16 32) : Prop :=
  (∀ a x, ((![v320] : Fin 1 → IVec S16 32) a x).toNat < S64000.size a)
theorem k0_idx169_inb : ∀ (v320 : IVec S16 32) (k0_hw169 : k0_chk169 v320), ∀ a x, ((![v320] : Fin 1 → IVec S16 32) a x).toNat < S64000.size a := fun v320 k0_hw169 => k0_hw169
def k0_off174 (k0_t3 : Fin k0_t3_loop.trips) : Fin 2 → Nat :=
  let c40_i32 : BitVec 32 := 40#32
  let v323 : Index := Scalar.indexCast c40_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_87 : BitVec 32 := 16#32
  let v322 : BitVec 32 := Scalar.muli v34 c16_i32_87
  let v324 : Index := Scalar.indexCast v322
  ![40, v324.toNat]

def k0_chk170 (v327 : IVec S16 32) : Prop :=
  (∀ a x, ((![v327] : Fin 1 → IVec S16 32) a x).toNat < S64000.size a)
theorem k0_idx170_inb : ∀ (v327 : IVec S16 32) (k0_hw170 : k0_chk170 v327), ∀ a x, ((![v327] : Fin 1 → IVec S16 32) a x).toNat < S64000.size a := fun v327 k0_hw170 => k0_hw170
def k0_off175 (k0_t3 : Fin k0_t3_loop.trips) : Fin 2 → Nat :=
  let c41_i32 : BitVec 32 := 41#32
  let v330 : Index := Scalar.indexCast c41_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_88 : BitVec 32 := 16#32
  let v329 : BitVec 32 := Scalar.muli v34 c16_i32_88
  let v331 : Index := Scalar.indexCast v329
  ![41, v331.toNat]

def k0_chk171 (v334 : IVec S16 32) : Prop :=
  (∀ a x, ((![v334] : Fin 1 → IVec S16 32) a x).toNat < S64000.size a)
theorem k0_idx171_inb : ∀ (v334 : IVec S16 32) (k0_hw171 : k0_chk171 v334), ∀ a x, ((![v334] : Fin 1 → IVec S16 32) a x).toNat < S64000.size a := fun v334 k0_hw171 => k0_hw171
def k0_off176 (k0_t3 : Fin k0_t3_loop.trips) : Fin 2 → Nat :=
  let c42_i32 : BitVec 32 := 42#32
  let v337 : Index := Scalar.indexCast c42_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_89 : BitVec 32 := 16#32
  let v336 : BitVec 32 := Scalar.muli v34 c16_i32_89
  let v338 : Index := Scalar.indexCast v336
  ![42, v338.toNat]

def k0_chk172 (v341 : IVec S16 32) : Prop :=
  (∀ a x, ((![v341] : Fin 1 → IVec S16 32) a x).toNat < S64000.size a)
theorem k0_idx172_inb : ∀ (v341 : IVec S16 32) (k0_hw172 : k0_chk172 v341), ∀ a x, ((![v341] : Fin 1 → IVec S16 32) a x).toNat < S64000.size a := fun v341 k0_hw172 => k0_hw172
def k0_off177 (k0_t3 : Fin k0_t3_loop.trips) : Fin 2 → Nat :=
  let c43_i32 : BitVec 32 := 43#32
  let v344 : Index := Scalar.indexCast c43_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_90 : BitVec 32 := 16#32
  let v343 : BitVec 32 := Scalar.muli v34 c16_i32_90
  let v345 : Index := Scalar.indexCast v343
  ![43, v345.toNat]

def k0_chk173 (v348 : IVec S16 32) : Prop :=
  (∀ a x, ((![v348] : Fin 1 → IVec S16 32) a x).toNat < S64000.size a)
theorem k0_idx173_inb : ∀ (v348 : IVec S16 32) (k0_hw173 : k0_chk173 v348), ∀ a x, ((![v348] : Fin 1 → IVec S16 32) a x).toNat < S64000.size a := fun v348 k0_hw173 => k0_hw173
def k0_off178 (k0_t3 : Fin k0_t3_loop.trips) : Fin 2 → Nat :=
  let c44_i32 : BitVec 32 := 44#32
  let v351 : Index := Scalar.indexCast c44_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_91 : BitVec 32 := 16#32
  let v350 : BitVec 32 := Scalar.muli v34 c16_i32_91
  let v352 : Index := Scalar.indexCast v350
  ![44, v352.toNat]

def k0_chk174 (v355 : IVec S16 32) : Prop :=
  (∀ a x, ((![v355] : Fin 1 → IVec S16 32) a x).toNat < S64000.size a)
theorem k0_idx174_inb : ∀ (v355 : IVec S16 32) (k0_hw174 : k0_chk174 v355), ∀ a x, ((![v355] : Fin 1 → IVec S16 32) a x).toNat < S64000.size a := fun v355 k0_hw174 => k0_hw174
def k0_off179 (k0_t3 : Fin k0_t3_loop.trips) : Fin 2 → Nat :=
  let c45_i32 : BitVec 32 := 45#32
  let v358 : Index := Scalar.indexCast c45_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_92 : BitVec 32 := 16#32
  let v357 : BitVec 32 := Scalar.muli v34 c16_i32_92
  let v359 : Index := Scalar.indexCast v357
  ![45, v359.toNat]

def k0_chk175 (v362 : IVec S16 32) : Prop :=
  (∀ a x, ((![v362] : Fin 1 → IVec S16 32) a x).toNat < S64000.size a)
theorem k0_idx175_inb : ∀ (v362 : IVec S16 32) (k0_hw175 : k0_chk175 v362), ∀ a x, ((![v362] : Fin 1 → IVec S16 32) a x).toNat < S64000.size a := fun v362 k0_hw175 => k0_hw175
def k0_off180 (k0_t3 : Fin k0_t3_loop.trips) : Fin 2 → Nat :=
  let c46_i32 : BitVec 32 := 46#32
  let v365 : Index := Scalar.indexCast c46_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_93 : BitVec 32 := 16#32
  let v364 : BitVec 32 := Scalar.muli v34 c16_i32_93
  let v366 : Index := Scalar.indexCast v364
  ![46, v366.toNat]

def k0_chk176 (v369 : IVec S16 32) : Prop :=
  (∀ a x, ((![v369] : Fin 1 → IVec S16 32) a x).toNat < S64000.size a)
theorem k0_idx176_inb : ∀ (v369 : IVec S16 32) (k0_hw176 : k0_chk176 v369), ∀ a x, ((![v369] : Fin 1 → IVec S16 32) a x).toNat < S64000.size a := fun v369 k0_hw176 => k0_hw176
def k0_off181 (k0_t3 : Fin k0_t3_loop.trips) : Fin 2 → Nat :=
  let c47_i32 : BitVec 32 := 47#32
  let v372 : Index := Scalar.indexCast c47_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_94 : BitVec 32 := 16#32
  let v371 : BitVec 32 := Scalar.muli v34 c16_i32_94
  let v373 : Index := Scalar.indexCast v371
  ![47, v373.toNat]

def k0_chk177 (v376 : IVec S16 32) : Prop :=
  (∀ a x, ((![v376] : Fin 1 → IVec S16 32) a x).toNat < S64000.size a)
theorem k0_idx177_inb : ∀ (v376 : IVec S16 32) (k0_hw177 : k0_chk177 v376), ∀ a x, ((![v376] : Fin 1 → IVec S16 32) a x).toNat < S64000.size a := fun v376 k0_hw177 => k0_hw177
def k0_off182 (k0_t3 : Fin k0_t3_loop.trips) : Fin 2 → Nat :=
  let c48_i32 : BitVec 32 := 48#32
  let v379 : Index := Scalar.indexCast c48_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_95 : BitVec 32 := 16#32
  let v378 : BitVec 32 := Scalar.muli v34 c16_i32_95
  let v380 : Index := Scalar.indexCast v378
  ![48, v380.toNat]

def k0_chk178 (v383 : IVec S16 32) : Prop :=
  (∀ a x, ((![v383] : Fin 1 → IVec S16 32) a x).toNat < S64000.size a)
theorem k0_idx178_inb : ∀ (v383 : IVec S16 32) (k0_hw178 : k0_chk178 v383), ∀ a x, ((![v383] : Fin 1 → IVec S16 32) a x).toNat < S64000.size a := fun v383 k0_hw178 => k0_hw178
def k0_off183 (k0_t3 : Fin k0_t3_loop.trips) : Fin 2 → Nat :=
  let c49_i32 : BitVec 32 := 49#32
  let v386 : Index := Scalar.indexCast c49_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_96 : BitVec 32 := 16#32
  let v385 : BitVec 32 := Scalar.muli v34 c16_i32_96
  let v387 : Index := Scalar.indexCast v385
  ![49, v387.toNat]

def k0_chk179 (v390 : IVec S16 32) : Prop :=
  (∀ a x, ((![v390] : Fin 1 → IVec S16 32) a x).toNat < S64000.size a)
theorem k0_idx179_inb : ∀ (v390 : IVec S16 32) (k0_hw179 : k0_chk179 v390), ∀ a x, ((![v390] : Fin 1 → IVec S16 32) a x).toNat < S64000.size a := fun v390 k0_hw179 => k0_hw179
def k0_off184 (k0_t3 : Fin k0_t3_loop.trips) : Fin 2 → Nat :=
  let c50_i32 : BitVec 32 := 50#32
  let v393 : Index := Scalar.indexCast c50_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_97 : BitVec 32 := 16#32
  let v392 : BitVec 32 := Scalar.muli v34 c16_i32_97
  let v394 : Index := Scalar.indexCast v392
  ![50, v394.toNat]

def k0_chk180 (v397 : IVec S16 32) : Prop :=
  (∀ a x, ((![v397] : Fin 1 → IVec S16 32) a x).toNat < S64000.size a)
theorem k0_idx180_inb : ∀ (v397 : IVec S16 32) (k0_hw180 : k0_chk180 v397), ∀ a x, ((![v397] : Fin 1 → IVec S16 32) a x).toNat < S64000.size a := fun v397 k0_hw180 => k0_hw180
def k0_off185 (k0_t3 : Fin k0_t3_loop.trips) : Fin 2 → Nat :=
  let c51_i32 : BitVec 32 := 51#32
  let v400 : Index := Scalar.indexCast c51_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_98 : BitVec 32 := 16#32
  let v399 : BitVec 32 := Scalar.muli v34 c16_i32_98
  let v401 : Index := Scalar.indexCast v399
  ![51, v401.toNat]

def k0_chk181 (v404 : IVec S16 32) : Prop :=
  (∀ a x, ((![v404] : Fin 1 → IVec S16 32) a x).toNat < S64000.size a)
theorem k0_idx181_inb : ∀ (v404 : IVec S16 32) (k0_hw181 : k0_chk181 v404), ∀ a x, ((![v404] : Fin 1 → IVec S16 32) a x).toNat < S64000.size a := fun v404 k0_hw181 => k0_hw181
def k0_off186 (k0_t3 : Fin k0_t3_loop.trips) : Fin 2 → Nat :=
  let c52_i32 : BitVec 32 := 52#32
  let v407 : Index := Scalar.indexCast c52_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_99 : BitVec 32 := 16#32
  let v406 : BitVec 32 := Scalar.muli v34 c16_i32_99
  let v408 : Index := Scalar.indexCast v406
  ![52, v408.toNat]

def k0_chk182 (v411 : IVec S16 32) : Prop :=
  (∀ a x, ((![v411] : Fin 1 → IVec S16 32) a x).toNat < S64000.size a)
theorem k0_idx182_inb : ∀ (v411 : IVec S16 32) (k0_hw182 : k0_chk182 v411), ∀ a x, ((![v411] : Fin 1 → IVec S16 32) a x).toNat < S64000.size a := fun v411 k0_hw182 => k0_hw182
def k0_off187 (k0_t3 : Fin k0_t3_loop.trips) : Fin 2 → Nat :=
  let c53_i32 : BitVec 32 := 53#32
  let v414 : Index := Scalar.indexCast c53_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_100 : BitVec 32 := 16#32
  let v413 : BitVec 32 := Scalar.muli v34 c16_i32_100
  let v415 : Index := Scalar.indexCast v413
  ![53, v415.toNat]

def k0_chk183 (v418 : IVec S16 32) : Prop :=
  (∀ a x, ((![v418] : Fin 1 → IVec S16 32) a x).toNat < S64000.size a)
theorem k0_idx183_inb : ∀ (v418 : IVec S16 32) (k0_hw183 : k0_chk183 v418), ∀ a x, ((![v418] : Fin 1 → IVec S16 32) a x).toNat < S64000.size a := fun v418 k0_hw183 => k0_hw183
def k0_off188 (k0_t3 : Fin k0_t3_loop.trips) : Fin 2 → Nat :=
  let c54_i32 : BitVec 32 := 54#32
  let v421 : Index := Scalar.indexCast c54_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_101 : BitVec 32 := 16#32
  let v420 : BitVec 32 := Scalar.muli v34 c16_i32_101
  let v422 : Index := Scalar.indexCast v420
  ![54, v422.toNat]

def k0_chk184 (v425 : IVec S16 32) : Prop :=
  (∀ a x, ((![v425] : Fin 1 → IVec S16 32) a x).toNat < S64000.size a)
theorem k0_idx184_inb : ∀ (v425 : IVec S16 32) (k0_hw184 : k0_chk184 v425), ∀ a x, ((![v425] : Fin 1 → IVec S16 32) a x).toNat < S64000.size a := fun v425 k0_hw184 => k0_hw184
def k0_off189 (k0_t3 : Fin k0_t3_loop.trips) : Fin 2 → Nat :=
  let c55_i32 : BitVec 32 := 55#32
  let v428 : Index := Scalar.indexCast c55_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_102 : BitVec 32 := 16#32
  let v427 : BitVec 32 := Scalar.muli v34 c16_i32_102
  let v429 : Index := Scalar.indexCast v427
  ![55, v429.toNat]

def k0_chk185 (v432 : IVec S16 32) : Prop :=
  (∀ a x, ((![v432] : Fin 1 → IVec S16 32) a x).toNat < S64000.size a)
theorem k0_idx185_inb : ∀ (v432 : IVec S16 32) (k0_hw185 : k0_chk185 v432), ∀ a x, ((![v432] : Fin 1 → IVec S16 32) a x).toNat < S64000.size a := fun v432 k0_hw185 => k0_hw185
def k0_off190 (k0_t3 : Fin k0_t3_loop.trips) : Fin 2 → Nat :=
  let c56_i32 : BitVec 32 := 56#32
  let v435 : Index := Scalar.indexCast c56_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_103 : BitVec 32 := 16#32
  let v434 : BitVec 32 := Scalar.muli v34 c16_i32_103
  let v436 : Index := Scalar.indexCast v434
  ![56, v436.toNat]

def k0_chk186 (v439 : IVec S16 32) : Prop :=
  (∀ a x, ((![v439] : Fin 1 → IVec S16 32) a x).toNat < S64000.size a)
theorem k0_idx186_inb : ∀ (v439 : IVec S16 32) (k0_hw186 : k0_chk186 v439), ∀ a x, ((![v439] : Fin 1 → IVec S16 32) a x).toNat < S64000.size a := fun v439 k0_hw186 => k0_hw186
def k0_off191 (k0_t3 : Fin k0_t3_loop.trips) : Fin 2 → Nat :=
  let c57_i32 : BitVec 32 := 57#32
  let v442 : Index := Scalar.indexCast c57_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_104 : BitVec 32 := 16#32
  let v441 : BitVec 32 := Scalar.muli v34 c16_i32_104
  let v443 : Index := Scalar.indexCast v441
  ![57, v443.toNat]

def k0_chk187 (v446 : IVec S16 32) : Prop :=
  (∀ a x, ((![v446] : Fin 1 → IVec S16 32) a x).toNat < S64000.size a)
theorem k0_idx187_inb : ∀ (v446 : IVec S16 32) (k0_hw187 : k0_chk187 v446), ∀ a x, ((![v446] : Fin 1 → IVec S16 32) a x).toNat < S64000.size a := fun v446 k0_hw187 => k0_hw187
def k0_off192 (k0_t3 : Fin k0_t3_loop.trips) : Fin 2 → Nat :=
  let c58_i32 : BitVec 32 := 58#32
  let v449 : Index := Scalar.indexCast c58_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_105 : BitVec 32 := 16#32
  let v448 : BitVec 32 := Scalar.muli v34 c16_i32_105
  let v450 : Index := Scalar.indexCast v448
  ![58, v450.toNat]

def k0_chk188 (v453 : IVec S16 32) : Prop :=
  (∀ a x, ((![v453] : Fin 1 → IVec S16 32) a x).toNat < S64000.size a)
theorem k0_idx188_inb : ∀ (v453 : IVec S16 32) (k0_hw188 : k0_chk188 v453), ∀ a x, ((![v453] : Fin 1 → IVec S16 32) a x).toNat < S64000.size a := fun v453 k0_hw188 => k0_hw188
def k0_off193 (k0_t3 : Fin k0_t3_loop.trips) : Fin 2 → Nat :=
  let c59_i32 : BitVec 32 := 59#32
  let v456 : Index := Scalar.indexCast c59_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_106 : BitVec 32 := 16#32
  let v455 : BitVec 32 := Scalar.muli v34 c16_i32_106
  let v457 : Index := Scalar.indexCast v455
  ![59, v457.toNat]

def k0_chk189 (v460 : IVec S16 32) : Prop :=
  (∀ a x, ((![v460] : Fin 1 → IVec S16 32) a x).toNat < S64000.size a)
theorem k0_idx189_inb : ∀ (v460 : IVec S16 32) (k0_hw189 : k0_chk189 v460), ∀ a x, ((![v460] : Fin 1 → IVec S16 32) a x).toNat < S64000.size a := fun v460 k0_hw189 => k0_hw189
def k0_off194 (k0_t3 : Fin k0_t3_loop.trips) : Fin 2 → Nat :=
  let c60_i32 : BitVec 32 := 60#32
  let v463 : Index := Scalar.indexCast c60_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_107 : BitVec 32 := 16#32
  let v462 : BitVec 32 := Scalar.muli v34 c16_i32_107
  let v464 : Index := Scalar.indexCast v462
  ![60, v464.toNat]

def k0_chk190 (v467 : IVec S16 32) : Prop :=
  (∀ a x, ((![v467] : Fin 1 → IVec S16 32) a x).toNat < S64000.size a)
theorem k0_idx190_inb : ∀ (v467 : IVec S16 32) (k0_hw190 : k0_chk190 v467), ∀ a x, ((![v467] : Fin 1 → IVec S16 32) a x).toNat < S64000.size a := fun v467 k0_hw190 => k0_hw190
def k0_off195 (k0_t3 : Fin k0_t3_loop.trips) : Fin 2 → Nat :=
  let c61_i32 : BitVec 32 := 61#32
  let v470 : Index := Scalar.indexCast c61_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_108 : BitVec 32 := 16#32
  let v469 : BitVec 32 := Scalar.muli v34 c16_i32_108
  let v471 : Index := Scalar.indexCast v469
  ![61, v471.toNat]

def k0_chk191 (v474 : IVec S16 32) : Prop :=
  (∀ a x, ((![v474] : Fin 1 → IVec S16 32) a x).toNat < S64000.size a)
theorem k0_idx191_inb : ∀ (v474 : IVec S16 32) (k0_hw191 : k0_chk191 v474), ∀ a x, ((![v474] : Fin 1 → IVec S16 32) a x).toNat < S64000.size a := fun v474 k0_hw191 => k0_hw191
def k0_off196 (k0_t3 : Fin k0_t3_loop.trips) : Fin 2 → Nat :=
  let c62_i32 : BitVec 32 := 62#32
  let v477 : Index := Scalar.indexCast c62_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_109 : BitVec 32 := 16#32
  let v476 : BitVec 32 := Scalar.muli v34 c16_i32_109
  let v478 : Index := Scalar.indexCast v476
  ![62, v478.toNat]

def k0_chk192 (v481 : IVec S16 32) : Prop :=
  (∀ a x, ((![v481] : Fin 1 → IVec S16 32) a x).toNat < S64000.size a)
theorem k0_idx192_inb : ∀ (v481 : IVec S16 32) (k0_hw192 : k0_chk192 v481), ∀ a x, ((![v481] : Fin 1 → IVec S16 32) a x).toNat < S64000.size a := fun v481 k0_hw192 => k0_hw192
def k0_off197 (k0_t3 : Fin k0_t3_loop.trips) : Fin 2 → Nat :=
  let c63_i32 : BitVec 32 := 63#32
  let v484 : Index := Scalar.indexCast c63_i32
  let c0_i32_39 : BitVec 32 := 0#32
  let c0_i32_12 : BitVec 32 := 0#32
  let c1_i32_14 : BitVec 32 := 1#32
  let arg12 : BitVec 32 := Scf.iv c0_i32_12 c1_i32_14 k0_t3
  let c1_i32_38 : BitVec 32 := 1#32
  let v33 : BitVec 32 := Scalar.muli arg12 c1_i32_38
  let v34 : BitVec 32 := Scalar.addi c0_i32_39 v33
  let c16_i32_110 : BitVec 32 := 16#32
  let v483 : BitVec 32 := Scalar.muli v34 c16_i32_110
  let v485 : Index := Scalar.indexCast v483
  ![63, v485.toNat]
@[reducible] def k0_t4_loop : Scf.Loop 32 :=
  let c0_i32_20 : BitVec 32 := 0#32
  let c20_i32_21 : BitVec 32 := 20#32
  let v19 : BitVec 32 := Scalar.addi c0_i32_20 c20_i32_21
  let c1_i32_22 : BitVec 32 := 1#32
  ⟨c0_i32_20, v19, c1_i32_22⟩
def k0_off198 (k0_t4 : Fin k0_t4_loop.trips) : Fin 1 → Nat :=
  let c960_i32_40 : BitVec 32 := 960#32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32 : BitVec 32 := 16#32
  let v35 : BitVec 32 := Scalar.muli v34 c16_i32
  let v36 : BitVec 32 := Scalar.addi c960_i32_40 v35
  let v37 : Index := Scalar.indexCast v36
  ![v37.toNat]

def k0_chk193 (v40 : IVec S16 32) : Prop :=
  (∀ a x, ((![v40] : Fin 1 → IVec S16 32) a x).toNat < S64000.size a)
theorem k0_idx193_inb : ∀ (v40 : IVec S16 32) (k0_hw193 : k0_chk193 v40), ∀ a x, ((![v40] : Fin 1 → IVec S16 32) a x).toNat < S64000.size a := fun v40 k0_hw193 => k0_hw193
def k0_off199 (k0_t4 : Fin k0_t4_loop.trips) : Fin 2 → Nat :=
  let c0_i32_43 : BitVec 32 := 0#32
  let v43 : Index := Scalar.indexCast c0_i32_43
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_42 : BitVec 32 := 16#32
  let v42 : BitVec 32 := Scalar.muli v34 c16_i32_42
  let v44 : Index := Scalar.indexCast v42
  ![0, v44.toNat]

def k0_chk194 (v47 : IVec S16 32) : Prop :=
  (∀ a x, ((![v47] : Fin 1 → IVec S16 32) a x).toNat < S64000.size a)
theorem k0_idx194_inb : ∀ (v47 : IVec S16 32) (k0_hw194 : k0_chk194 v47), ∀ a x, ((![v47] : Fin 1 → IVec S16 32) a x).toNat < S64000.size a := fun v47 k0_hw194 => k0_hw194
def k0_off200 (k0_t4 : Fin k0_t4_loop.trips) : Fin 2 → Nat :=
  let c1_i32_45 : BitVec 32 := 1#32
  let v50 : Index := Scalar.indexCast c1_i32_45
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_44 : BitVec 32 := 16#32
  let v49 : BitVec 32 := Scalar.muli v34 c16_i32_44
  let v51 : Index := Scalar.indexCast v49
  ![1, v51.toNat]

def k0_chk195 (v54 : IVec S16 32) : Prop :=
  (∀ a x, ((![v54] : Fin 1 → IVec S16 32) a x).toNat < S64000.size a)
theorem k0_idx195_inb : ∀ (v54 : IVec S16 32) (k0_hw195 : k0_chk195 v54), ∀ a x, ((![v54] : Fin 1 → IVec S16 32) a x).toNat < S64000.size a := fun v54 k0_hw195 => k0_hw195
def k0_off201 (k0_t4 : Fin k0_t4_loop.trips) : Fin 2 → Nat :=
  let c2_i32_47 : BitVec 32 := 2#32
  let v57 : Index := Scalar.indexCast c2_i32_47
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_46 : BitVec 32 := 16#32
  let v56 : BitVec 32 := Scalar.muli v34 c16_i32_46
  let v58 : Index := Scalar.indexCast v56
  ![2, v58.toNat]

def k0_chk196 (v61 : IVec S16 32) : Prop :=
  (∀ a x, ((![v61] : Fin 1 → IVec S16 32) a x).toNat < S64000.size a)
theorem k0_idx196_inb : ∀ (v61 : IVec S16 32) (k0_hw196 : k0_chk196 v61), ∀ a x, ((![v61] : Fin 1 → IVec S16 32) a x).toNat < S64000.size a := fun v61 k0_hw196 => k0_hw196
def k0_off202 (k0_t4 : Fin k0_t4_loop.trips) : Fin 2 → Nat :=
  let c3_i32 : BitVec 32 := 3#32
  let v64 : Index := Scalar.indexCast c3_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_48 : BitVec 32 := 16#32
  let v63 : BitVec 32 := Scalar.muli v34 c16_i32_48
  let v65 : Index := Scalar.indexCast v63
  ![3, v65.toNat]

def k0_chk197 (v68 : IVec S16 32) : Prop :=
  (∀ a x, ((![v68] : Fin 1 → IVec S16 32) a x).toNat < S64000.size a)
theorem k0_idx197_inb : ∀ (v68 : IVec S16 32) (k0_hw197 : k0_chk197 v68), ∀ a x, ((![v68] : Fin 1 → IVec S16 32) a x).toNat < S64000.size a := fun v68 k0_hw197 => k0_hw197
def k0_off203 (k0_t4 : Fin k0_t4_loop.trips) : Fin 2 → Nat :=
  let c4_i32 : BitVec 32 := 4#32
  let v71 : Index := Scalar.indexCast c4_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_49 : BitVec 32 := 16#32
  let v70 : BitVec 32 := Scalar.muli v34 c16_i32_49
  let v72 : Index := Scalar.indexCast v70
  ![4, v72.toNat]

def k0_chk198 (v75 : IVec S16 32) : Prop :=
  (∀ a x, ((![v75] : Fin 1 → IVec S16 32) a x).toNat < S64000.size a)
theorem k0_idx198_inb : ∀ (v75 : IVec S16 32) (k0_hw198 : k0_chk198 v75), ∀ a x, ((![v75] : Fin 1 → IVec S16 32) a x).toNat < S64000.size a := fun v75 k0_hw198 => k0_hw198
def k0_off204 (k0_t4 : Fin k0_t4_loop.trips) : Fin 2 → Nat :=
  let c5_i32 : BitVec 32 := 5#32
  let v78 : Index := Scalar.indexCast c5_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_50 : BitVec 32 := 16#32
  let v77 : BitVec 32 := Scalar.muli v34 c16_i32_50
  let v79 : Index := Scalar.indexCast v77
  ![5, v79.toNat]

def k0_chk199 (v82 : IVec S16 32) : Prop :=
  (∀ a x, ((![v82] : Fin 1 → IVec S16 32) a x).toNat < S64000.size a)
theorem k0_idx199_inb : ∀ (v82 : IVec S16 32) (k0_hw199 : k0_chk199 v82), ∀ a x, ((![v82] : Fin 1 → IVec S16 32) a x).toNat < S64000.size a := fun v82 k0_hw199 => k0_hw199
def k0_off205 (k0_t4 : Fin k0_t4_loop.trips) : Fin 2 → Nat :=
  let c6_i32 : BitVec 32 := 6#32
  let v85 : Index := Scalar.indexCast c6_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_51 : BitVec 32 := 16#32
  let v84 : BitVec 32 := Scalar.muli v34 c16_i32_51
  let v86 : Index := Scalar.indexCast v84
  ![6, v86.toNat]

def k0_chk200 (v89 : IVec S16 32) : Prop :=
  (∀ a x, ((![v89] : Fin 1 → IVec S16 32) a x).toNat < S64000.size a)
theorem k0_idx200_inb : ∀ (v89 : IVec S16 32) (k0_hw200 : k0_chk200 v89), ∀ a x, ((![v89] : Fin 1 → IVec S16 32) a x).toNat < S64000.size a := fun v89 k0_hw200 => k0_hw200
def k0_off206 (k0_t4 : Fin k0_t4_loop.trips) : Fin 2 → Nat :=
  let c7_i32 : BitVec 32 := 7#32
  let v92 : Index := Scalar.indexCast c7_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_52 : BitVec 32 := 16#32
  let v91 : BitVec 32 := Scalar.muli v34 c16_i32_52
  let v93 : Index := Scalar.indexCast v91
  ![7, v93.toNat]

def k0_chk201 (v96 : IVec S16 32) : Prop :=
  (∀ a x, ((![v96] : Fin 1 → IVec S16 32) a x).toNat < S64000.size a)
theorem k0_idx201_inb : ∀ (v96 : IVec S16 32) (k0_hw201 : k0_chk201 v96), ∀ a x, ((![v96] : Fin 1 → IVec S16 32) a x).toNat < S64000.size a := fun v96 k0_hw201 => k0_hw201
def k0_off207 (k0_t4 : Fin k0_t4_loop.trips) : Fin 2 → Nat :=
  let c8_i32 : BitVec 32 := 8#32
  let v99 : Index := Scalar.indexCast c8_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_53 : BitVec 32 := 16#32
  let v98 : BitVec 32 := Scalar.muli v34 c16_i32_53
  let v100 : Index := Scalar.indexCast v98
  ![8, v100.toNat]

def k0_chk202 (v103 : IVec S16 32) : Prop :=
  (∀ a x, ((![v103] : Fin 1 → IVec S16 32) a x).toNat < S64000.size a)
theorem k0_idx202_inb : ∀ (v103 : IVec S16 32) (k0_hw202 : k0_chk202 v103), ∀ a x, ((![v103] : Fin 1 → IVec S16 32) a x).toNat < S64000.size a := fun v103 k0_hw202 => k0_hw202
def k0_off208 (k0_t4 : Fin k0_t4_loop.trips) : Fin 2 → Nat :=
  let c9_i32 : BitVec 32 := 9#32
  let v106 : Index := Scalar.indexCast c9_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_54 : BitVec 32 := 16#32
  let v105 : BitVec 32 := Scalar.muli v34 c16_i32_54
  let v107 : Index := Scalar.indexCast v105
  ![9, v107.toNat]

def k0_chk203 (v110 : IVec S16 32) : Prop :=
  (∀ a x, ((![v110] : Fin 1 → IVec S16 32) a x).toNat < S64000.size a)
theorem k0_idx203_inb : ∀ (v110 : IVec S16 32) (k0_hw203 : k0_chk203 v110), ∀ a x, ((![v110] : Fin 1 → IVec S16 32) a x).toNat < S64000.size a := fun v110 k0_hw203 => k0_hw203
def k0_off209 (k0_t4 : Fin k0_t4_loop.trips) : Fin 2 → Nat :=
  let c10_i32 : BitVec 32 := 10#32
  let v113 : Index := Scalar.indexCast c10_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_55 : BitVec 32 := 16#32
  let v112 : BitVec 32 := Scalar.muli v34 c16_i32_55
  let v114 : Index := Scalar.indexCast v112
  ![10, v114.toNat]

def k0_chk204 (v117 : IVec S16 32) : Prop :=
  (∀ a x, ((![v117] : Fin 1 → IVec S16 32) a x).toNat < S64000.size a)
theorem k0_idx204_inb : ∀ (v117 : IVec S16 32) (k0_hw204 : k0_chk204 v117), ∀ a x, ((![v117] : Fin 1 → IVec S16 32) a x).toNat < S64000.size a := fun v117 k0_hw204 => k0_hw204
def k0_off210 (k0_t4 : Fin k0_t4_loop.trips) : Fin 2 → Nat :=
  let c11_i32 : BitVec 32 := 11#32
  let v120 : Index := Scalar.indexCast c11_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_56 : BitVec 32 := 16#32
  let v119 : BitVec 32 := Scalar.muli v34 c16_i32_56
  let v121 : Index := Scalar.indexCast v119
  ![11, v121.toNat]

def k0_chk205 (v124 : IVec S16 32) : Prop :=
  (∀ a x, ((![v124] : Fin 1 → IVec S16 32) a x).toNat < S64000.size a)
theorem k0_idx205_inb : ∀ (v124 : IVec S16 32) (k0_hw205 : k0_chk205 v124), ∀ a x, ((![v124] : Fin 1 → IVec S16 32) a x).toNat < S64000.size a := fun v124 k0_hw205 => k0_hw205
def k0_off211 (k0_t4 : Fin k0_t4_loop.trips) : Fin 2 → Nat :=
  let c12_i32 : BitVec 32 := 12#32
  let v127 : Index := Scalar.indexCast c12_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_57 : BitVec 32 := 16#32
  let v126 : BitVec 32 := Scalar.muli v34 c16_i32_57
  let v128 : Index := Scalar.indexCast v126
  ![12, v128.toNat]

def k0_chk206 (v131 : IVec S16 32) : Prop :=
  (∀ a x, ((![v131] : Fin 1 → IVec S16 32) a x).toNat < S64000.size a)
theorem k0_idx206_inb : ∀ (v131 : IVec S16 32) (k0_hw206 : k0_chk206 v131), ∀ a x, ((![v131] : Fin 1 → IVec S16 32) a x).toNat < S64000.size a := fun v131 k0_hw206 => k0_hw206
def k0_off212 (k0_t4 : Fin k0_t4_loop.trips) : Fin 2 → Nat :=
  let c13_i32 : BitVec 32 := 13#32
  let v134 : Index := Scalar.indexCast c13_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_58 : BitVec 32 := 16#32
  let v133 : BitVec 32 := Scalar.muli v34 c16_i32_58
  let v135 : Index := Scalar.indexCast v133
  ![13, v135.toNat]

def k0_chk207 (v138 : IVec S16 32) : Prop :=
  (∀ a x, ((![v138] : Fin 1 → IVec S16 32) a x).toNat < S64000.size a)
theorem k0_idx207_inb : ∀ (v138 : IVec S16 32) (k0_hw207 : k0_chk207 v138), ∀ a x, ((![v138] : Fin 1 → IVec S16 32) a x).toNat < S64000.size a := fun v138 k0_hw207 => k0_hw207
def k0_off213 (k0_t4 : Fin k0_t4_loop.trips) : Fin 2 → Nat :=
  let c14_i32 : BitVec 32 := 14#32
  let v141 : Index := Scalar.indexCast c14_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_59 : BitVec 32 := 16#32
  let v140 : BitVec 32 := Scalar.muli v34 c16_i32_59
  let v142 : Index := Scalar.indexCast v140
  ![14, v142.toNat]

def k0_chk208 (v145 : IVec S16 32) : Prop :=
  (∀ a x, ((![v145] : Fin 1 → IVec S16 32) a x).toNat < S64000.size a)
theorem k0_idx208_inb : ∀ (v145 : IVec S16 32) (k0_hw208 : k0_chk208 v145), ∀ a x, ((![v145] : Fin 1 → IVec S16 32) a x).toNat < S64000.size a := fun v145 k0_hw208 => k0_hw208
def k0_off214 (k0_t4 : Fin k0_t4_loop.trips) : Fin 2 → Nat :=
  let c15_i32 : BitVec 32 := 15#32
  let v148 : Index := Scalar.indexCast c15_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_60 : BitVec 32 := 16#32
  let v147 : BitVec 32 := Scalar.muli v34 c16_i32_60
  let v149 : Index := Scalar.indexCast v147
  ![15, v149.toNat]

def k0_chk209 (v152 : IVec S16 32) : Prop :=
  (∀ a x, ((![v152] : Fin 1 → IVec S16 32) a x).toNat < S64000.size a)
theorem k0_idx209_inb : ∀ (v152 : IVec S16 32) (k0_hw209 : k0_chk209 v152), ∀ a x, ((![v152] : Fin 1 → IVec S16 32) a x).toNat < S64000.size a := fun v152 k0_hw209 => k0_hw209
def k0_off215 (k0_t4 : Fin k0_t4_loop.trips) : Fin 2 → Nat :=
  let c16_i32_62 : BitVec 32 := 16#32
  let v155 : Index := Scalar.indexCast c16_i32_62
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_61 : BitVec 32 := 16#32
  let v154 : BitVec 32 := Scalar.muli v34 c16_i32_61
  let v156 : Index := Scalar.indexCast v154
  ![16, v156.toNat]

def k0_chk210 (v159 : IVec S16 32) : Prop :=
  (∀ a x, ((![v159] : Fin 1 → IVec S16 32) a x).toNat < S64000.size a)
theorem k0_idx210_inb : ∀ (v159 : IVec S16 32) (k0_hw210 : k0_chk210 v159), ∀ a x, ((![v159] : Fin 1 → IVec S16 32) a x).toNat < S64000.size a := fun v159 k0_hw210 => k0_hw210
def k0_off216 (k0_t4 : Fin k0_t4_loop.trips) : Fin 2 → Nat :=
  let c17_i32 : BitVec 32 := 17#32
  let v162 : Index := Scalar.indexCast c17_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_63 : BitVec 32 := 16#32
  let v161 : BitVec 32 := Scalar.muli v34 c16_i32_63
  let v163 : Index := Scalar.indexCast v161
  ![17, v163.toNat]

def k0_chk211 (v166 : IVec S16 32) : Prop :=
  (∀ a x, ((![v166] : Fin 1 → IVec S16 32) a x).toNat < S64000.size a)
theorem k0_idx211_inb : ∀ (v166 : IVec S16 32) (k0_hw211 : k0_chk211 v166), ∀ a x, ((![v166] : Fin 1 → IVec S16 32) a x).toNat < S64000.size a := fun v166 k0_hw211 => k0_hw211
def k0_off217 (k0_t4 : Fin k0_t4_loop.trips) : Fin 2 → Nat :=
  let c18_i32 : BitVec 32 := 18#32
  let v169 : Index := Scalar.indexCast c18_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_64 : BitVec 32 := 16#32
  let v168 : BitVec 32 := Scalar.muli v34 c16_i32_64
  let v170 : Index := Scalar.indexCast v168
  ![18, v170.toNat]

def k0_chk212 (v173 : IVec S16 32) : Prop :=
  (∀ a x, ((![v173] : Fin 1 → IVec S16 32) a x).toNat < S64000.size a)
theorem k0_idx212_inb : ∀ (v173 : IVec S16 32) (k0_hw212 : k0_chk212 v173), ∀ a x, ((![v173] : Fin 1 → IVec S16 32) a x).toNat < S64000.size a := fun v173 k0_hw212 => k0_hw212
def k0_off218 (k0_t4 : Fin k0_t4_loop.trips) : Fin 2 → Nat :=
  let c19_i32 : BitVec 32 := 19#32
  let v176 : Index := Scalar.indexCast c19_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_65 : BitVec 32 := 16#32
  let v175 : BitVec 32 := Scalar.muli v34 c16_i32_65
  let v177 : Index := Scalar.indexCast v175
  ![19, v177.toNat]

def k0_chk213 (v180 : IVec S16 32) : Prop :=
  (∀ a x, ((![v180] : Fin 1 → IVec S16 32) a x).toNat < S64000.size a)
theorem k0_idx213_inb : ∀ (v180 : IVec S16 32) (k0_hw213 : k0_chk213 v180), ∀ a x, ((![v180] : Fin 1 → IVec S16 32) a x).toNat < S64000.size a := fun v180 k0_hw213 => k0_hw213
def k0_off219 (k0_t4 : Fin k0_t4_loop.trips) : Fin 2 → Nat :=
  let c20_i32_67 : BitVec 32 := 20#32
  let v183 : Index := Scalar.indexCast c20_i32_67
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_66 : BitVec 32 := 16#32
  let v182 : BitVec 32 := Scalar.muli v34 c16_i32_66
  let v184 : Index := Scalar.indexCast v182
  ![20, v184.toNat]

def k0_chk214 (v187 : IVec S16 32) : Prop :=
  (∀ a x, ((![v187] : Fin 1 → IVec S16 32) a x).toNat < S64000.size a)
theorem k0_idx214_inb : ∀ (v187 : IVec S16 32) (k0_hw214 : k0_chk214 v187), ∀ a x, ((![v187] : Fin 1 → IVec S16 32) a x).toNat < S64000.size a := fun v187 k0_hw214 => k0_hw214
def k0_off220 (k0_t4 : Fin k0_t4_loop.trips) : Fin 2 → Nat :=
  let c21_i32 : BitVec 32 := 21#32
  let v190 : Index := Scalar.indexCast c21_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_68 : BitVec 32 := 16#32
  let v189 : BitVec 32 := Scalar.muli v34 c16_i32_68
  let v191 : Index := Scalar.indexCast v189
  ![21, v191.toNat]

def k0_chk215 (v194 : IVec S16 32) : Prop :=
  (∀ a x, ((![v194] : Fin 1 → IVec S16 32) a x).toNat < S64000.size a)
theorem k0_idx215_inb : ∀ (v194 : IVec S16 32) (k0_hw215 : k0_chk215 v194), ∀ a x, ((![v194] : Fin 1 → IVec S16 32) a x).toNat < S64000.size a := fun v194 k0_hw215 => k0_hw215
def k0_off221 (k0_t4 : Fin k0_t4_loop.trips) : Fin 2 → Nat :=
  let c22_i32 : BitVec 32 := 22#32
  let v197 : Index := Scalar.indexCast c22_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_69 : BitVec 32 := 16#32
  let v196 : BitVec 32 := Scalar.muli v34 c16_i32_69
  let v198 : Index := Scalar.indexCast v196
  ![22, v198.toNat]

def k0_chk216 (v201 : IVec S16 32) : Prop :=
  (∀ a x, ((![v201] : Fin 1 → IVec S16 32) a x).toNat < S64000.size a)
theorem k0_idx216_inb : ∀ (v201 : IVec S16 32) (k0_hw216 : k0_chk216 v201), ∀ a x, ((![v201] : Fin 1 → IVec S16 32) a x).toNat < S64000.size a := fun v201 k0_hw216 => k0_hw216
def k0_off222 (k0_t4 : Fin k0_t4_loop.trips) : Fin 2 → Nat :=
  let c23_i32 : BitVec 32 := 23#32
  let v204 : Index := Scalar.indexCast c23_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_70 : BitVec 32 := 16#32
  let v203 : BitVec 32 := Scalar.muli v34 c16_i32_70
  let v205 : Index := Scalar.indexCast v203
  ![23, v205.toNat]

def k0_chk217 (v208 : IVec S16 32) : Prop :=
  (∀ a x, ((![v208] : Fin 1 → IVec S16 32) a x).toNat < S64000.size a)
theorem k0_idx217_inb : ∀ (v208 : IVec S16 32) (k0_hw217 : k0_chk217 v208), ∀ a x, ((![v208] : Fin 1 → IVec S16 32) a x).toNat < S64000.size a := fun v208 k0_hw217 => k0_hw217
def k0_off223 (k0_t4 : Fin k0_t4_loop.trips) : Fin 2 → Nat :=
  let c24_i32 : BitVec 32 := 24#32
  let v211 : Index := Scalar.indexCast c24_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_71 : BitVec 32 := 16#32
  let v210 : BitVec 32 := Scalar.muli v34 c16_i32_71
  let v212 : Index := Scalar.indexCast v210
  ![24, v212.toNat]

def k0_chk218 (v215 : IVec S16 32) : Prop :=
  (∀ a x, ((![v215] : Fin 1 → IVec S16 32) a x).toNat < S64000.size a)
theorem k0_idx218_inb : ∀ (v215 : IVec S16 32) (k0_hw218 : k0_chk218 v215), ∀ a x, ((![v215] : Fin 1 → IVec S16 32) a x).toNat < S64000.size a := fun v215 k0_hw218 => k0_hw218
def k0_off224 (k0_t4 : Fin k0_t4_loop.trips) : Fin 2 → Nat :=
  let c25_i32 : BitVec 32 := 25#32
  let v218 : Index := Scalar.indexCast c25_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_72 : BitVec 32 := 16#32
  let v217 : BitVec 32 := Scalar.muli v34 c16_i32_72
  let v219 : Index := Scalar.indexCast v217
  ![25, v219.toNat]

def k0_chk219 (v222 : IVec S16 32) : Prop :=
  (∀ a x, ((![v222] : Fin 1 → IVec S16 32) a x).toNat < S64000.size a)
theorem k0_idx219_inb : ∀ (v222 : IVec S16 32) (k0_hw219 : k0_chk219 v222), ∀ a x, ((![v222] : Fin 1 → IVec S16 32) a x).toNat < S64000.size a := fun v222 k0_hw219 => k0_hw219
def k0_off225 (k0_t4 : Fin k0_t4_loop.trips) : Fin 2 → Nat :=
  let c26_i32 : BitVec 32 := 26#32
  let v225 : Index := Scalar.indexCast c26_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_73 : BitVec 32 := 16#32
  let v224 : BitVec 32 := Scalar.muli v34 c16_i32_73
  let v226 : Index := Scalar.indexCast v224
  ![26, v226.toNat]

def k0_chk220 (v229 : IVec S16 32) : Prop :=
  (∀ a x, ((![v229] : Fin 1 → IVec S16 32) a x).toNat < S64000.size a)
theorem k0_idx220_inb : ∀ (v229 : IVec S16 32) (k0_hw220 : k0_chk220 v229), ∀ a x, ((![v229] : Fin 1 → IVec S16 32) a x).toNat < S64000.size a := fun v229 k0_hw220 => k0_hw220
def k0_off226 (k0_t4 : Fin k0_t4_loop.trips) : Fin 2 → Nat :=
  let c27_i32 : BitVec 32 := 27#32
  let v232 : Index := Scalar.indexCast c27_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_74 : BitVec 32 := 16#32
  let v231 : BitVec 32 := Scalar.muli v34 c16_i32_74
  let v233 : Index := Scalar.indexCast v231
  ![27, v233.toNat]

def k0_chk221 (v236 : IVec S16 32) : Prop :=
  (∀ a x, ((![v236] : Fin 1 → IVec S16 32) a x).toNat < S64000.size a)
theorem k0_idx221_inb : ∀ (v236 : IVec S16 32) (k0_hw221 : k0_chk221 v236), ∀ a x, ((![v236] : Fin 1 → IVec S16 32) a x).toNat < S64000.size a := fun v236 k0_hw221 => k0_hw221
def k0_off227 (k0_t4 : Fin k0_t4_loop.trips) : Fin 2 → Nat :=
  let c28_i32 : BitVec 32 := 28#32
  let v239 : Index := Scalar.indexCast c28_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_75 : BitVec 32 := 16#32
  let v238 : BitVec 32 := Scalar.muli v34 c16_i32_75
  let v240 : Index := Scalar.indexCast v238
  ![28, v240.toNat]

def k0_chk222 (v243 : IVec S16 32) : Prop :=
  (∀ a x, ((![v243] : Fin 1 → IVec S16 32) a x).toNat < S64000.size a)
theorem k0_idx222_inb : ∀ (v243 : IVec S16 32) (k0_hw222 : k0_chk222 v243), ∀ a x, ((![v243] : Fin 1 → IVec S16 32) a x).toNat < S64000.size a := fun v243 k0_hw222 => k0_hw222
def k0_off228 (k0_t4 : Fin k0_t4_loop.trips) : Fin 2 → Nat :=
  let c29_i32 : BitVec 32 := 29#32
  let v246 : Index := Scalar.indexCast c29_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_76 : BitVec 32 := 16#32
  let v245 : BitVec 32 := Scalar.muli v34 c16_i32_76
  let v247 : Index := Scalar.indexCast v245
  ![29, v247.toNat]

def k0_chk223 (v250 : IVec S16 32) : Prop :=
  (∀ a x, ((![v250] : Fin 1 → IVec S16 32) a x).toNat < S64000.size a)
theorem k0_idx223_inb : ∀ (v250 : IVec S16 32) (k0_hw223 : k0_chk223 v250), ∀ a x, ((![v250] : Fin 1 → IVec S16 32) a x).toNat < S64000.size a := fun v250 k0_hw223 => k0_hw223
def k0_off229 (k0_t4 : Fin k0_t4_loop.trips) : Fin 2 → Nat :=
  let c30_i32 : BitVec 32 := 30#32
  let v253 : Index := Scalar.indexCast c30_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_77 : BitVec 32 := 16#32
  let v252 : BitVec 32 := Scalar.muli v34 c16_i32_77
  let v254 : Index := Scalar.indexCast v252
  ![30, v254.toNat]

def k0_chk224 (v257 : IVec S16 32) : Prop :=
  (∀ a x, ((![v257] : Fin 1 → IVec S16 32) a x).toNat < S64000.size a)
theorem k0_idx224_inb : ∀ (v257 : IVec S16 32) (k0_hw224 : k0_chk224 v257), ∀ a x, ((![v257] : Fin 1 → IVec S16 32) a x).toNat < S64000.size a := fun v257 k0_hw224 => k0_hw224
def k0_off230 (k0_t4 : Fin k0_t4_loop.trips) : Fin 2 → Nat :=
  let c31_i32 : BitVec 32 := 31#32
  let v260 : Index := Scalar.indexCast c31_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_78 : BitVec 32 := 16#32
  let v259 : BitVec 32 := Scalar.muli v34 c16_i32_78
  let v261 : Index := Scalar.indexCast v259
  ![31, v261.toNat]

def k0_chk225 (v264 : IVec S16 32) : Prop :=
  (∀ a x, ((![v264] : Fin 1 → IVec S16 32) a x).toNat < S64000.size a)
theorem k0_idx225_inb : ∀ (v264 : IVec S16 32) (k0_hw225 : k0_chk225 v264), ∀ a x, ((![v264] : Fin 1 → IVec S16 32) a x).toNat < S64000.size a := fun v264 k0_hw225 => k0_hw225
def k0_off231 (k0_t4 : Fin k0_t4_loop.trips) : Fin 2 → Nat :=
  let c32_i32 : BitVec 32 := 32#32
  let v267 : Index := Scalar.indexCast c32_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_79 : BitVec 32 := 16#32
  let v266 : BitVec 32 := Scalar.muli v34 c16_i32_79
  let v268 : Index := Scalar.indexCast v266
  ![32, v268.toNat]

def k0_chk226 (v271 : IVec S16 32) : Prop :=
  (∀ a x, ((![v271] : Fin 1 → IVec S16 32) a x).toNat < S64000.size a)
theorem k0_idx226_inb : ∀ (v271 : IVec S16 32) (k0_hw226 : k0_chk226 v271), ∀ a x, ((![v271] : Fin 1 → IVec S16 32) a x).toNat < S64000.size a := fun v271 k0_hw226 => k0_hw226
def k0_off232 (k0_t4 : Fin k0_t4_loop.trips) : Fin 2 → Nat :=
  let c33_i32 : BitVec 32 := 33#32
  let v274 : Index := Scalar.indexCast c33_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_80 : BitVec 32 := 16#32
  let v273 : BitVec 32 := Scalar.muli v34 c16_i32_80
  let v275 : Index := Scalar.indexCast v273
  ![33, v275.toNat]

def k0_chk227 (v278 : IVec S16 32) : Prop :=
  (∀ a x, ((![v278] : Fin 1 → IVec S16 32) a x).toNat < S64000.size a)
theorem k0_idx227_inb : ∀ (v278 : IVec S16 32) (k0_hw227 : k0_chk227 v278), ∀ a x, ((![v278] : Fin 1 → IVec S16 32) a x).toNat < S64000.size a := fun v278 k0_hw227 => k0_hw227
def k0_off233 (k0_t4 : Fin k0_t4_loop.trips) : Fin 2 → Nat :=
  let c34_i32 : BitVec 32 := 34#32
  let v281 : Index := Scalar.indexCast c34_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_81 : BitVec 32 := 16#32
  let v280 : BitVec 32 := Scalar.muli v34 c16_i32_81
  let v282 : Index := Scalar.indexCast v280
  ![34, v282.toNat]

def k0_chk228 (v285 : IVec S16 32) : Prop :=
  (∀ a x, ((![v285] : Fin 1 → IVec S16 32) a x).toNat < S64000.size a)
theorem k0_idx228_inb : ∀ (v285 : IVec S16 32) (k0_hw228 : k0_chk228 v285), ∀ a x, ((![v285] : Fin 1 → IVec S16 32) a x).toNat < S64000.size a := fun v285 k0_hw228 => k0_hw228
def k0_off234 (k0_t4 : Fin k0_t4_loop.trips) : Fin 2 → Nat :=
  let c35_i32 : BitVec 32 := 35#32
  let v288 : Index := Scalar.indexCast c35_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_82 : BitVec 32 := 16#32
  let v287 : BitVec 32 := Scalar.muli v34 c16_i32_82
  let v289 : Index := Scalar.indexCast v287
  ![35, v289.toNat]

def k0_chk229 (v292 : IVec S16 32) : Prop :=
  (∀ a x, ((![v292] : Fin 1 → IVec S16 32) a x).toNat < S64000.size a)
theorem k0_idx229_inb : ∀ (v292 : IVec S16 32) (k0_hw229 : k0_chk229 v292), ∀ a x, ((![v292] : Fin 1 → IVec S16 32) a x).toNat < S64000.size a := fun v292 k0_hw229 => k0_hw229
def k0_off235 (k0_t4 : Fin k0_t4_loop.trips) : Fin 2 → Nat :=
  let c36_i32 : BitVec 32 := 36#32
  let v295 : Index := Scalar.indexCast c36_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_83 : BitVec 32 := 16#32
  let v294 : BitVec 32 := Scalar.muli v34 c16_i32_83
  let v296 : Index := Scalar.indexCast v294
  ![36, v296.toNat]

def k0_chk230 (v299 : IVec S16 32) : Prop :=
  (∀ a x, ((![v299] : Fin 1 → IVec S16 32) a x).toNat < S64000.size a)
theorem k0_idx230_inb : ∀ (v299 : IVec S16 32) (k0_hw230 : k0_chk230 v299), ∀ a x, ((![v299] : Fin 1 → IVec S16 32) a x).toNat < S64000.size a := fun v299 k0_hw230 => k0_hw230
def k0_off236 (k0_t4 : Fin k0_t4_loop.trips) : Fin 2 → Nat :=
  let c37_i32 : BitVec 32 := 37#32
  let v302 : Index := Scalar.indexCast c37_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_84 : BitVec 32 := 16#32
  let v301 : BitVec 32 := Scalar.muli v34 c16_i32_84
  let v303 : Index := Scalar.indexCast v301
  ![37, v303.toNat]

def k0_chk231 (v306 : IVec S16 32) : Prop :=
  (∀ a x, ((![v306] : Fin 1 → IVec S16 32) a x).toNat < S64000.size a)
theorem k0_idx231_inb : ∀ (v306 : IVec S16 32) (k0_hw231 : k0_chk231 v306), ∀ a x, ((![v306] : Fin 1 → IVec S16 32) a x).toNat < S64000.size a := fun v306 k0_hw231 => k0_hw231
def k0_off237 (k0_t4 : Fin k0_t4_loop.trips) : Fin 2 → Nat :=
  let c38_i32 : BitVec 32 := 38#32
  let v309 : Index := Scalar.indexCast c38_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_85 : BitVec 32 := 16#32
  let v308 : BitVec 32 := Scalar.muli v34 c16_i32_85
  let v310 : Index := Scalar.indexCast v308
  ![38, v310.toNat]

def k0_chk232 (v313 : IVec S16 32) : Prop :=
  (∀ a x, ((![v313] : Fin 1 → IVec S16 32) a x).toNat < S64000.size a)
theorem k0_idx232_inb : ∀ (v313 : IVec S16 32) (k0_hw232 : k0_chk232 v313), ∀ a x, ((![v313] : Fin 1 → IVec S16 32) a x).toNat < S64000.size a := fun v313 k0_hw232 => k0_hw232
def k0_off238 (k0_t4 : Fin k0_t4_loop.trips) : Fin 2 → Nat :=
  let c39_i32 : BitVec 32 := 39#32
  let v316 : Index := Scalar.indexCast c39_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_86 : BitVec 32 := 16#32
  let v315 : BitVec 32 := Scalar.muli v34 c16_i32_86
  let v317 : Index := Scalar.indexCast v315
  ![39, v317.toNat]

def k0_chk233 (v320 : IVec S16 32) : Prop :=
  (∀ a x, ((![v320] : Fin 1 → IVec S16 32) a x).toNat < S64000.size a)
theorem k0_idx233_inb : ∀ (v320 : IVec S16 32) (k0_hw233 : k0_chk233 v320), ∀ a x, ((![v320] : Fin 1 → IVec S16 32) a x).toNat < S64000.size a := fun v320 k0_hw233 => k0_hw233
def k0_off239 (k0_t4 : Fin k0_t4_loop.trips) : Fin 2 → Nat :=
  let c40_i32 : BitVec 32 := 40#32
  let v323 : Index := Scalar.indexCast c40_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_87 : BitVec 32 := 16#32
  let v322 : BitVec 32 := Scalar.muli v34 c16_i32_87
  let v324 : Index := Scalar.indexCast v322
  ![40, v324.toNat]

def k0_chk234 (v327 : IVec S16 32) : Prop :=
  (∀ a x, ((![v327] : Fin 1 → IVec S16 32) a x).toNat < S64000.size a)
theorem k0_idx234_inb : ∀ (v327 : IVec S16 32) (k0_hw234 : k0_chk234 v327), ∀ a x, ((![v327] : Fin 1 → IVec S16 32) a x).toNat < S64000.size a := fun v327 k0_hw234 => k0_hw234
def k0_off240 (k0_t4 : Fin k0_t4_loop.trips) : Fin 2 → Nat :=
  let c41_i32 : BitVec 32 := 41#32
  let v330 : Index := Scalar.indexCast c41_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_88 : BitVec 32 := 16#32
  let v329 : BitVec 32 := Scalar.muli v34 c16_i32_88
  let v331 : Index := Scalar.indexCast v329
  ![41, v331.toNat]

def k0_chk235 (v334 : IVec S16 32) : Prop :=
  (∀ a x, ((![v334] : Fin 1 → IVec S16 32) a x).toNat < S64000.size a)
theorem k0_idx235_inb : ∀ (v334 : IVec S16 32) (k0_hw235 : k0_chk235 v334), ∀ a x, ((![v334] : Fin 1 → IVec S16 32) a x).toNat < S64000.size a := fun v334 k0_hw235 => k0_hw235
def k0_off241 (k0_t4 : Fin k0_t4_loop.trips) : Fin 2 → Nat :=
  let c42_i32 : BitVec 32 := 42#32
  let v337 : Index := Scalar.indexCast c42_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_89 : BitVec 32 := 16#32
  let v336 : BitVec 32 := Scalar.muli v34 c16_i32_89
  let v338 : Index := Scalar.indexCast v336
  ![42, v338.toNat]

def k0_chk236 (v341 : IVec S16 32) : Prop :=
  (∀ a x, ((![v341] : Fin 1 → IVec S16 32) a x).toNat < S64000.size a)
theorem k0_idx236_inb : ∀ (v341 : IVec S16 32) (k0_hw236 : k0_chk236 v341), ∀ a x, ((![v341] : Fin 1 → IVec S16 32) a x).toNat < S64000.size a := fun v341 k0_hw236 => k0_hw236
def k0_off242 (k0_t4 : Fin k0_t4_loop.trips) : Fin 2 → Nat :=
  let c43_i32 : BitVec 32 := 43#32
  let v344 : Index := Scalar.indexCast c43_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_90 : BitVec 32 := 16#32
  let v343 : BitVec 32 := Scalar.muli v34 c16_i32_90
  let v345 : Index := Scalar.indexCast v343
  ![43, v345.toNat]

def k0_chk237 (v348 : IVec S16 32) : Prop :=
  (∀ a x, ((![v348] : Fin 1 → IVec S16 32) a x).toNat < S64000.size a)
theorem k0_idx237_inb : ∀ (v348 : IVec S16 32) (k0_hw237 : k0_chk237 v348), ∀ a x, ((![v348] : Fin 1 → IVec S16 32) a x).toNat < S64000.size a := fun v348 k0_hw237 => k0_hw237
def k0_off243 (k0_t4 : Fin k0_t4_loop.trips) : Fin 2 → Nat :=
  let c44_i32 : BitVec 32 := 44#32
  let v351 : Index := Scalar.indexCast c44_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_91 : BitVec 32 := 16#32
  let v350 : BitVec 32 := Scalar.muli v34 c16_i32_91
  let v352 : Index := Scalar.indexCast v350
  ![44, v352.toNat]

def k0_chk238 (v355 : IVec S16 32) : Prop :=
  (∀ a x, ((![v355] : Fin 1 → IVec S16 32) a x).toNat < S64000.size a)
theorem k0_idx238_inb : ∀ (v355 : IVec S16 32) (k0_hw238 : k0_chk238 v355), ∀ a x, ((![v355] : Fin 1 → IVec S16 32) a x).toNat < S64000.size a := fun v355 k0_hw238 => k0_hw238
def k0_off244 (k0_t4 : Fin k0_t4_loop.trips) : Fin 2 → Nat :=
  let c45_i32 : BitVec 32 := 45#32
  let v358 : Index := Scalar.indexCast c45_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_92 : BitVec 32 := 16#32
  let v357 : BitVec 32 := Scalar.muli v34 c16_i32_92
  let v359 : Index := Scalar.indexCast v357
  ![45, v359.toNat]

def k0_chk239 (v362 : IVec S16 32) : Prop :=
  (∀ a x, ((![v362] : Fin 1 → IVec S16 32) a x).toNat < S64000.size a)
theorem k0_idx239_inb : ∀ (v362 : IVec S16 32) (k0_hw239 : k0_chk239 v362), ∀ a x, ((![v362] : Fin 1 → IVec S16 32) a x).toNat < S64000.size a := fun v362 k0_hw239 => k0_hw239
def k0_off245 (k0_t4 : Fin k0_t4_loop.trips) : Fin 2 → Nat :=
  let c46_i32 : BitVec 32 := 46#32
  let v365 : Index := Scalar.indexCast c46_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_93 : BitVec 32 := 16#32
  let v364 : BitVec 32 := Scalar.muli v34 c16_i32_93
  let v366 : Index := Scalar.indexCast v364
  ![46, v366.toNat]

def k0_chk240 (v369 : IVec S16 32) : Prop :=
  (∀ a x, ((![v369] : Fin 1 → IVec S16 32) a x).toNat < S64000.size a)
theorem k0_idx240_inb : ∀ (v369 : IVec S16 32) (k0_hw240 : k0_chk240 v369), ∀ a x, ((![v369] : Fin 1 → IVec S16 32) a x).toNat < S64000.size a := fun v369 k0_hw240 => k0_hw240
def k0_off246 (k0_t4 : Fin k0_t4_loop.trips) : Fin 2 → Nat :=
  let c47_i32 : BitVec 32 := 47#32
  let v372 : Index := Scalar.indexCast c47_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_94 : BitVec 32 := 16#32
  let v371 : BitVec 32 := Scalar.muli v34 c16_i32_94
  let v373 : Index := Scalar.indexCast v371
  ![47, v373.toNat]

def k0_chk241 (v376 : IVec S16 32) : Prop :=
  (∀ a x, ((![v376] : Fin 1 → IVec S16 32) a x).toNat < S64000.size a)
theorem k0_idx241_inb : ∀ (v376 : IVec S16 32) (k0_hw241 : k0_chk241 v376), ∀ a x, ((![v376] : Fin 1 → IVec S16 32) a x).toNat < S64000.size a := fun v376 k0_hw241 => k0_hw241
def k0_off247 (k0_t4 : Fin k0_t4_loop.trips) : Fin 2 → Nat :=
  let c48_i32 : BitVec 32 := 48#32
  let v379 : Index := Scalar.indexCast c48_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_95 : BitVec 32 := 16#32
  let v378 : BitVec 32 := Scalar.muli v34 c16_i32_95
  let v380 : Index := Scalar.indexCast v378
  ![48, v380.toNat]

def k0_chk242 (v383 : IVec S16 32) : Prop :=
  (∀ a x, ((![v383] : Fin 1 → IVec S16 32) a x).toNat < S64000.size a)
theorem k0_idx242_inb : ∀ (v383 : IVec S16 32) (k0_hw242 : k0_chk242 v383), ∀ a x, ((![v383] : Fin 1 → IVec S16 32) a x).toNat < S64000.size a := fun v383 k0_hw242 => k0_hw242
def k0_off248 (k0_t4 : Fin k0_t4_loop.trips) : Fin 2 → Nat :=
  let c49_i32 : BitVec 32 := 49#32
  let v386 : Index := Scalar.indexCast c49_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_96 : BitVec 32 := 16#32
  let v385 : BitVec 32 := Scalar.muli v34 c16_i32_96
  let v387 : Index := Scalar.indexCast v385
  ![49, v387.toNat]

def k0_chk243 (v390 : IVec S16 32) : Prop :=
  (∀ a x, ((![v390] : Fin 1 → IVec S16 32) a x).toNat < S64000.size a)
theorem k0_idx243_inb : ∀ (v390 : IVec S16 32) (k0_hw243 : k0_chk243 v390), ∀ a x, ((![v390] : Fin 1 → IVec S16 32) a x).toNat < S64000.size a := fun v390 k0_hw243 => k0_hw243
def k0_off249 (k0_t4 : Fin k0_t4_loop.trips) : Fin 2 → Nat :=
  let c50_i32 : BitVec 32 := 50#32
  let v393 : Index := Scalar.indexCast c50_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_97 : BitVec 32 := 16#32
  let v392 : BitVec 32 := Scalar.muli v34 c16_i32_97
  let v394 : Index := Scalar.indexCast v392
  ![50, v394.toNat]

def k0_chk244 (v397 : IVec S16 32) : Prop :=
  (∀ a x, ((![v397] : Fin 1 → IVec S16 32) a x).toNat < S64000.size a)
theorem k0_idx244_inb : ∀ (v397 : IVec S16 32) (k0_hw244 : k0_chk244 v397), ∀ a x, ((![v397] : Fin 1 → IVec S16 32) a x).toNat < S64000.size a := fun v397 k0_hw244 => k0_hw244
def k0_off250 (k0_t4 : Fin k0_t4_loop.trips) : Fin 2 → Nat :=
  let c51_i32 : BitVec 32 := 51#32
  let v400 : Index := Scalar.indexCast c51_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_98 : BitVec 32 := 16#32
  let v399 : BitVec 32 := Scalar.muli v34 c16_i32_98
  let v401 : Index := Scalar.indexCast v399
  ![51, v401.toNat]

def k0_chk245 (v404 : IVec S16 32) : Prop :=
  (∀ a x, ((![v404] : Fin 1 → IVec S16 32) a x).toNat < S64000.size a)
theorem k0_idx245_inb : ∀ (v404 : IVec S16 32) (k0_hw245 : k0_chk245 v404), ∀ a x, ((![v404] : Fin 1 → IVec S16 32) a x).toNat < S64000.size a := fun v404 k0_hw245 => k0_hw245
def k0_off251 (k0_t4 : Fin k0_t4_loop.trips) : Fin 2 → Nat :=
  let c52_i32 : BitVec 32 := 52#32
  let v407 : Index := Scalar.indexCast c52_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_99 : BitVec 32 := 16#32
  let v406 : BitVec 32 := Scalar.muli v34 c16_i32_99
  let v408 : Index := Scalar.indexCast v406
  ![52, v408.toNat]

def k0_chk246 (v411 : IVec S16 32) : Prop :=
  (∀ a x, ((![v411] : Fin 1 → IVec S16 32) a x).toNat < S64000.size a)
theorem k0_idx246_inb : ∀ (v411 : IVec S16 32) (k0_hw246 : k0_chk246 v411), ∀ a x, ((![v411] : Fin 1 → IVec S16 32) a x).toNat < S64000.size a := fun v411 k0_hw246 => k0_hw246
def k0_off252 (k0_t4 : Fin k0_t4_loop.trips) : Fin 2 → Nat :=
  let c53_i32 : BitVec 32 := 53#32
  let v414 : Index := Scalar.indexCast c53_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_100 : BitVec 32 := 16#32
  let v413 : BitVec 32 := Scalar.muli v34 c16_i32_100
  let v415 : Index := Scalar.indexCast v413
  ![53, v415.toNat]

def k0_chk247 (v418 : IVec S16 32) : Prop :=
  (∀ a x, ((![v418] : Fin 1 → IVec S16 32) a x).toNat < S64000.size a)
theorem k0_idx247_inb : ∀ (v418 : IVec S16 32) (k0_hw247 : k0_chk247 v418), ∀ a x, ((![v418] : Fin 1 → IVec S16 32) a x).toNat < S64000.size a := fun v418 k0_hw247 => k0_hw247
def k0_off253 (k0_t4 : Fin k0_t4_loop.trips) : Fin 2 → Nat :=
  let c54_i32 : BitVec 32 := 54#32
  let v421 : Index := Scalar.indexCast c54_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_101 : BitVec 32 := 16#32
  let v420 : BitVec 32 := Scalar.muli v34 c16_i32_101
  let v422 : Index := Scalar.indexCast v420
  ![54, v422.toNat]

def k0_chk248 (v425 : IVec S16 32) : Prop :=
  (∀ a x, ((![v425] : Fin 1 → IVec S16 32) a x).toNat < S64000.size a)
theorem k0_idx248_inb : ∀ (v425 : IVec S16 32) (k0_hw248 : k0_chk248 v425), ∀ a x, ((![v425] : Fin 1 → IVec S16 32) a x).toNat < S64000.size a := fun v425 k0_hw248 => k0_hw248
def k0_off254 (k0_t4 : Fin k0_t4_loop.trips) : Fin 2 → Nat :=
  let c55_i32 : BitVec 32 := 55#32
  let v428 : Index := Scalar.indexCast c55_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_102 : BitVec 32 := 16#32
  let v427 : BitVec 32 := Scalar.muli v34 c16_i32_102
  let v429 : Index := Scalar.indexCast v427
  ![55, v429.toNat]

def k0_chk249 (v432 : IVec S16 32) : Prop :=
  (∀ a x, ((![v432] : Fin 1 → IVec S16 32) a x).toNat < S64000.size a)
theorem k0_idx249_inb : ∀ (v432 : IVec S16 32) (k0_hw249 : k0_chk249 v432), ∀ a x, ((![v432] : Fin 1 → IVec S16 32) a x).toNat < S64000.size a := fun v432 k0_hw249 => k0_hw249
def k0_off255 (k0_t4 : Fin k0_t4_loop.trips) : Fin 2 → Nat :=
  let c56_i32 : BitVec 32 := 56#32
  let v435 : Index := Scalar.indexCast c56_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_103 : BitVec 32 := 16#32
  let v434 : BitVec 32 := Scalar.muli v34 c16_i32_103
  let v436 : Index := Scalar.indexCast v434
  ![56, v436.toNat]

def k0_chk250 (v439 : IVec S16 32) : Prop :=
  (∀ a x, ((![v439] : Fin 1 → IVec S16 32) a x).toNat < S64000.size a)
theorem k0_idx250_inb : ∀ (v439 : IVec S16 32) (k0_hw250 : k0_chk250 v439), ∀ a x, ((![v439] : Fin 1 → IVec S16 32) a x).toNat < S64000.size a := fun v439 k0_hw250 => k0_hw250
def k0_off256 (k0_t4 : Fin k0_t4_loop.trips) : Fin 2 → Nat :=
  let c57_i32 : BitVec 32 := 57#32
  let v442 : Index := Scalar.indexCast c57_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_104 : BitVec 32 := 16#32
  let v441 : BitVec 32 := Scalar.muli v34 c16_i32_104
  let v443 : Index := Scalar.indexCast v441
  ![57, v443.toNat]

def k0_chk251 (v446 : IVec S16 32) : Prop :=
  (∀ a x, ((![v446] : Fin 1 → IVec S16 32) a x).toNat < S64000.size a)
theorem k0_idx251_inb : ∀ (v446 : IVec S16 32) (k0_hw251 : k0_chk251 v446), ∀ a x, ((![v446] : Fin 1 → IVec S16 32) a x).toNat < S64000.size a := fun v446 k0_hw251 => k0_hw251
def k0_off257 (k0_t4 : Fin k0_t4_loop.trips) : Fin 2 → Nat :=
  let c58_i32 : BitVec 32 := 58#32
  let v449 : Index := Scalar.indexCast c58_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_105 : BitVec 32 := 16#32
  let v448 : BitVec 32 := Scalar.muli v34 c16_i32_105
  let v450 : Index := Scalar.indexCast v448
  ![58, v450.toNat]

def k0_chk252 (v453 : IVec S16 32) : Prop :=
  (∀ a x, ((![v453] : Fin 1 → IVec S16 32) a x).toNat < S64000.size a)
theorem k0_idx252_inb : ∀ (v453 : IVec S16 32) (k0_hw252 : k0_chk252 v453), ∀ a x, ((![v453] : Fin 1 → IVec S16 32) a x).toNat < S64000.size a := fun v453 k0_hw252 => k0_hw252
def k0_off258 (k0_t4 : Fin k0_t4_loop.trips) : Fin 2 → Nat :=
  let c59_i32 : BitVec 32 := 59#32
  let v456 : Index := Scalar.indexCast c59_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_106 : BitVec 32 := 16#32
  let v455 : BitVec 32 := Scalar.muli v34 c16_i32_106
  let v457 : Index := Scalar.indexCast v455
  ![59, v457.toNat]

def k0_chk253 (v460 : IVec S16 32) : Prop :=
  (∀ a x, ((![v460] : Fin 1 → IVec S16 32) a x).toNat < S64000.size a)
theorem k0_idx253_inb : ∀ (v460 : IVec S16 32) (k0_hw253 : k0_chk253 v460), ∀ a x, ((![v460] : Fin 1 → IVec S16 32) a x).toNat < S64000.size a := fun v460 k0_hw253 => k0_hw253
def k0_off259 (k0_t4 : Fin k0_t4_loop.trips) : Fin 2 → Nat :=
  let c60_i32 : BitVec 32 := 60#32
  let v463 : Index := Scalar.indexCast c60_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_107 : BitVec 32 := 16#32
  let v462 : BitVec 32 := Scalar.muli v34 c16_i32_107
  let v464 : Index := Scalar.indexCast v462
  ![60, v464.toNat]

def k0_chk254 (v467 : IVec S16 32) : Prop :=
  (∀ a x, ((![v467] : Fin 1 → IVec S16 32) a x).toNat < S64000.size a)
theorem k0_idx254_inb : ∀ (v467 : IVec S16 32) (k0_hw254 : k0_chk254 v467), ∀ a x, ((![v467] : Fin 1 → IVec S16 32) a x).toNat < S64000.size a := fun v467 k0_hw254 => k0_hw254
def k0_off260 (k0_t4 : Fin k0_t4_loop.trips) : Fin 2 → Nat :=
  let c61_i32 : BitVec 32 := 61#32
  let v470 : Index := Scalar.indexCast c61_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_108 : BitVec 32 := 16#32
  let v469 : BitVec 32 := Scalar.muli v34 c16_i32_108
  let v471 : Index := Scalar.indexCast v469
  ![61, v471.toNat]

def k0_chk255 (v474 : IVec S16 32) : Prop :=
  (∀ a x, ((![v474] : Fin 1 → IVec S16 32) a x).toNat < S64000.size a)
theorem k0_idx255_inb : ∀ (v474 : IVec S16 32) (k0_hw255 : k0_chk255 v474), ∀ a x, ((![v474] : Fin 1 → IVec S16 32) a x).toNat < S64000.size a := fun v474 k0_hw255 => k0_hw255
def k0_off261 (k0_t4 : Fin k0_t4_loop.trips) : Fin 2 → Nat :=
  let c62_i32 : BitVec 32 := 62#32
  let v477 : Index := Scalar.indexCast c62_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_109 : BitVec 32 := 16#32
  let v476 : BitVec 32 := Scalar.muli v34 c16_i32_109
  let v478 : Index := Scalar.indexCast v476
  ![62, v478.toNat]

def k0_chk256 (v481 : IVec S16 32) : Prop :=
  (∀ a x, ((![v481] : Fin 1 → IVec S16 32) a x).toNat < S64000.size a)
theorem k0_idx256_inb : ∀ (v481 : IVec S16 32) (k0_hw256 : k0_chk256 v481), ∀ a x, ((![v481] : Fin 1 → IVec S16 32) a x).toNat < S64000.size a := fun v481 k0_hw256 => k0_hw256
def k0_off262 (k0_t4 : Fin k0_t4_loop.trips) : Fin 2 → Nat :=
  let c63_i32 : BitVec 32 := 63#32
  let v484 : Index := Scalar.indexCast c63_i32
  let c0_i32_39 : BitVec 32 := 0#32
  let c0_i32_20 : BitVec 32 := 0#32
  let c1_i32_22 : BitVec 32 := 1#32
  let arg12 : BitVec 32 := Scf.iv c0_i32_20 c1_i32_22 k0_t4
  let c1_i32_38 : BitVec 32 := 1#32
  let v33 : BitVec 32 := Scalar.muli arg12 c1_i32_38
  let v34 : BitVec 32 := Scalar.addi c0_i32_39 v33
  let c16_i32_110 : BitVec 32 := 16#32
  let v483 : BitVec 32 := Scalar.muli v34 c16_i32_110
  let v485 : Index := Scalar.indexCast v483
  ![63, v485.toNat]
@[reducible] def k0_t5_loop : Scf.Loop 32 :=
  let c0_i32_28 : BitVec 32 := 0#32
  let c20_i32_29 : BitVec 32 := 20#32
  let v25 : BitVec 32 := Scalar.addi c0_i32_28 c20_i32_29
  let c1_i32_30 : BitVec 32 := 1#32
  ⟨c0_i32_28, v25, c1_i32_30⟩
def k0_off263 (k0_t5 : Fin k0_t5_loop.trips) : Fin 1 → Nat :=
  let c1280_i32_40 : BitVec 32 := 1280#32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32 : BitVec 32 := 16#32
  let v35 : BitVec 32 := Scalar.muli v34 c16_i32
  let v36 : BitVec 32 := Scalar.addi c1280_i32_40 v35
  let v37 : Index := Scalar.indexCast v36
  ![v37.toNat]

def k0_chk257 (v40 : IVec S16 32) : Prop :=
  (∀ a x, ((![v40] : Fin 1 → IVec S16 32) a x).toNat < S64000.size a)
theorem k0_idx257_inb : ∀ (v40 : IVec S16 32) (k0_hw257 : k0_chk257 v40), ∀ a x, ((![v40] : Fin 1 → IVec S16 32) a x).toNat < S64000.size a := fun v40 k0_hw257 => k0_hw257
def k0_off264 (k0_t5 : Fin k0_t5_loop.trips) : Fin 2 → Nat :=
  let c0_i32_43 : BitVec 32 := 0#32
  let v43 : Index := Scalar.indexCast c0_i32_43
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_42 : BitVec 32 := 16#32
  let v42 : BitVec 32 := Scalar.muli v34 c16_i32_42
  let v44 : Index := Scalar.indexCast v42
  ![0, v44.toNat]

def k0_chk258 (v47 : IVec S16 32) : Prop :=
  (∀ a x, ((![v47] : Fin 1 → IVec S16 32) a x).toNat < S64000.size a)
theorem k0_idx258_inb : ∀ (v47 : IVec S16 32) (k0_hw258 : k0_chk258 v47), ∀ a x, ((![v47] : Fin 1 → IVec S16 32) a x).toNat < S64000.size a := fun v47 k0_hw258 => k0_hw258
def k0_off265 (k0_t5 : Fin k0_t5_loop.trips) : Fin 2 → Nat :=
  let c1_i32_45 : BitVec 32 := 1#32
  let v50 : Index := Scalar.indexCast c1_i32_45
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_44 : BitVec 32 := 16#32
  let v49 : BitVec 32 := Scalar.muli v34 c16_i32_44
  let v51 : Index := Scalar.indexCast v49
  ![1, v51.toNat]

def k0_chk259 (v54 : IVec S16 32) : Prop :=
  (∀ a x, ((![v54] : Fin 1 → IVec S16 32) a x).toNat < S64000.size a)
theorem k0_idx259_inb : ∀ (v54 : IVec S16 32) (k0_hw259 : k0_chk259 v54), ∀ a x, ((![v54] : Fin 1 → IVec S16 32) a x).toNat < S64000.size a := fun v54 k0_hw259 => k0_hw259
def k0_off266 (k0_t5 : Fin k0_t5_loop.trips) : Fin 2 → Nat :=
  let c2_i32_47 : BitVec 32 := 2#32
  let v57 : Index := Scalar.indexCast c2_i32_47
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_46 : BitVec 32 := 16#32
  let v56 : BitVec 32 := Scalar.muli v34 c16_i32_46
  let v58 : Index := Scalar.indexCast v56
  ![2, v58.toNat]

def k0_chk260 (v61 : IVec S16 32) : Prop :=
  (∀ a x, ((![v61] : Fin 1 → IVec S16 32) a x).toNat < S64000.size a)
theorem k0_idx260_inb : ∀ (v61 : IVec S16 32) (k0_hw260 : k0_chk260 v61), ∀ a x, ((![v61] : Fin 1 → IVec S16 32) a x).toNat < S64000.size a := fun v61 k0_hw260 => k0_hw260
def k0_off267 (k0_t5 : Fin k0_t5_loop.trips) : Fin 2 → Nat :=
  let c3_i32 : BitVec 32 := 3#32
  let v64 : Index := Scalar.indexCast c3_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_48 : BitVec 32 := 16#32
  let v63 : BitVec 32 := Scalar.muli v34 c16_i32_48
  let v65 : Index := Scalar.indexCast v63
  ![3, v65.toNat]

def k0_chk261 (v68 : IVec S16 32) : Prop :=
  (∀ a x, ((![v68] : Fin 1 → IVec S16 32) a x).toNat < S64000.size a)
theorem k0_idx261_inb : ∀ (v68 : IVec S16 32) (k0_hw261 : k0_chk261 v68), ∀ a x, ((![v68] : Fin 1 → IVec S16 32) a x).toNat < S64000.size a := fun v68 k0_hw261 => k0_hw261
def k0_off268 (k0_t5 : Fin k0_t5_loop.trips) : Fin 2 → Nat :=
  let c4_i32 : BitVec 32 := 4#32
  let v71 : Index := Scalar.indexCast c4_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_49 : BitVec 32 := 16#32
  let v70 : BitVec 32 := Scalar.muli v34 c16_i32_49
  let v72 : Index := Scalar.indexCast v70
  ![4, v72.toNat]

def k0_chk262 (v75 : IVec S16 32) : Prop :=
  (∀ a x, ((![v75] : Fin 1 → IVec S16 32) a x).toNat < S64000.size a)
theorem k0_idx262_inb : ∀ (v75 : IVec S16 32) (k0_hw262 : k0_chk262 v75), ∀ a x, ((![v75] : Fin 1 → IVec S16 32) a x).toNat < S64000.size a := fun v75 k0_hw262 => k0_hw262
def k0_off269 (k0_t5 : Fin k0_t5_loop.trips) : Fin 2 → Nat :=
  let c5_i32 : BitVec 32 := 5#32
  let v78 : Index := Scalar.indexCast c5_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_50 : BitVec 32 := 16#32
  let v77 : BitVec 32 := Scalar.muli v34 c16_i32_50
  let v79 : Index := Scalar.indexCast v77
  ![5, v79.toNat]

def k0_chk263 (v82 : IVec S16 32) : Prop :=
  (∀ a x, ((![v82] : Fin 1 → IVec S16 32) a x).toNat < S64000.size a)
theorem k0_idx263_inb : ∀ (v82 : IVec S16 32) (k0_hw263 : k0_chk263 v82), ∀ a x, ((![v82] : Fin 1 → IVec S16 32) a x).toNat < S64000.size a := fun v82 k0_hw263 => k0_hw263
def k0_off270 (k0_t5 : Fin k0_t5_loop.trips) : Fin 2 → Nat :=
  let c6_i32 : BitVec 32 := 6#32
  let v85 : Index := Scalar.indexCast c6_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_51 : BitVec 32 := 16#32
  let v84 : BitVec 32 := Scalar.muli v34 c16_i32_51
  let v86 : Index := Scalar.indexCast v84
  ![6, v86.toNat]

def k0_chk264 (v89 : IVec S16 32) : Prop :=
  (∀ a x, ((![v89] : Fin 1 → IVec S16 32) a x).toNat < S64000.size a)
theorem k0_idx264_inb : ∀ (v89 : IVec S16 32) (k0_hw264 : k0_chk264 v89), ∀ a x, ((![v89] : Fin 1 → IVec S16 32) a x).toNat < S64000.size a := fun v89 k0_hw264 => k0_hw264
def k0_off271 (k0_t5 : Fin k0_t5_loop.trips) : Fin 2 → Nat :=
  let c7_i32 : BitVec 32 := 7#32
  let v92 : Index := Scalar.indexCast c7_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_52 : BitVec 32 := 16#32
  let v91 : BitVec 32 := Scalar.muli v34 c16_i32_52
  let v93 : Index := Scalar.indexCast v91
  ![7, v93.toNat]

def k0_chk265 (v96 : IVec S16 32) : Prop :=
  (∀ a x, ((![v96] : Fin 1 → IVec S16 32) a x).toNat < S64000.size a)
theorem k0_idx265_inb : ∀ (v96 : IVec S16 32) (k0_hw265 : k0_chk265 v96), ∀ a x, ((![v96] : Fin 1 → IVec S16 32) a x).toNat < S64000.size a := fun v96 k0_hw265 => k0_hw265
def k0_off272 (k0_t5 : Fin k0_t5_loop.trips) : Fin 2 → Nat :=
  let c8_i32 : BitVec 32 := 8#32
  let v99 : Index := Scalar.indexCast c8_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_53 : BitVec 32 := 16#32
  let v98 : BitVec 32 := Scalar.muli v34 c16_i32_53
  let v100 : Index := Scalar.indexCast v98
  ![8, v100.toNat]

def k0_chk266 (v103 : IVec S16 32) : Prop :=
  (∀ a x, ((![v103] : Fin 1 → IVec S16 32) a x).toNat < S64000.size a)
theorem k0_idx266_inb : ∀ (v103 : IVec S16 32) (k0_hw266 : k0_chk266 v103), ∀ a x, ((![v103] : Fin 1 → IVec S16 32) a x).toNat < S64000.size a := fun v103 k0_hw266 => k0_hw266
def k0_off273 (k0_t5 : Fin k0_t5_loop.trips) : Fin 2 → Nat :=
  let c9_i32 : BitVec 32 := 9#32
  let v106 : Index := Scalar.indexCast c9_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_54 : BitVec 32 := 16#32
  let v105 : BitVec 32 := Scalar.muli v34 c16_i32_54
  let v107 : Index := Scalar.indexCast v105
  ![9, v107.toNat]

def k0_chk267 (v110 : IVec S16 32) : Prop :=
  (∀ a x, ((![v110] : Fin 1 → IVec S16 32) a x).toNat < S64000.size a)
theorem k0_idx267_inb : ∀ (v110 : IVec S16 32) (k0_hw267 : k0_chk267 v110), ∀ a x, ((![v110] : Fin 1 → IVec S16 32) a x).toNat < S64000.size a := fun v110 k0_hw267 => k0_hw267
def k0_off274 (k0_t5 : Fin k0_t5_loop.trips) : Fin 2 → Nat :=
  let c10_i32 : BitVec 32 := 10#32
  let v113 : Index := Scalar.indexCast c10_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_55 : BitVec 32 := 16#32
  let v112 : BitVec 32 := Scalar.muli v34 c16_i32_55
  let v114 : Index := Scalar.indexCast v112
  ![10, v114.toNat]

def k0_chk268 (v117 : IVec S16 32) : Prop :=
  (∀ a x, ((![v117] : Fin 1 → IVec S16 32) a x).toNat < S64000.size a)
theorem k0_idx268_inb : ∀ (v117 : IVec S16 32) (k0_hw268 : k0_chk268 v117), ∀ a x, ((![v117] : Fin 1 → IVec S16 32) a x).toNat < S64000.size a := fun v117 k0_hw268 => k0_hw268
def k0_off275 (k0_t5 : Fin k0_t5_loop.trips) : Fin 2 → Nat :=
  let c11_i32 : BitVec 32 := 11#32
  let v120 : Index := Scalar.indexCast c11_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_56 : BitVec 32 := 16#32
  let v119 : BitVec 32 := Scalar.muli v34 c16_i32_56
  let v121 : Index := Scalar.indexCast v119
  ![11, v121.toNat]

def k0_chk269 (v124 : IVec S16 32) : Prop :=
  (∀ a x, ((![v124] : Fin 1 → IVec S16 32) a x).toNat < S64000.size a)
theorem k0_idx269_inb : ∀ (v124 : IVec S16 32) (k0_hw269 : k0_chk269 v124), ∀ a x, ((![v124] : Fin 1 → IVec S16 32) a x).toNat < S64000.size a := fun v124 k0_hw269 => k0_hw269
def k0_off276 (k0_t5 : Fin k0_t5_loop.trips) : Fin 2 → Nat :=
  let c12_i32 : BitVec 32 := 12#32
  let v127 : Index := Scalar.indexCast c12_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_57 : BitVec 32 := 16#32
  let v126 : BitVec 32 := Scalar.muli v34 c16_i32_57
  let v128 : Index := Scalar.indexCast v126
  ![12, v128.toNat]

def k0_chk270 (v131 : IVec S16 32) : Prop :=
  (∀ a x, ((![v131] : Fin 1 → IVec S16 32) a x).toNat < S64000.size a)
theorem k0_idx270_inb : ∀ (v131 : IVec S16 32) (k0_hw270 : k0_chk270 v131), ∀ a x, ((![v131] : Fin 1 → IVec S16 32) a x).toNat < S64000.size a := fun v131 k0_hw270 => k0_hw270
def k0_off277 (k0_t5 : Fin k0_t5_loop.trips) : Fin 2 → Nat :=
  let c13_i32 : BitVec 32 := 13#32
  let v134 : Index := Scalar.indexCast c13_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_58 : BitVec 32 := 16#32
  let v133 : BitVec 32 := Scalar.muli v34 c16_i32_58
  let v135 : Index := Scalar.indexCast v133
  ![13, v135.toNat]

def k0_chk271 (v138 : IVec S16 32) : Prop :=
  (∀ a x, ((![v138] : Fin 1 → IVec S16 32) a x).toNat < S64000.size a)
theorem k0_idx271_inb : ∀ (v138 : IVec S16 32) (k0_hw271 : k0_chk271 v138), ∀ a x, ((![v138] : Fin 1 → IVec S16 32) a x).toNat < S64000.size a := fun v138 k0_hw271 => k0_hw271
def k0_off278 (k0_t5 : Fin k0_t5_loop.trips) : Fin 2 → Nat :=
  let c14_i32 : BitVec 32 := 14#32
  let v141 : Index := Scalar.indexCast c14_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_59 : BitVec 32 := 16#32
  let v140 : BitVec 32 := Scalar.muli v34 c16_i32_59
  let v142 : Index := Scalar.indexCast v140
  ![14, v142.toNat]

def k0_chk272 (v145 : IVec S16 32) : Prop :=
  (∀ a x, ((![v145] : Fin 1 → IVec S16 32) a x).toNat < S64000.size a)
theorem k0_idx272_inb : ∀ (v145 : IVec S16 32) (k0_hw272 : k0_chk272 v145), ∀ a x, ((![v145] : Fin 1 → IVec S16 32) a x).toNat < S64000.size a := fun v145 k0_hw272 => k0_hw272
def k0_off279 (k0_t5 : Fin k0_t5_loop.trips) : Fin 2 → Nat :=
  let c15_i32 : BitVec 32 := 15#32
  let v148 : Index := Scalar.indexCast c15_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_60 : BitVec 32 := 16#32
  let v147 : BitVec 32 := Scalar.muli v34 c16_i32_60
  let v149 : Index := Scalar.indexCast v147
  ![15, v149.toNat]

def k0_chk273 (v152 : IVec S16 32) : Prop :=
  (∀ a x, ((![v152] : Fin 1 → IVec S16 32) a x).toNat < S64000.size a)
theorem k0_idx273_inb : ∀ (v152 : IVec S16 32) (k0_hw273 : k0_chk273 v152), ∀ a x, ((![v152] : Fin 1 → IVec S16 32) a x).toNat < S64000.size a := fun v152 k0_hw273 => k0_hw273
def k0_off280 (k0_t5 : Fin k0_t5_loop.trips) : Fin 2 → Nat :=
  let c16_i32_62 : BitVec 32 := 16#32
  let v155 : Index := Scalar.indexCast c16_i32_62
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_61 : BitVec 32 := 16#32
  let v154 : BitVec 32 := Scalar.muli v34 c16_i32_61
  let v156 : Index := Scalar.indexCast v154
  ![16, v156.toNat]

def k0_chk274 (v159 : IVec S16 32) : Prop :=
  (∀ a x, ((![v159] : Fin 1 → IVec S16 32) a x).toNat < S64000.size a)
theorem k0_idx274_inb : ∀ (v159 : IVec S16 32) (k0_hw274 : k0_chk274 v159), ∀ a x, ((![v159] : Fin 1 → IVec S16 32) a x).toNat < S64000.size a := fun v159 k0_hw274 => k0_hw274
def k0_off281 (k0_t5 : Fin k0_t5_loop.trips) : Fin 2 → Nat :=
  let c17_i32 : BitVec 32 := 17#32
  let v162 : Index := Scalar.indexCast c17_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_63 : BitVec 32 := 16#32
  let v161 : BitVec 32 := Scalar.muli v34 c16_i32_63
  let v163 : Index := Scalar.indexCast v161
  ![17, v163.toNat]

def k0_chk275 (v166 : IVec S16 32) : Prop :=
  (∀ a x, ((![v166] : Fin 1 → IVec S16 32) a x).toNat < S64000.size a)
theorem k0_idx275_inb : ∀ (v166 : IVec S16 32) (k0_hw275 : k0_chk275 v166), ∀ a x, ((![v166] : Fin 1 → IVec S16 32) a x).toNat < S64000.size a := fun v166 k0_hw275 => k0_hw275
def k0_off282 (k0_t5 : Fin k0_t5_loop.trips) : Fin 2 → Nat :=
  let c18_i32 : BitVec 32 := 18#32
  let v169 : Index := Scalar.indexCast c18_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_64 : BitVec 32 := 16#32
  let v168 : BitVec 32 := Scalar.muli v34 c16_i32_64
  let v170 : Index := Scalar.indexCast v168
  ![18, v170.toNat]

def k0_chk276 (v173 : IVec S16 32) : Prop :=
  (∀ a x, ((![v173] : Fin 1 → IVec S16 32) a x).toNat < S64000.size a)
theorem k0_idx276_inb : ∀ (v173 : IVec S16 32) (k0_hw276 : k0_chk276 v173), ∀ a x, ((![v173] : Fin 1 → IVec S16 32) a x).toNat < S64000.size a := fun v173 k0_hw276 => k0_hw276
def k0_off283 (k0_t5 : Fin k0_t5_loop.trips) : Fin 2 → Nat :=
  let c19_i32 : BitVec 32 := 19#32
  let v176 : Index := Scalar.indexCast c19_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_65 : BitVec 32 := 16#32
  let v175 : BitVec 32 := Scalar.muli v34 c16_i32_65
  let v177 : Index := Scalar.indexCast v175
  ![19, v177.toNat]

def k0_chk277 (v180 : IVec S16 32) : Prop :=
  (∀ a x, ((![v180] : Fin 1 → IVec S16 32) a x).toNat < S64000.size a)
theorem k0_idx277_inb : ∀ (v180 : IVec S16 32) (k0_hw277 : k0_chk277 v180), ∀ a x, ((![v180] : Fin 1 → IVec S16 32) a x).toNat < S64000.size a := fun v180 k0_hw277 => k0_hw277
def k0_off284 (k0_t5 : Fin k0_t5_loop.trips) : Fin 2 → Nat :=
  let c20_i32_67 : BitVec 32 := 20#32
  let v183 : Index := Scalar.indexCast c20_i32_67
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_66 : BitVec 32 := 16#32
  let v182 : BitVec 32 := Scalar.muli v34 c16_i32_66
  let v184 : Index := Scalar.indexCast v182
  ![20, v184.toNat]

def k0_chk278 (v187 : IVec S16 32) : Prop :=
  (∀ a x, ((![v187] : Fin 1 → IVec S16 32) a x).toNat < S64000.size a)
theorem k0_idx278_inb : ∀ (v187 : IVec S16 32) (k0_hw278 : k0_chk278 v187), ∀ a x, ((![v187] : Fin 1 → IVec S16 32) a x).toNat < S64000.size a := fun v187 k0_hw278 => k0_hw278
def k0_off285 (k0_t5 : Fin k0_t5_loop.trips) : Fin 2 → Nat :=
  let c21_i32 : BitVec 32 := 21#32
  let v190 : Index := Scalar.indexCast c21_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_68 : BitVec 32 := 16#32
  let v189 : BitVec 32 := Scalar.muli v34 c16_i32_68
  let v191 : Index := Scalar.indexCast v189
  ![21, v191.toNat]

def k0_chk279 (v194 : IVec S16 32) : Prop :=
  (∀ a x, ((![v194] : Fin 1 → IVec S16 32) a x).toNat < S64000.size a)
theorem k0_idx279_inb : ∀ (v194 : IVec S16 32) (k0_hw279 : k0_chk279 v194), ∀ a x, ((![v194] : Fin 1 → IVec S16 32) a x).toNat < S64000.size a := fun v194 k0_hw279 => k0_hw279
def k0_off286 (k0_t5 : Fin k0_t5_loop.trips) : Fin 2 → Nat :=
  let c22_i32 : BitVec 32 := 22#32
  let v197 : Index := Scalar.indexCast c22_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_69 : BitVec 32 := 16#32
  let v196 : BitVec 32 := Scalar.muli v34 c16_i32_69
  let v198 : Index := Scalar.indexCast v196
  ![22, v198.toNat]

def k0_chk280 (v201 : IVec S16 32) : Prop :=
  (∀ a x, ((![v201] : Fin 1 → IVec S16 32) a x).toNat < S64000.size a)
theorem k0_idx280_inb : ∀ (v201 : IVec S16 32) (k0_hw280 : k0_chk280 v201), ∀ a x, ((![v201] : Fin 1 → IVec S16 32) a x).toNat < S64000.size a := fun v201 k0_hw280 => k0_hw280
def k0_off287 (k0_t5 : Fin k0_t5_loop.trips) : Fin 2 → Nat :=
  let c23_i32 : BitVec 32 := 23#32
  let v204 : Index := Scalar.indexCast c23_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_70 : BitVec 32 := 16#32
  let v203 : BitVec 32 := Scalar.muli v34 c16_i32_70
  let v205 : Index := Scalar.indexCast v203
  ![23, v205.toNat]

def k0_chk281 (v208 : IVec S16 32) : Prop :=
  (∀ a x, ((![v208] : Fin 1 → IVec S16 32) a x).toNat < S64000.size a)
theorem k0_idx281_inb : ∀ (v208 : IVec S16 32) (k0_hw281 : k0_chk281 v208), ∀ a x, ((![v208] : Fin 1 → IVec S16 32) a x).toNat < S64000.size a := fun v208 k0_hw281 => k0_hw281
def k0_off288 (k0_t5 : Fin k0_t5_loop.trips) : Fin 2 → Nat :=
  let c24_i32 : BitVec 32 := 24#32
  let v211 : Index := Scalar.indexCast c24_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_71 : BitVec 32 := 16#32
  let v210 : BitVec 32 := Scalar.muli v34 c16_i32_71
  let v212 : Index := Scalar.indexCast v210
  ![24, v212.toNat]

def k0_chk282 (v215 : IVec S16 32) : Prop :=
  (∀ a x, ((![v215] : Fin 1 → IVec S16 32) a x).toNat < S64000.size a)
theorem k0_idx282_inb : ∀ (v215 : IVec S16 32) (k0_hw282 : k0_chk282 v215), ∀ a x, ((![v215] : Fin 1 → IVec S16 32) a x).toNat < S64000.size a := fun v215 k0_hw282 => k0_hw282
def k0_off289 (k0_t5 : Fin k0_t5_loop.trips) : Fin 2 → Nat :=
  let c25_i32 : BitVec 32 := 25#32
  let v218 : Index := Scalar.indexCast c25_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_72 : BitVec 32 := 16#32
  let v217 : BitVec 32 := Scalar.muli v34 c16_i32_72
  let v219 : Index := Scalar.indexCast v217
  ![25, v219.toNat]

def k0_chk283 (v222 : IVec S16 32) : Prop :=
  (∀ a x, ((![v222] : Fin 1 → IVec S16 32) a x).toNat < S64000.size a)
theorem k0_idx283_inb : ∀ (v222 : IVec S16 32) (k0_hw283 : k0_chk283 v222), ∀ a x, ((![v222] : Fin 1 → IVec S16 32) a x).toNat < S64000.size a := fun v222 k0_hw283 => k0_hw283
def k0_off290 (k0_t5 : Fin k0_t5_loop.trips) : Fin 2 → Nat :=
  let c26_i32 : BitVec 32 := 26#32
  let v225 : Index := Scalar.indexCast c26_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_73 : BitVec 32 := 16#32
  let v224 : BitVec 32 := Scalar.muli v34 c16_i32_73
  let v226 : Index := Scalar.indexCast v224
  ![26, v226.toNat]

def k0_chk284 (v229 : IVec S16 32) : Prop :=
  (∀ a x, ((![v229] : Fin 1 → IVec S16 32) a x).toNat < S64000.size a)
theorem k0_idx284_inb : ∀ (v229 : IVec S16 32) (k0_hw284 : k0_chk284 v229), ∀ a x, ((![v229] : Fin 1 → IVec S16 32) a x).toNat < S64000.size a := fun v229 k0_hw284 => k0_hw284
def k0_off291 (k0_t5 : Fin k0_t5_loop.trips) : Fin 2 → Nat :=
  let c27_i32 : BitVec 32 := 27#32
  let v232 : Index := Scalar.indexCast c27_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_74 : BitVec 32 := 16#32
  let v231 : BitVec 32 := Scalar.muli v34 c16_i32_74
  let v233 : Index := Scalar.indexCast v231
  ![27, v233.toNat]

def k0_chk285 (v236 : IVec S16 32) : Prop :=
  (∀ a x, ((![v236] : Fin 1 → IVec S16 32) a x).toNat < S64000.size a)
theorem k0_idx285_inb : ∀ (v236 : IVec S16 32) (k0_hw285 : k0_chk285 v236), ∀ a x, ((![v236] : Fin 1 → IVec S16 32) a x).toNat < S64000.size a := fun v236 k0_hw285 => k0_hw285
def k0_off292 (k0_t5 : Fin k0_t5_loop.trips) : Fin 2 → Nat :=
  let c28_i32 : BitVec 32 := 28#32
  let v239 : Index := Scalar.indexCast c28_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_75 : BitVec 32 := 16#32
  let v238 : BitVec 32 := Scalar.muli v34 c16_i32_75
  let v240 : Index := Scalar.indexCast v238
  ![28, v240.toNat]

def k0_chk286 (v243 : IVec S16 32) : Prop :=
  (∀ a x, ((![v243] : Fin 1 → IVec S16 32) a x).toNat < S64000.size a)
theorem k0_idx286_inb : ∀ (v243 : IVec S16 32) (k0_hw286 : k0_chk286 v243), ∀ a x, ((![v243] : Fin 1 → IVec S16 32) a x).toNat < S64000.size a := fun v243 k0_hw286 => k0_hw286
def k0_off293 (k0_t5 : Fin k0_t5_loop.trips) : Fin 2 → Nat :=
  let c29_i32 : BitVec 32 := 29#32
  let v246 : Index := Scalar.indexCast c29_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_76 : BitVec 32 := 16#32
  let v245 : BitVec 32 := Scalar.muli v34 c16_i32_76
  let v247 : Index := Scalar.indexCast v245
  ![29, v247.toNat]

def k0_chk287 (v250 : IVec S16 32) : Prop :=
  (∀ a x, ((![v250] : Fin 1 → IVec S16 32) a x).toNat < S64000.size a)
theorem k0_idx287_inb : ∀ (v250 : IVec S16 32) (k0_hw287 : k0_chk287 v250), ∀ a x, ((![v250] : Fin 1 → IVec S16 32) a x).toNat < S64000.size a := fun v250 k0_hw287 => k0_hw287
def k0_off294 (k0_t5 : Fin k0_t5_loop.trips) : Fin 2 → Nat :=
  let c30_i32 : BitVec 32 := 30#32
  let v253 : Index := Scalar.indexCast c30_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_77 : BitVec 32 := 16#32
  let v252 : BitVec 32 := Scalar.muli v34 c16_i32_77
  let v254 : Index := Scalar.indexCast v252
  ![30, v254.toNat]

def k0_chk288 (v257 : IVec S16 32) : Prop :=
  (∀ a x, ((![v257] : Fin 1 → IVec S16 32) a x).toNat < S64000.size a)
theorem k0_idx288_inb : ∀ (v257 : IVec S16 32) (k0_hw288 : k0_chk288 v257), ∀ a x, ((![v257] : Fin 1 → IVec S16 32) a x).toNat < S64000.size a := fun v257 k0_hw288 => k0_hw288
def k0_off295 (k0_t5 : Fin k0_t5_loop.trips) : Fin 2 → Nat :=
  let c31_i32 : BitVec 32 := 31#32
  let v260 : Index := Scalar.indexCast c31_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_78 : BitVec 32 := 16#32
  let v259 : BitVec 32 := Scalar.muli v34 c16_i32_78
  let v261 : Index := Scalar.indexCast v259
  ![31, v261.toNat]

def k0_chk289 (v264 : IVec S16 32) : Prop :=
  (∀ a x, ((![v264] : Fin 1 → IVec S16 32) a x).toNat < S64000.size a)
theorem k0_idx289_inb : ∀ (v264 : IVec S16 32) (k0_hw289 : k0_chk289 v264), ∀ a x, ((![v264] : Fin 1 → IVec S16 32) a x).toNat < S64000.size a := fun v264 k0_hw289 => k0_hw289
def k0_off296 (k0_t5 : Fin k0_t5_loop.trips) : Fin 2 → Nat :=
  let c32_i32 : BitVec 32 := 32#32
  let v267 : Index := Scalar.indexCast c32_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_79 : BitVec 32 := 16#32
  let v266 : BitVec 32 := Scalar.muli v34 c16_i32_79
  let v268 : Index := Scalar.indexCast v266
  ![32, v268.toNat]

def k0_chk290 (v271 : IVec S16 32) : Prop :=
  (∀ a x, ((![v271] : Fin 1 → IVec S16 32) a x).toNat < S64000.size a)
theorem k0_idx290_inb : ∀ (v271 : IVec S16 32) (k0_hw290 : k0_chk290 v271), ∀ a x, ((![v271] : Fin 1 → IVec S16 32) a x).toNat < S64000.size a := fun v271 k0_hw290 => k0_hw290
def k0_off297 (k0_t5 : Fin k0_t5_loop.trips) : Fin 2 → Nat :=
  let c33_i32 : BitVec 32 := 33#32
  let v274 : Index := Scalar.indexCast c33_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_80 : BitVec 32 := 16#32
  let v273 : BitVec 32 := Scalar.muli v34 c16_i32_80
  let v275 : Index := Scalar.indexCast v273
  ![33, v275.toNat]

def k0_chk291 (v278 : IVec S16 32) : Prop :=
  (∀ a x, ((![v278] : Fin 1 → IVec S16 32) a x).toNat < S64000.size a)
theorem k0_idx291_inb : ∀ (v278 : IVec S16 32) (k0_hw291 : k0_chk291 v278), ∀ a x, ((![v278] : Fin 1 → IVec S16 32) a x).toNat < S64000.size a := fun v278 k0_hw291 => k0_hw291
def k0_off298 (k0_t5 : Fin k0_t5_loop.trips) : Fin 2 → Nat :=
  let c34_i32 : BitVec 32 := 34#32
  let v281 : Index := Scalar.indexCast c34_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_81 : BitVec 32 := 16#32
  let v280 : BitVec 32 := Scalar.muli v34 c16_i32_81
  let v282 : Index := Scalar.indexCast v280
  ![34, v282.toNat]

def k0_chk292 (v285 : IVec S16 32) : Prop :=
  (∀ a x, ((![v285] : Fin 1 → IVec S16 32) a x).toNat < S64000.size a)
theorem k0_idx292_inb : ∀ (v285 : IVec S16 32) (k0_hw292 : k0_chk292 v285), ∀ a x, ((![v285] : Fin 1 → IVec S16 32) a x).toNat < S64000.size a := fun v285 k0_hw292 => k0_hw292
def k0_off299 (k0_t5 : Fin k0_t5_loop.trips) : Fin 2 → Nat :=
  let c35_i32 : BitVec 32 := 35#32
  let v288 : Index := Scalar.indexCast c35_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_82 : BitVec 32 := 16#32
  let v287 : BitVec 32 := Scalar.muli v34 c16_i32_82
  let v289 : Index := Scalar.indexCast v287
  ![35, v289.toNat]

def k0_chk293 (v292 : IVec S16 32) : Prop :=
  (∀ a x, ((![v292] : Fin 1 → IVec S16 32) a x).toNat < S64000.size a)
theorem k0_idx293_inb : ∀ (v292 : IVec S16 32) (k0_hw293 : k0_chk293 v292), ∀ a x, ((![v292] : Fin 1 → IVec S16 32) a x).toNat < S64000.size a := fun v292 k0_hw293 => k0_hw293
def k0_off300 (k0_t5 : Fin k0_t5_loop.trips) : Fin 2 → Nat :=
  let c36_i32 : BitVec 32 := 36#32
  let v295 : Index := Scalar.indexCast c36_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_83 : BitVec 32 := 16#32
  let v294 : BitVec 32 := Scalar.muli v34 c16_i32_83
  let v296 : Index := Scalar.indexCast v294
  ![36, v296.toNat]

def k0_chk294 (v299 : IVec S16 32) : Prop :=
  (∀ a x, ((![v299] : Fin 1 → IVec S16 32) a x).toNat < S64000.size a)
theorem k0_idx294_inb : ∀ (v299 : IVec S16 32) (k0_hw294 : k0_chk294 v299), ∀ a x, ((![v299] : Fin 1 → IVec S16 32) a x).toNat < S64000.size a := fun v299 k0_hw294 => k0_hw294
def k0_off301 (k0_t5 : Fin k0_t5_loop.trips) : Fin 2 → Nat :=
  let c37_i32 : BitVec 32 := 37#32
  let v302 : Index := Scalar.indexCast c37_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_84 : BitVec 32 := 16#32
  let v301 : BitVec 32 := Scalar.muli v34 c16_i32_84
  let v303 : Index := Scalar.indexCast v301
  ![37, v303.toNat]

def k0_chk295 (v306 : IVec S16 32) : Prop :=
  (∀ a x, ((![v306] : Fin 1 → IVec S16 32) a x).toNat < S64000.size a)
theorem k0_idx295_inb : ∀ (v306 : IVec S16 32) (k0_hw295 : k0_chk295 v306), ∀ a x, ((![v306] : Fin 1 → IVec S16 32) a x).toNat < S64000.size a := fun v306 k0_hw295 => k0_hw295
def k0_off302 (k0_t5 : Fin k0_t5_loop.trips) : Fin 2 → Nat :=
  let c38_i32 : BitVec 32 := 38#32
  let v309 : Index := Scalar.indexCast c38_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_85 : BitVec 32 := 16#32
  let v308 : BitVec 32 := Scalar.muli v34 c16_i32_85
  let v310 : Index := Scalar.indexCast v308
  ![38, v310.toNat]

def k0_chk296 (v313 : IVec S16 32) : Prop :=
  (∀ a x, ((![v313] : Fin 1 → IVec S16 32) a x).toNat < S64000.size a)
theorem k0_idx296_inb : ∀ (v313 : IVec S16 32) (k0_hw296 : k0_chk296 v313), ∀ a x, ((![v313] : Fin 1 → IVec S16 32) a x).toNat < S64000.size a := fun v313 k0_hw296 => k0_hw296
def k0_off303 (k0_t5 : Fin k0_t5_loop.trips) : Fin 2 → Nat :=
  let c39_i32 : BitVec 32 := 39#32
  let v316 : Index := Scalar.indexCast c39_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_86 : BitVec 32 := 16#32
  let v315 : BitVec 32 := Scalar.muli v34 c16_i32_86
  let v317 : Index := Scalar.indexCast v315
  ![39, v317.toNat]

def k0_chk297 (v320 : IVec S16 32) : Prop :=
  (∀ a x, ((![v320] : Fin 1 → IVec S16 32) a x).toNat < S64000.size a)
theorem k0_idx297_inb : ∀ (v320 : IVec S16 32) (k0_hw297 : k0_chk297 v320), ∀ a x, ((![v320] : Fin 1 → IVec S16 32) a x).toNat < S64000.size a := fun v320 k0_hw297 => k0_hw297
def k0_off304 (k0_t5 : Fin k0_t5_loop.trips) : Fin 2 → Nat :=
  let c40_i32 : BitVec 32 := 40#32
  let v323 : Index := Scalar.indexCast c40_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_87 : BitVec 32 := 16#32
  let v322 : BitVec 32 := Scalar.muli v34 c16_i32_87
  let v324 : Index := Scalar.indexCast v322
  ![40, v324.toNat]

def k0_chk298 (v327 : IVec S16 32) : Prop :=
  (∀ a x, ((![v327] : Fin 1 → IVec S16 32) a x).toNat < S64000.size a)
theorem k0_idx298_inb : ∀ (v327 : IVec S16 32) (k0_hw298 : k0_chk298 v327), ∀ a x, ((![v327] : Fin 1 → IVec S16 32) a x).toNat < S64000.size a := fun v327 k0_hw298 => k0_hw298
def k0_off305 (k0_t5 : Fin k0_t5_loop.trips) : Fin 2 → Nat :=
  let c41_i32 : BitVec 32 := 41#32
  let v330 : Index := Scalar.indexCast c41_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_88 : BitVec 32 := 16#32
  let v329 : BitVec 32 := Scalar.muli v34 c16_i32_88
  let v331 : Index := Scalar.indexCast v329
  ![41, v331.toNat]

def k0_chk299 (v334 : IVec S16 32) : Prop :=
  (∀ a x, ((![v334] : Fin 1 → IVec S16 32) a x).toNat < S64000.size a)
theorem k0_idx299_inb : ∀ (v334 : IVec S16 32) (k0_hw299 : k0_chk299 v334), ∀ a x, ((![v334] : Fin 1 → IVec S16 32) a x).toNat < S64000.size a := fun v334 k0_hw299 => k0_hw299
def k0_off306 (k0_t5 : Fin k0_t5_loop.trips) : Fin 2 → Nat :=
  let c42_i32 : BitVec 32 := 42#32
  let v337 : Index := Scalar.indexCast c42_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_89 : BitVec 32 := 16#32
  let v336 : BitVec 32 := Scalar.muli v34 c16_i32_89
  let v338 : Index := Scalar.indexCast v336
  ![42, v338.toNat]

def k0_chk300 (v341 : IVec S16 32) : Prop :=
  (∀ a x, ((![v341] : Fin 1 → IVec S16 32) a x).toNat < S64000.size a)
theorem k0_idx300_inb : ∀ (v341 : IVec S16 32) (k0_hw300 : k0_chk300 v341), ∀ a x, ((![v341] : Fin 1 → IVec S16 32) a x).toNat < S64000.size a := fun v341 k0_hw300 => k0_hw300
def k0_off307 (k0_t5 : Fin k0_t5_loop.trips) : Fin 2 → Nat :=
  let c43_i32 : BitVec 32 := 43#32
  let v344 : Index := Scalar.indexCast c43_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_90 : BitVec 32 := 16#32
  let v343 : BitVec 32 := Scalar.muli v34 c16_i32_90
  let v345 : Index := Scalar.indexCast v343
  ![43, v345.toNat]

def k0_chk301 (v348 : IVec S16 32) : Prop :=
  (∀ a x, ((![v348] : Fin 1 → IVec S16 32) a x).toNat < S64000.size a)
theorem k0_idx301_inb : ∀ (v348 : IVec S16 32) (k0_hw301 : k0_chk301 v348), ∀ a x, ((![v348] : Fin 1 → IVec S16 32) a x).toNat < S64000.size a := fun v348 k0_hw301 => k0_hw301
def k0_off308 (k0_t5 : Fin k0_t5_loop.trips) : Fin 2 → Nat :=
  let c44_i32 : BitVec 32 := 44#32
  let v351 : Index := Scalar.indexCast c44_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_91 : BitVec 32 := 16#32
  let v350 : BitVec 32 := Scalar.muli v34 c16_i32_91
  let v352 : Index := Scalar.indexCast v350
  ![44, v352.toNat]

def k0_chk302 (v355 : IVec S16 32) : Prop :=
  (∀ a x, ((![v355] : Fin 1 → IVec S16 32) a x).toNat < S64000.size a)
theorem k0_idx302_inb : ∀ (v355 : IVec S16 32) (k0_hw302 : k0_chk302 v355), ∀ a x, ((![v355] : Fin 1 → IVec S16 32) a x).toNat < S64000.size a := fun v355 k0_hw302 => k0_hw302
def k0_off309 (k0_t5 : Fin k0_t5_loop.trips) : Fin 2 → Nat :=
  let c45_i32 : BitVec 32 := 45#32
  let v358 : Index := Scalar.indexCast c45_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_92 : BitVec 32 := 16#32
  let v357 : BitVec 32 := Scalar.muli v34 c16_i32_92
  let v359 : Index := Scalar.indexCast v357
  ![45, v359.toNat]

def k0_chk303 (v362 : IVec S16 32) : Prop :=
  (∀ a x, ((![v362] : Fin 1 → IVec S16 32) a x).toNat < S64000.size a)
theorem k0_idx303_inb : ∀ (v362 : IVec S16 32) (k0_hw303 : k0_chk303 v362), ∀ a x, ((![v362] : Fin 1 → IVec S16 32) a x).toNat < S64000.size a := fun v362 k0_hw303 => k0_hw303
def k0_off310 (k0_t5 : Fin k0_t5_loop.trips) : Fin 2 → Nat :=
  let c46_i32 : BitVec 32 := 46#32
  let v365 : Index := Scalar.indexCast c46_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_93 : BitVec 32 := 16#32
  let v364 : BitVec 32 := Scalar.muli v34 c16_i32_93
  let v366 : Index := Scalar.indexCast v364
  ![46, v366.toNat]

def k0_chk304 (v369 : IVec S16 32) : Prop :=
  (∀ a x, ((![v369] : Fin 1 → IVec S16 32) a x).toNat < S64000.size a)
theorem k0_idx304_inb : ∀ (v369 : IVec S16 32) (k0_hw304 : k0_chk304 v369), ∀ a x, ((![v369] : Fin 1 → IVec S16 32) a x).toNat < S64000.size a := fun v369 k0_hw304 => k0_hw304
def k0_off311 (k0_t5 : Fin k0_t5_loop.trips) : Fin 2 → Nat :=
  let c47_i32 : BitVec 32 := 47#32
  let v372 : Index := Scalar.indexCast c47_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_94 : BitVec 32 := 16#32
  let v371 : BitVec 32 := Scalar.muli v34 c16_i32_94
  let v373 : Index := Scalar.indexCast v371
  ![47, v373.toNat]

def k0_chk305 (v376 : IVec S16 32) : Prop :=
  (∀ a x, ((![v376] : Fin 1 → IVec S16 32) a x).toNat < S64000.size a)
theorem k0_idx305_inb : ∀ (v376 : IVec S16 32) (k0_hw305 : k0_chk305 v376), ∀ a x, ((![v376] : Fin 1 → IVec S16 32) a x).toNat < S64000.size a := fun v376 k0_hw305 => k0_hw305
def k0_off312 (k0_t5 : Fin k0_t5_loop.trips) : Fin 2 → Nat :=
  let c48_i32 : BitVec 32 := 48#32
  let v379 : Index := Scalar.indexCast c48_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_95 : BitVec 32 := 16#32
  let v378 : BitVec 32 := Scalar.muli v34 c16_i32_95
  let v380 : Index := Scalar.indexCast v378
  ![48, v380.toNat]

def k0_chk306 (v383 : IVec S16 32) : Prop :=
  (∀ a x, ((![v383] : Fin 1 → IVec S16 32) a x).toNat < S64000.size a)
theorem k0_idx306_inb : ∀ (v383 : IVec S16 32) (k0_hw306 : k0_chk306 v383), ∀ a x, ((![v383] : Fin 1 → IVec S16 32) a x).toNat < S64000.size a := fun v383 k0_hw306 => k0_hw306
def k0_off313 (k0_t5 : Fin k0_t5_loop.trips) : Fin 2 → Nat :=
  let c49_i32 : BitVec 32 := 49#32
  let v386 : Index := Scalar.indexCast c49_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_96 : BitVec 32 := 16#32
  let v385 : BitVec 32 := Scalar.muli v34 c16_i32_96
  let v387 : Index := Scalar.indexCast v385
  ![49, v387.toNat]

def k0_chk307 (v390 : IVec S16 32) : Prop :=
  (∀ a x, ((![v390] : Fin 1 → IVec S16 32) a x).toNat < S64000.size a)
theorem k0_idx307_inb : ∀ (v390 : IVec S16 32) (k0_hw307 : k0_chk307 v390), ∀ a x, ((![v390] : Fin 1 → IVec S16 32) a x).toNat < S64000.size a := fun v390 k0_hw307 => k0_hw307
def k0_off314 (k0_t5 : Fin k0_t5_loop.trips) : Fin 2 → Nat :=
  let c50_i32 : BitVec 32 := 50#32
  let v393 : Index := Scalar.indexCast c50_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_97 : BitVec 32 := 16#32
  let v392 : BitVec 32 := Scalar.muli v34 c16_i32_97
  let v394 : Index := Scalar.indexCast v392
  ![50, v394.toNat]

def k0_chk308 (v397 : IVec S16 32) : Prop :=
  (∀ a x, ((![v397] : Fin 1 → IVec S16 32) a x).toNat < S64000.size a)
theorem k0_idx308_inb : ∀ (v397 : IVec S16 32) (k0_hw308 : k0_chk308 v397), ∀ a x, ((![v397] : Fin 1 → IVec S16 32) a x).toNat < S64000.size a := fun v397 k0_hw308 => k0_hw308
def k0_off315 (k0_t5 : Fin k0_t5_loop.trips) : Fin 2 → Nat :=
  let c51_i32 : BitVec 32 := 51#32
  let v400 : Index := Scalar.indexCast c51_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_98 : BitVec 32 := 16#32
  let v399 : BitVec 32 := Scalar.muli v34 c16_i32_98
  let v401 : Index := Scalar.indexCast v399
  ![51, v401.toNat]

def k0_chk309 (v404 : IVec S16 32) : Prop :=
  (∀ a x, ((![v404] : Fin 1 → IVec S16 32) a x).toNat < S64000.size a)
theorem k0_idx309_inb : ∀ (v404 : IVec S16 32) (k0_hw309 : k0_chk309 v404), ∀ a x, ((![v404] : Fin 1 → IVec S16 32) a x).toNat < S64000.size a := fun v404 k0_hw309 => k0_hw309
def k0_off316 (k0_t5 : Fin k0_t5_loop.trips) : Fin 2 → Nat :=
  let c52_i32 : BitVec 32 := 52#32
  let v407 : Index := Scalar.indexCast c52_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_99 : BitVec 32 := 16#32
  let v406 : BitVec 32 := Scalar.muli v34 c16_i32_99
  let v408 : Index := Scalar.indexCast v406
  ![52, v408.toNat]

def k0_chk310 (v411 : IVec S16 32) : Prop :=
  (∀ a x, ((![v411] : Fin 1 → IVec S16 32) a x).toNat < S64000.size a)
theorem k0_idx310_inb : ∀ (v411 : IVec S16 32) (k0_hw310 : k0_chk310 v411), ∀ a x, ((![v411] : Fin 1 → IVec S16 32) a x).toNat < S64000.size a := fun v411 k0_hw310 => k0_hw310
def k0_off317 (k0_t5 : Fin k0_t5_loop.trips) : Fin 2 → Nat :=
  let c53_i32 : BitVec 32 := 53#32
  let v414 : Index := Scalar.indexCast c53_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_100 : BitVec 32 := 16#32
  let v413 : BitVec 32 := Scalar.muli v34 c16_i32_100
  let v415 : Index := Scalar.indexCast v413
  ![53, v415.toNat]

def k0_chk311 (v418 : IVec S16 32) : Prop :=
  (∀ a x, ((![v418] : Fin 1 → IVec S16 32) a x).toNat < S64000.size a)
theorem k0_idx311_inb : ∀ (v418 : IVec S16 32) (k0_hw311 : k0_chk311 v418), ∀ a x, ((![v418] : Fin 1 → IVec S16 32) a x).toNat < S64000.size a := fun v418 k0_hw311 => k0_hw311
def k0_off318 (k0_t5 : Fin k0_t5_loop.trips) : Fin 2 → Nat :=
  let c54_i32 : BitVec 32 := 54#32
  let v421 : Index := Scalar.indexCast c54_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_101 : BitVec 32 := 16#32
  let v420 : BitVec 32 := Scalar.muli v34 c16_i32_101
  let v422 : Index := Scalar.indexCast v420
  ![54, v422.toNat]

def k0_chk312 (v425 : IVec S16 32) : Prop :=
  (∀ a x, ((![v425] : Fin 1 → IVec S16 32) a x).toNat < S64000.size a)
theorem k0_idx312_inb : ∀ (v425 : IVec S16 32) (k0_hw312 : k0_chk312 v425), ∀ a x, ((![v425] : Fin 1 → IVec S16 32) a x).toNat < S64000.size a := fun v425 k0_hw312 => k0_hw312
def k0_off319 (k0_t5 : Fin k0_t5_loop.trips) : Fin 2 → Nat :=
  let c55_i32 : BitVec 32 := 55#32
  let v428 : Index := Scalar.indexCast c55_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_102 : BitVec 32 := 16#32
  let v427 : BitVec 32 := Scalar.muli v34 c16_i32_102
  let v429 : Index := Scalar.indexCast v427
  ![55, v429.toNat]

def k0_chk313 (v432 : IVec S16 32) : Prop :=
  (∀ a x, ((![v432] : Fin 1 → IVec S16 32) a x).toNat < S64000.size a)
theorem k0_idx313_inb : ∀ (v432 : IVec S16 32) (k0_hw313 : k0_chk313 v432), ∀ a x, ((![v432] : Fin 1 → IVec S16 32) a x).toNat < S64000.size a := fun v432 k0_hw313 => k0_hw313
def k0_off320 (k0_t5 : Fin k0_t5_loop.trips) : Fin 2 → Nat :=
  let c56_i32 : BitVec 32 := 56#32
  let v435 : Index := Scalar.indexCast c56_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_103 : BitVec 32 := 16#32
  let v434 : BitVec 32 := Scalar.muli v34 c16_i32_103
  let v436 : Index := Scalar.indexCast v434
  ![56, v436.toNat]

def k0_chk314 (v439 : IVec S16 32) : Prop :=
  (∀ a x, ((![v439] : Fin 1 → IVec S16 32) a x).toNat < S64000.size a)
theorem k0_idx314_inb : ∀ (v439 : IVec S16 32) (k0_hw314 : k0_chk314 v439), ∀ a x, ((![v439] : Fin 1 → IVec S16 32) a x).toNat < S64000.size a := fun v439 k0_hw314 => k0_hw314
def k0_off321 (k0_t5 : Fin k0_t5_loop.trips) : Fin 2 → Nat :=
  let c57_i32 : BitVec 32 := 57#32
  let v442 : Index := Scalar.indexCast c57_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_104 : BitVec 32 := 16#32
  let v441 : BitVec 32 := Scalar.muli v34 c16_i32_104
  let v443 : Index := Scalar.indexCast v441
  ![57, v443.toNat]

def k0_chk315 (v446 : IVec S16 32) : Prop :=
  (∀ a x, ((![v446] : Fin 1 → IVec S16 32) a x).toNat < S64000.size a)
theorem k0_idx315_inb : ∀ (v446 : IVec S16 32) (k0_hw315 : k0_chk315 v446), ∀ a x, ((![v446] : Fin 1 → IVec S16 32) a x).toNat < S64000.size a := fun v446 k0_hw315 => k0_hw315
def k0_off322 (k0_t5 : Fin k0_t5_loop.trips) : Fin 2 → Nat :=
  let c58_i32 : BitVec 32 := 58#32
  let v449 : Index := Scalar.indexCast c58_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_105 : BitVec 32 := 16#32
  let v448 : BitVec 32 := Scalar.muli v34 c16_i32_105
  let v450 : Index := Scalar.indexCast v448
  ![58, v450.toNat]

def k0_chk316 (v453 : IVec S16 32) : Prop :=
  (∀ a x, ((![v453] : Fin 1 → IVec S16 32) a x).toNat < S64000.size a)
theorem k0_idx316_inb : ∀ (v453 : IVec S16 32) (k0_hw316 : k0_chk316 v453), ∀ a x, ((![v453] : Fin 1 → IVec S16 32) a x).toNat < S64000.size a := fun v453 k0_hw316 => k0_hw316
def k0_off323 (k0_t5 : Fin k0_t5_loop.trips) : Fin 2 → Nat :=
  let c59_i32 : BitVec 32 := 59#32
  let v456 : Index := Scalar.indexCast c59_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_106 : BitVec 32 := 16#32
  let v455 : BitVec 32 := Scalar.muli v34 c16_i32_106
  let v457 : Index := Scalar.indexCast v455
  ![59, v457.toNat]

def k0_chk317 (v460 : IVec S16 32) : Prop :=
  (∀ a x, ((![v460] : Fin 1 → IVec S16 32) a x).toNat < S64000.size a)
theorem k0_idx317_inb : ∀ (v460 : IVec S16 32) (k0_hw317 : k0_chk317 v460), ∀ a x, ((![v460] : Fin 1 → IVec S16 32) a x).toNat < S64000.size a := fun v460 k0_hw317 => k0_hw317
def k0_off324 (k0_t5 : Fin k0_t5_loop.trips) : Fin 2 → Nat :=
  let c60_i32 : BitVec 32 := 60#32
  let v463 : Index := Scalar.indexCast c60_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_107 : BitVec 32 := 16#32
  let v462 : BitVec 32 := Scalar.muli v34 c16_i32_107
  let v464 : Index := Scalar.indexCast v462
  ![60, v464.toNat]

def k0_chk318 (v467 : IVec S16 32) : Prop :=
  (∀ a x, ((![v467] : Fin 1 → IVec S16 32) a x).toNat < S64000.size a)
theorem k0_idx318_inb : ∀ (v467 : IVec S16 32) (k0_hw318 : k0_chk318 v467), ∀ a x, ((![v467] : Fin 1 → IVec S16 32) a x).toNat < S64000.size a := fun v467 k0_hw318 => k0_hw318
def k0_off325 (k0_t5 : Fin k0_t5_loop.trips) : Fin 2 → Nat :=
  let c61_i32 : BitVec 32 := 61#32
  let v470 : Index := Scalar.indexCast c61_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_108 : BitVec 32 := 16#32
  let v469 : BitVec 32 := Scalar.muli v34 c16_i32_108
  let v471 : Index := Scalar.indexCast v469
  ![61, v471.toNat]

def k0_chk319 (v474 : IVec S16 32) : Prop :=
  (∀ a x, ((![v474] : Fin 1 → IVec S16 32) a x).toNat < S64000.size a)
theorem k0_idx319_inb : ∀ (v474 : IVec S16 32) (k0_hw319 : k0_chk319 v474), ∀ a x, ((![v474] : Fin 1 → IVec S16 32) a x).toNat < S64000.size a := fun v474 k0_hw319 => k0_hw319
def k0_off326 (k0_t5 : Fin k0_t5_loop.trips) : Fin 2 → Nat :=
  let c62_i32 : BitVec 32 := 62#32
  let v477 : Index := Scalar.indexCast c62_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_109 : BitVec 32 := 16#32
  let v476 : BitVec 32 := Scalar.muli v34 c16_i32_109
  let v478 : Index := Scalar.indexCast v476
  ![62, v478.toNat]

def k0_chk320 (v481 : IVec S16 32) : Prop :=
  (∀ a x, ((![v481] : Fin 1 → IVec S16 32) a x).toNat < S64000.size a)
theorem k0_idx320_inb : ∀ (v481 : IVec S16 32) (k0_hw320 : k0_chk320 v481), ∀ a x, ((![v481] : Fin 1 → IVec S16 32) a x).toNat < S64000.size a := fun v481 k0_hw320 => k0_hw320
def k0_off327 (k0_t5 : Fin k0_t5_loop.trips) : Fin 2 → Nat :=
  let c63_i32 : BitVec 32 := 63#32
  let v484 : Index := Scalar.indexCast c63_i32
  let c0_i32_39 : BitVec 32 := 0#32
  let c0_i32_28 : BitVec 32 := 0#32
  let c1_i32_30 : BitVec 32 := 1#32
  let arg12 : BitVec 32 := Scf.iv c0_i32_28 c1_i32_30 k0_t5
  let c1_i32_38 : BitVec 32 := 1#32
  let v33 : BitVec 32 := Scalar.muli arg12 c1_i32_38
  let v34 : BitVec 32 := Scalar.addi c0_i32_39 v33
  let c16_i32_110 : BitVec 32 := 16#32
  let v483 : BitVec 32 := Scalar.muli v34 c16_i32_110
  let v485 : Index := Scalar.indexCast v483
  ![63, v485.toNat]
abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v157 : BitVec 1 := Scalar.cmpi .eq arg0 c9_i32
  let v158 : BitVec 32 := Scalar.extui v157
  let c0_i32_39 : BitVec 32 := 0#32
  let v159 : BitVec 1 := Scalar.cmpi .ne v158 c0_i32_39
  v159

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S1024 : Shape := ⟨1, ![1024]⟩
abbrev S1000x64 : Shape := ⟨2, ![1000, 64]⟩
abbrev S384x64 : Shape := ⟨2, ![384, 64]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S1024x50x1 : Shape := ⟨3, ![1024, 50, 1]⟩
abbrev S1x1x1 : Shape := ⟨3, ![1, 1, 1]⟩
abbrev S1024x50x64 : Shape := ⟨3, ![1024, 50, 64]⟩
abbrev S50x1024x64 : Shape := ⟨3, ![50, 1024, 64]⟩
abbrev S50x1024x384 : Shape := ⟨3, ![50, 1024, 384]⟩
abbrev S1x1x384 : Shape := ⟨3, ![1, 1, 384]⟩
abbrev S1024x128 : Shape := ⟨2, ![1024, 128]⟩
abbrev S50x1024x128 : Shape := ⟨3, ![50, 1024, 128]⟩
abbrev S1x1024x384 : Shape := ⟨3, ![1, 1024, 384]⟩
abbrev S1024x384 : Shape := ⟨2, ![1024, 384]⟩
abbrev S128x384 : Shape := ⟨2, ![128, 384]⟩
abbrev S1x384 : Shape := ⟨2, ![1, 384]⟩
abbrev S1x1024x128 : Shape := ⟨3, ![1, 1024, 128]⟩
abbrev S1024x1 : Shape := ⟨2, ![1024, 1]⟩
abbrev S1024x2 : Shape := ⟨2, ![1024, 2]⟩
abbrev S128x64 : Shape := ⟨2, ![128, 64]⟩
abbrev S1024x64 : Shape := ⟨2, ![1024, 64]⟩
abbrev S64x1 : Shape := ⟨2, ![64, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S1024x50, .i32⟩
  | 1 => ⟨S1024, .i32⟩
  | 2 => ⟨S1000x64, .f32⟩
  | 3 => ⟨S384x64, .f32⟩
  | 4 => ⟨S384x128, .f32⟩
  | 5 => ⟨S384, .f32⟩
  | 6 => ⟨S384, .f32⟩
  | 7 => ⟨S64x128, .f32⟩
  | 8 => ⟨S64, .f32⟩
  | 9 => ⟨S1x64, .f32⟩
  | 10 => ⟨S1, .f32⟩
  | 11 => ⟨S_, .i32⟩
  | 12 => ⟨S1024x50, .i32⟩
  | 13 => ⟨S1024x50, .i1⟩
  | 14 => ⟨S_, .i32⟩
  | 15 => ⟨S1024x50, .i32⟩
  | 16 => ⟨S1024x50, .i32⟩
  | 17 => ⟨S1024x50, .i32⟩
  | 18 => ⟨S1024x50x1, .i32⟩
  | 19 => ⟨S1, .i32⟩
  | 20 => ⟨S_, .i32⟩
  | 21 => ⟨S1024x50x1, .i32⟩
  | 22 => ⟨S1024x50x1, .i1⟩
  | 23 => ⟨S1x1x1, .i32⟩
  | 24 => ⟨S1024x50x1, .i32⟩
  | 25 => ⟨S1024x50x1, .i1⟩
  | 26 => ⟨S1024x50x1, .i1⟩
  | 27 => ⟨S_, .i1⟩
  | 28 => ⟨S1024x50, .i1⟩
  | 29 => ⟨S1024x50x64, .f32⟩
  | 30 => ⟨S1024x50x64, .i1⟩
  | 31 => ⟨S_, .f32⟩
  | 32 => ⟨S1024x50x64, .f32⟩
  | 33 => ⟨S1024x50x64, .f32⟩
  | 34 => ⟨S50x1024x64, .f32⟩
  | 35 => ⟨S50x1024x384, .f32⟩
  | 36 => ⟨S1x1x384, .f32⟩
  | 37 => ⟨S50x1024x384, .f32⟩
  | 38 => ⟨S50x1024x384, .f32⟩
  | 39 => ⟨S_, .f32⟩
  | 40 => ⟨S1024x128, .f32⟩
  | 41 => ⟨S_, .f32⟩
  | 42 => ⟨S50x1024x128, .f32⟩
  | 43 => ⟨S_, .i32⟩
  | 44 => ⟨S50x1024x384, .f32⟩
  | 45 => ⟨S384x128, .f32⟩
  | 46 => ⟨S384, .f32⟩
  | 47 => ⟨S_, .i32⟩
  | 48 => ⟨S1024x128, .f32⟩
  | 49 => ⟨S50x1024x128, .f32⟩
  | 50 => ⟨S_, .i32⟩
  | 51 => ⟨S_, .i1⟩
  | 52 => ⟨S_, .i32⟩
  | 53 => ⟨S_, .i32⟩
  | 54 => ⟨S1x1024x384, .f32⟩
  | 55 => ⟨S1024x384, .f32⟩
  | 56 => ⟨S128x384, .f32⟩
  | 57 => ⟨S1024x384, .f32⟩
  | 58 => ⟨S1x384, .f32⟩
  | 59 => ⟨S1024x384, .f32⟩
  | 60 => ⟨S1024x384, .f32⟩
  | 61 => ⟨S1024x128, .f32⟩
  | 62 => ⟨S1024x128, .f32⟩
  | 63 => ⟨S1024x128, .f32⟩
  | 64 => ⟨S1024x128, .f32⟩
  | 65 => ⟨S1024x128, .f32⟩
  | 66 => ⟨S1024x128, .f32⟩
  | 67 => ⟨S1024x128, .f32⟩
  | 68 => ⟨S1024x128, .f32⟩
  | 69 => ⟨S1024x128, .f32⟩
  | 70 => ⟨S_, .f32⟩
  | 71 => ⟨S1024x128, .f32⟩
  | 72 => ⟨S1024x128, .f32⟩
  | 73 => ⟨S_, .f32⟩
  | 74 => ⟨S1024x128, .f32⟩
  | 75 => ⟨S1024x128, .f32⟩
  | 76 => ⟨S1024x128, .f32⟩
  | 77 => ⟨S1024x128, .f32⟩
  | 78 => ⟨S1024x128, .f32⟩
  | 79 => ⟨S_, .f32⟩
  | 80 => ⟨S1024x128, .f32⟩
  | 81 => ⟨S1024x128, .f32⟩
  | 82 => ⟨S_, .f32⟩
  | 83 => ⟨S1024x128, .f32⟩
  | 84 => ⟨S1024x128, .f32⟩
  | 85 => ⟨S1024x128, .f32⟩
  | 86 => ⟨S1024x128, .f32⟩
  | 87 => ⟨S1024x128, .f32⟩
  | 88 => ⟨S_, .f32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S1x1024x128, .f32⟩
  | 95 => ⟨S_, .i32⟩
  | 96 => ⟨S_, .i32⟩
  | 97 => ⟨S50x1024x128, .f32⟩
  | 98 => ⟨S_, .i32⟩
  | 99 => ⟨S_, .i32⟩
  | 100 => ⟨S_, .i32⟩
  | 101 => ⟨S1024, .i32⟩
  | 102 => ⟨S1024, .i32⟩
  | 103 => ⟨S_, .i32⟩
  | 104 => ⟨S_, .i32⟩
  | 105 => ⟨S_, .i32⟩
  | 106 => ⟨S1024, .i32⟩
  | 107 => ⟨S1024, .i32⟩
  | 108 => ⟨S_, .i32⟩
  | 109 => ⟨S1024, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i32⟩
  | 125 => ⟨S1024, .i32⟩
  | 126 => ⟨S1024x1, .i32⟩
  | 127 => ⟨S1024x1, .i32⟩
  | _ => ⟨S1024x50, .i32⟩

abbrev hbmTy0_1 (i : Nat) : BufTy := match i % 128 with
  | 0 => ⟨S1024x2, .i32⟩
  | 1 => ⟨S1024x128, .f32⟩
  | 2 => ⟨S128x64, .f32⟩
  | 3 => ⟨S1024x64, .f32⟩
  | 4 => ⟨S1x64, .f32⟩
  | 5 => ⟨S1024x64, .f32⟩
  | 6 => ⟨S1024x64, .f32⟩
  | 7 => ⟨S1024x64, .f32⟩
  | 8 => ⟨S64x1, .f32⟩
  | 9 => ⟨S1024x1, .f32⟩
  | 10 => ⟨S1x1, .f32⟩
  | 11 => ⟨S1024x1, .f32⟩
  | 12 => ⟨S1024x1, .f32⟩
  | 13 => ⟨S1024, .f32⟩
  | _ => ⟨S1024x50, .i32⟩

abbrev hbmTy (i : Nat) : BufTy := match i / 128 with
  | 0 => hbmTy0_0 i
  | 1 => hbmTy0_1 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_cst_0 : Ref sig .tc := ⟨.hbm, 41, rfl⟩
abbrev main_v7 : Ref sig .tc := ⟨.hbm, 42, rfl⟩
abbrev main_c : Ref sig .tc := ⟨.hbm, 43, rfl⟩
abbrev main_v8_0 : Ref sig .tc := ⟨.hbm, 44, rfl⟩
abbrev main_v8_1 : Ref sig .tc := ⟨.hbm, 45, rfl⟩
abbrev main_v8_2 : Ref sig .tc := ⟨.hbm, 46, rfl⟩
abbrev main_v8_3 : Ref sig .tc := ⟨.hbm, 47, rfl⟩
abbrev main_v8_4 : Ref sig .tc := ⟨.hbm, 48, rfl⟩
abbrev main_v8_5 : Ref sig .tc := ⟨.hbm, 49, rfl⟩
abbrev main_while0c_c_13 : Ref sig .tc := ⟨.hbm, 50, rfl⟩
abbrev main_while0c_v39 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_cst_13 : Ref sig .tc := ⟨.hbm, 70, rfl⟩
abbrev main_while0b_v54 : Ref sig .tc := ⟨.hbm, 71, rfl⟩
abbrev main_while0b_v55 : Ref sig .tc := ⟨.hbm, 72, rfl⟩
abbrev main_while0b_cst_14 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_v59 : Ref sig .tc := ⟨.hbm, 77, rfl⟩
abbrev main_while0b_v60 : Ref sig .tc := ⟨.hbm, 78, rfl⟩
abbrev main_while0b_cst_15 : Ref sig .tc := ⟨.hbm, 79, rfl⟩
abbrev main_while0b_v61 : Ref sig .tc := ⟨.hbm, 80, rfl⟩
abbrev main_while0b_v62 : Ref sig .tc := ⟨.hbm, 81, rfl⟩
abbrev main_while0b_cst_16 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_cst_17 : Ref sig .tc := ⟨.hbm, 88, rfl⟩
abbrev main_while0b_v68 : Ref sig .tc := ⟨.hbm, 89, rfl⟩
abbrev main_while0b_v69 : Ref sig .tc := ⟨.hbm, 90, rfl⟩
abbrev main_while0b_v70 : Ref sig .tc := ⟨.hbm, 91, rfl⟩
abbrev main_while0b_v71 : Ref sig .tc := ⟨.hbm, 92, rfl⟩
abbrev main_while0b_v72 : Ref sig .tc := ⟨.hbm, 93, rfl⟩
abbrev main_while0b_call2_v0 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_v73 : Ref sig .tc := ⟨.hbm, 97, rfl⟩
abbrev main_while0b_c_18 : Ref sig .tc := ⟨.hbm, 98, rfl⟩
abbrev main_while0b_v74 : Ref sig .tc := ⟨.hbm, 99, rfl⟩
abbrev main_c_1 : Ref sig .tc := ⟨.hbm, 100, rfl⟩
abbrev main_v9 : Ref sig .tc := ⟨.hbm, 101, rfl⟩
abbrev main_v10 : Ref sig .tc := ⟨.hbm, 102, rfl⟩
abbrev main_c_2 : Ref sig .tc := ⟨.hbm, 103, rfl⟩
abbrev main_c_3 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v11 : Ref sig .tc := ⟨.hbm, 110, rfl⟩
abbrev main_v12 : Ref sig .tc := ⟨.hbm, 111, rfl⟩
abbrev main_c_4 : Ref sig .tc := ⟨.hbm, 112, rfl⟩
abbrev main_v13 : Ref sig .tc := ⟨.hbm, 113, rfl⟩
abbrev main_v14 : Ref sig .tc := ⟨.hbm, 114, rfl⟩
abbrev main_c_5 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_c_6 : Ref sig .tc := ⟨.hbm, 119, rfl⟩
abbrev main_v18 : Ref sig .tc := ⟨.hbm, 120, rfl⟩
abbrev main_v19 : Ref sig .tc := ⟨.hbm, 121, rfl⟩
abbrev main_c_7 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩

abbrev nD : Nat := 1
abbrev τ : Topo := Topo.v7x

variable {F : FTy → Type} [FloatOps F]

abbrev main_while0_count : Scf.Loop 32 := ⟨0#32, 50#32, 1#32⟩
-- ==== Proof.Ideal.Setup.lean ====
/-
  The kernel's launch as the SparseCore launch theorem sees it, and the ghost state the proof draws on: the handshakes'
  rounds, a second copy of the rounds for the TensorCore pipeline, and the counters of the tiles' own copies.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.Pipeline.Regions
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the copies' counters. -/
abbrev UH : Type := URounds (GSem nD τ sig) ℕ
abbrev UG : Type := URounds (GSem nD τ sig) Unit
abbrev UU : Type := UH × (UG × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UG (MM F) :=
  ((Emb.inl : Emb UG (UG × Counters)).trans (Emb.inr : Emb (UG × Counters) UU)).trans
    (uEmb (nD := nD) (sig := sig) (Ix := HIx 1) (Val := Elt F) (Name := ℕ) (U := UU) (Lvl := ℕ)).toEmb
abbrev EC : UEmb Counters (MM F) := countersEmb

instance EH_landsIn : (EH : Emb UH (MM F)).LandsIn (upEmb : UEmb _ (MM F)) := by unfold EH; infer_instance
instance EP_landsIn : (EP : Emb UG (MM F)).LandsIn (upEmb : UEmb _ (MM F)) := by unfold EP; infer_instance
instance EC_landsIn : (EC (F := F)).LandsIn (upEmb : UEmb _ (MM F)) := by infer_instance

end Cert.Proof.Ideal
-- ==== Proof.Ideal.Gru.lean ====
/-
  The recurrent part of the kernel. One grid point runs five steps of the recurrence on a block of 5 × 1024 embedded tokens.
  This module names what it computes — a step `cellStep`, the five states `five`, the running selection `picks`, the head
  `head` — and shows that a body started from owned buffers leaves exactly these in them.
-/
module

public import proofs.«01_k».proof.Proof.Ideal.Setup
public import Idealize.ShloMosaic.Lib.Pipeline.Value

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a grid point computes -/

/-- One step of the recurrence: `gi` holds the three gates' input parts, `whh` the recurrent weights, `h` the state. -/
def cellStep (gi : FVec F S384x1024 .f32) (whh : Vec F S384x128 .f32) (h : FVec F S128x1024 .f32) : FVec F S128x1024 .f32 :=
  have gh : FVec F S384x1024 .f32 := matmul dot_S384x128_S128x1024_S384x1024_1_0_0_1_n_n none whh h (constant S384x1024 .f32 0x00000000#32)
  have r : FVec F S128x1024 .f32 := logistic (addf (extractStridedSlice S128x1024 ![0, 0] gi slices_S384x1024_o0_0_S128x1024)
    (extractStridedSlice S128x1024 ![0, 0] gh slices_S384x1024_o0_0_S128x1024))
  have z : FVec F S128x1024 .f32 := logistic (addf (extractStridedSlice S128x1024 ![128, 0] gi slices_S384x1024_o128_0_S128x1024)
    (extractStridedSlice S128x1024 ![128, 0] gh slices_S384x1024_o128_0_S128x1024))
  have n : FVec F S128x1024 .f32 := tanh (addf (extractStridedSlice S128x1024 ![256, 0] gi slices_S384x1024_o256_0_S128x1024)
    (mulf r (extractStridedSlice S128x1024 ![256, 0] gh slices_S384x1024_o256_0_S128x1024)))
  addf (mulf (subf (broadcast S128x1024 (Scalar.ofBits .f32 0x3F800000#32)) z) n) (mulf z h)

/-- The input parts of the `k`-th of the block's five steps. -/
def gates (g : FVec F S384x5120 .f32) : ℕ → FVec F S384x1024 .f32
  | 0 => extractStridedSlice S384x1024 ![0, 0] g slices_S384x5120_o0_0_S384x1024
  | 1 => extractStridedSlice S384x1024 ![0, 1024] g slices_S384x5120_o0_1024_S384x1024
  | 2 => extractStridedSlice S384x1024 ![0, 2048] g slices_S384x5120_o0_2048_S384x1024
  | 3 => extractStridedSlice S384x1024 ![0, 3072] g slices_S384x5120_o0_3072_S384x1024
  | _ => extractStridedSlice S384x1024 ![0, 4096] g slices_S384x5120_o0_4096_S384x1024

/-- The state after `k` of the block's steps. -/
def five (g : FVec F S384x5120 .f32) (whh : Vec F S384x128 .f32) (h : FVec F S128x1024 .f32) : ℕ → FVec F S128x1024 .f32
  | 0 => h
  | k + 1 => cellStep (gates g k) whh (five g whh h k)

/-- Columns whose last index is `t` take the state `h`, the others keep `a`. -/
def pick (len : IVec S1x1024 32) (t : BitVec 32) (h a : FVec F S128x1024 .f32) : FVec F S128x1024 .f32 :=
  select (broadcastTo S128x1024 (shapeCast S1x1024 (cmpi .eq len (broadcast S1x1024 t)) shapeCasts_S1x1024_S1x1024) broadcasts_S1x1024_S128x1024) h a

/-- The selection after `k` of the steps of grid point `i`. -/
def picks (i : BitVec 32) (len : IVec S1x1024 32) (g : FVec F S384x5120 .f32) (whh : Vec F S384x128 .f32) (h a : FVec F S128x1024 .f32) : ℕ → FVec F S128x1024 .f32
  | 0 => a
  | k + 1 => pick len (Scalar.addi (Scalar.muli i 5#32) (BitVec.ofNat 32 k)) (five g whh h (k + 1)) (picks i len g whh h a k)

/-- The head: two dense layers on the selected states. -/
def head (w1 : Vec F S64x128 .f32) (b1 : Vec F S64x1 .f32) (w2 : Vec F S1x64 .f32) (b2 : Vec F S1x1 .f32) (a : FVec F S128x1024 .f32) : FVec F S1x1024 .f32 :=
  have o : FVec F S64x1024 .f32 := tanh (addf (matmul dot_S64x128_S128x1024_S64x1024_1_0_0_1_n_n none w1 a (constant S64x1024 .f32 0x00000000#32))
    (broadcastTo S64x1024 (shapeCast S64x1 b1 shapeCasts_S64x1_S64x1) broadcasts_S64x1_S64x1024))
  addf (matmul dot_S1x64_S64x1024_S1x1024_1_0_0_1_n_n none w2 o (constant S1x1024 .f32 0x00000000#32))
    (broadcastTo S1x1024 (shapeCast S1x1 b2 shapeCasts_S1x1_S1x1) broadcasts_S1x1_S1x1024)

/-! ## The body's own expressions are these -/

theorem first_step (v3 : Vec F S384x64 .f32) (v4 : Vec F S64x5120 .f32) (v7 : Vec F S128x1024 .f32) (v14 : Vec F S384x128 .f32) :
    k1_pay9 v3 v4 v7 v14 = cellStep (gates (k1_pay7 v3 v4) 0) v14 v7 := rfl
theorem second_step (v6 : FVec F S384x5120 .f32) (v33 : FVec F S128x1024 .f32) (v42 : Vec F S384x128 .f32) :
    k1_pay11 v6 v33 v42 = cellStep (gates v6 1) v42 v33 := rfl
theorem third_step (v6 : FVec F S384x5120 .f32) (v33 : FVec F S128x1024 .f32) (v42 v70 : Vec F S384x128 .f32) :
    k1_pay18 (k1_pay11 v6 v33 v42) (k1_pay15 v6 v33 v42 v70) (k1_pay16 v6 v33 v42 v70) (k1_pay17 v6 v33 v42 v70)
      = cellStep (gates v6 2) v70 (k1_pay11 v6 v33 v42) := rfl
theorem fourth_step (v6 : FVec F S384x5120 .f32) (v61 v79 v84 v86 : FVec F S128x1024 .f32) (v98 : Vec F S384x128 .f32) :
    k1_pay19 v6 v61 v79 v84 v86 v98 = cellStep (gates v6 3) v98 (k1_pay18 v61 v79 v84 v86) := rfl
theorem fifth_step (v6 : FVec F S384x5120 .f32) (v61 v79 v84 v86 : FVec F S128x1024 .f32) (v98 v126 : Vec F S384x128 .f32) :
    k1_pay1 (k1_pay19 v6 v61 v79 v84 v86 v98) (k1_pay21 v6) (k1_pay22 v6 v61 v79 v84 v86 v98 v126) (k1_pay23 v6 v61 v79 v84 v86 v98 v126) (k1_pay24 v6 v61 v79 v84 v86 v98 v126)
      = cellStep (gates v6 4) v126 (k1_pay19 v6 v61 v79 v84 v86 v98) := rfl

section Point

variable (i : grid1.Coords) (xs : Vec F S64x5120 .f32) (len : Vec F S1x1024 .i32) (wih : Vec F S384x64 .f32) (whh : Vec F S384x128 .f32) (h a : Vec F S128x1024 .f32)

/-- The first two states and selections, and the third step's gates, as the body names them. -/
abbrev b1h : FVec F S128x1024 .f32 := k1_pay9 wih xs h whh
abbrev b2h : FVec F S128x1024 .f32 := k1_pay11 (k1_pay7 wih xs) (b1h xs wih whh h) whh
abbrev b2r : FVec F S128x1024 .f32 := k1_pay15 (k1_pay7 wih xs) (b1h xs wih whh h) whh whh
abbrev b2n : FVec F S128x1024 .f32 := k1_pay16 (k1_pay7 wih xs) (b1h xs wih whh h) whh whh
abbrev b2z : FVec F S128x1024 .f32 := k1_pay17 (k1_pay7 wih xs) (b1h xs wih whh h) whh whh
abbrev b4h : FVec F S128x1024 .f32 := k1_pay19 (k1_pay7 wih xs) (b2h xs wih whh h) (b2r xs wih whh h) (b2n xs wih whh h) (b2z xs wih whh h) whh
abbrev b4a : FVec F S128x1024 .f32 :=
  k1_pay20 (BitVec.ofNat 32 (i 0).val) (k1_pay7 wih xs) (k1_pay8 len) (b2h xs wih whh h)
    (k1_pay12 (BitVec.ofNat 32 (i 0).val) (k1_pay7 wih xs) (k1_pay8 len) (b1h xs wih whh h) (k1_pay10 i wih xs h a len whh) whh)
    (Scalar.addi (Scalar.muli (BitVec.ofNat 32 (i 0).val) 5#32) 2#32) (b2r xs wih whh h) (b2n xs wih whh h) (b2z xs wih whh h) whh
abbrev b5m : FVec F S384x1024 .f32 := k1_pay22 (k1_pay7 wih xs) (b2h xs wih whh h) (b2r xs wih whh h) (b2n xs wih whh h) (b2z xs wih whh h) whh whh
abbrev b5r : FVec F S128x1024 .f32 := k1_pay23 (k1_pay7 wih xs) (b2h xs wih whh h) (b2r xs wih whh h) (b2n xs wih whh h) (b2z xs wih whh h) whh whh
abbrev b5z : FVec F S128x1024 .f32 := k1_pay24 (k1_pay7 wih xs) (b2h xs wih whh h) (b2r xs wih whh h) (b2n xs wih whh h) (b2z xs wih whh h) whh whh

theorem fourth_state : b4h xs wih whh h = five (k1_pay7 wih xs) whh h 4 := by
  unfold b4h
  rw [fourth_step]
  unfold b2r b2n b2z b2h
  rw [third_step, second_step]
  unfold b1h
  rw [first_step]
  rfl

theorem fifth_state : k1_pay1 (b4h xs wih whh h) (k1_pay21 (k1_pay7 wih xs)) (b5m xs wih whh h) (b5r xs wih whh h) (b5z xs wih whh h)
    = five (k1_pay7 wih xs) whh h 5 := by
  unfold b5m b5r b5z b4h
  rw [fifth_step]
  exact congrArg (cellStep (gates (k1_pay7 wih xs) 4) whh) (fourth_state xs wih whh h)

theorem fourth_pick : b4a i xs len wih whh h a = picks (BitVec.ofNat 32 (i 0).val) len (k1_pay7 wih xs) whh h a 4 := by
  have e8 : k1_pay8 (F := F) len = len := shapeCast_self _ _
  have e1 : b1h xs wih whh h = five (k1_pay7 wih xs) whh h 1 := by unfold b1h; rw [first_step]; rfl
  have e2 : b2h xs wih whh h = five (k1_pay7 wih xs) whh h 2 := by unfold b2h; rw [second_step, e1]; rfl
  have e3 : k1_pay18 (b2h xs wih whh h) (b2r xs wih whh h) (b2n xs wih whh h) (b2z xs wih whh h) = five (k1_pay7 wih xs) whh h 3 := by
    unfold b2r b2n b2z b2h; rw [third_step, second_step, e1]; rfl
  have e4 := fourth_state xs wih whh h
  have q1 : k1_pay10 i wih xs h a len whh = pick (k1_pay8 (F := F) len) (Scalar.addi (Scalar.muli (BitVec.ofNat 32 (i 0).val) 5#32) 0#32) (b1h xs wih whh h) a := rfl
  have q2 (x : FVec F S128x1024 .f32) : k1_pay12 (BitVec.ofNat 32 (i 0).val) (k1_pay7 wih xs) (k1_pay8 (F := F) len) (b1h xs wih whh h) x whh
      = pick (k1_pay8 (F := F) len) (Scalar.addi (Scalar.muli (BitVec.ofNat 32 (i 0).val) 5#32) 1#32) (b2h xs wih whh h) x := rfl
  have q4 (x : FVec F S128x1024 .f32) (w : BitVec 32) : k1_pay20 (BitVec.ofNat 32 (i 0).val) (k1_pay7 wih xs) (k1_pay8 (F := F) len) (b2h xs wih whh h) x w (b2r xs wih whh h) (b2n xs wih whh h) (b2z xs wih whh h) whh
      = pick (k1_pay8 (F := F) len) (Scalar.addi (Scalar.muli (BitVec.ofNat 32 (i 0).val) 5#32) 3#32) (b4h xs wih whh h)
          (pick (k1_pay8 (F := F) len) w (k1_pay18 (b2h xs wih whh h) (b2r xs wih whh h) (b2n xs wih whh h) (b2z xs wih whh h)) x) := rfl
  unfold b4a
  rw [q4, e3, e4, q2, q1, e8, e1, e2]
  rfl

theorem fifth_pick : k1_pay2 (k1_pay8 len) (b4h xs wih whh h) (b4a i xs len wih whh h a) (Scalar.addi (Scalar.muli (BitVec.ofNat 32 (i 0).val) 5#32) 4#32)
      (k1_pay21 (k1_pay7 wih xs)) (b5m xs wih whh h) (b5r xs wih whh h) (b5z xs wih whh h)
    = picks (BitVec.ofNat 32 (i 0).val) len (k1_pay7 wih xs) whh h a 5 := by
  have e8 : k1_pay8 (F := F) len = len := shapeCast_self _ _
  have q (x y v : FVec F S128x1024 .f32) (p m : FVec F S384x1024 .f32) (r z : FVec F S128x1024 .f32) (l : IVec S1x1024 32) (w : BitVec 32) :
      k1_pay2 l v x w p m r z = pick l w (k1_pay1 v p m r z) x := rfl
  rw [q _ a, e8, fifth_state, fourth_pick]
  rfl

theorem state_left : k1_pay3 (b4h xs wih whh h) (k1_pay21 (k1_pay7 wih xs)) (b5m xs wih whh h) (b5r xs wih whh h) (b5z xs wih whh h)
    = five (k1_pay7 wih xs) whh h 5 :=
  (shapeCast_self _ _).trans (fifth_state xs wih whh h)

theorem pick_left : k1_pay4 (k1_pay8 len) (b4h xs wih whh h) (b4a i xs len wih whh h a) (Scalar.addi (Scalar.muli (BitVec.ofNat 32 (i 0).val) 5#32) 4#32)
      (k1_pay21 (k1_pay7 wih xs)) (b5m xs wih whh h) (b5r xs wih whh h) (b5z xs wih whh h)
    = picks (BitVec.ofNat 32 (i 0).val) len (k1_pay7 wih xs) whh h a 5 :=
  (shapeCast_self _ _).trans (fifth_pick i xs len wih whh h a)

theorem head_left (w1 : Vec F S64x128 .f32) (b1 : Vec F S64x1 .f32) (w2 : Vec F S1x64 .f32) (b2 : Vec F S1x1 .f32) :
    k1_pay5 (k1_pay8 len) (b4h xs wih whh h) (b4a i xs len wih whh h a) (Scalar.addi (Scalar.muli (BitVec.ofNat 32 (i 0).val) 5#32) 4#32)
      (k1_pay21 (k1_pay7 wih xs)) (b5m xs wih whh h) (b5r xs wih whh h) (b5z xs wih whh h) w1 b1 w2 b2
    = head w1 b1 w2 b2 (picks (BitVec.ofNat 32 (i 0).val) len (k1_pay7 wih xs) whh h a 5) := by
  rw [← fifth_pick]
  rfl

end Point

/-! ## Whole-buffer accesses of owned memrefs -/

theorem unit_emb {S : Shape} {off : Fin S.rank → ℕ} (h : ∀ a, off a = 0) (inb) (x : S.Idx) : (Rect.unit (s := S) off S.size inb).emb x = x := by
  funext a; apply Fin.ext
  rw [Rect.emb_apply]
  show off a + 1 * (x a).val = (x a).val
  rw [h a]; omega

section Access

variable {S : Shape} {e : EltTy} {cs : CoreSpace} (c : Dev nD) (M : Memref sig .tc cs S e) {off : Fin S.rank → ℕ} (inb : ∀ a, off a + S.size a ≤ S.size a)
  (h0 : ∀ a, off a = 0) {E : Set ℕ} {α : Type} {Q : α → sProp (MM F)}

include h0 in
/-- A load of all of an owned memref continues at its contents. -/
theorem own_load {q : PosShare TreeShare} (x : S.Idx → Elt F e) {hl : M.view.LoadsAt (Rect.unit (s := S) off S.size inb).toLoadRect}
    {k : (S.Idx → Elt F e) → Prog (TpuEff nD τ sig (Elt F) Λ₀ .tc) α} :
    (owns (c : Thread nD τ) M q x : sProp (MM F))
      ⊢ iprop((owns (c : Thread nD τ) M q x -∗ wp frame (wpE (defs₀ (F := F)) 𝒱₀ (c : Thread nD τ) none) E (k x) Q)
        -∗ wp frame (wpE (defs₀ (F := F)) 𝒱₀ (c : Thread nD τ) none) E (.op (.load M (Rect.unit (s := S) off S.size inb).toLoadRect hl) k) Q) := by
  unfold owns
  iintro ⟨%f, %hf, H⟩ Hk
  iapply (wp_load_rect 𝒱₀ (c : Thread nD τ) none E (m := M) (r := Rect.unit (s := S) off S.size inb) (View.set_slice_subset _ _)) $$ H
  iintro H
  have hr : (M.access (Rect.unit (s := S) off S.size inb)).read (Elt F) f = x := by
    rw [← hf]; funext y
    show _root_.cast _ (f (M.view.emb ((Rect.unit (s := S) off S.size inb).emb y))) = _root_.cast _ (f (M.view.emb y))
    rw [unit_emb h0]
  rw [hr]
  iapply Hk
  iexists f; isplitr; · ipureintro; exact hf
  iexact H

include h0 in
/-- A store over all of an owned memref leaves it at what was stored. -/
theorem own_store (x w : S.Idx → Elt F e) {hx : (M.access (Rect.unit (s := S) off S.size inb)).Stores Finset.univ}
    {hm : (Finset.univ : Finset S.Idx) = Finset.univ ∨ ∀ a, (Rect.unit (s := S) off S.size inb).stride a = 1}
    {k : PUnit → Prog (TpuEff nD τ sig (Elt F) Λ₀ .tc) α} :
    (owns (c : Thread nD τ) M fullShare x : sProp (MM F))
      ⊢ iprop((owns (c : Thread nD τ) M fullShare w -∗ wp frame (wpE (defs₀ (F := F)) 𝒱₀ (c : Thread nD τ) none) E (k ⟨⟩) Q)
        -∗ wp frame (wpE (defs₀ (F := F)) 𝒱₀ (c : Thread nD τ) none) E (.op (.store M (Rect.unit (s := S) off S.size inb) w Finset.univ hx hm) k) Q) := by
  unfold owns
  iintro ⟨%f, %hf, H⟩ Hk
  iapply (wp_store 𝒱₀ (c : Thread nD τ) none E (m := M) (r := Rect.unit (s := S) off S.size inb) (Mk := Finset.univ) (View.set_slice_subset _ _)) $$ H
  iintro H
  iapply Hk
  iexists _; isplitr
  swap; · iexact H
  ipureintro
  funext y
  conv_lhs => rw [← unit_emb h0 inb y]
  rw [View.read_slice_write_emb _ _ _ (Finset.mem_univ _)]

end Access

/-! ## One grid point -/

theorem first_point (i : grid1.Coords) : Scalar.cmpi .ne (Scalar.extui (Scalar.cmpi .eq (BitVec.ofNat 32 (i 0).val) 0#32) : BitVec 32) 0#32 = 1#1 ↔ (i 0).val = 0 := by
  generalize i 0 = x
  revert x
  exact (by decide : ∀ x : Fin 10, Scalar.cmpi .ne (Scalar.extui (Scalar.cmpi .eq (BitVec.ofNat 32 x.val) 0#32) : BitVec 32) 0#32 = 1#1 ↔ x.val = 0)

theorem last_point (i : grid1.Coords) : k1_cond2 i = 1#1 ↔ (i 0).val = 9 := by
  unfold k1_cond2
  generalize i 0 = x
  revert x
  exact (by decide : ∀ x : Fin 10, Scalar.cmpi .ne (Scalar.extui (Scalar.cmpi .eq (BitVec.ofNat 32 x.val) 9#32) : BitVec 32) 0#32 = 1#1 ↔ x.val = 9)

/-- The state a grid point starts from: zeros at the first. -/
def start (i : grid1.Coords) (h : FVec F S128x1024 .f32) : FVec F S128x1024 .f32 := if (i 0).val = 0 then k1_pay6 else h

theorem gru_body (c : Dev nD) (i : grid1.Coords)
    (A1 : Memref sig .tc .vmem S64x5120 .f32) (h1 : A1.IsWhole) (A2 : Memref sig .tc .vmem S1x1024 .i32) (h2 : A2.IsWhole)
    (A3 : Memref sig .tc .vmem S384x64 .f32) (h3 : A3.IsWhole) (A4 : Memref sig .tc .vmem S384x128 .f32) (h4 : A4.IsWhole)
    (A5 : Memref sig .tc .vmem S64x128 .f32) (h5 : A5.IsWhole) (A6 : Memref sig .tc .vmem S64x1 .f32) (h6 : A6.IsWhole)
    (A7 : Memref sig .tc .vmem S1x64 .f32) (h7 : A7.IsWhole) (A8 : Memref sig .tc .vmem S1x1 .f32) (h8 : A8.IsWhole)
    (A9 : Memref sig .tc .vmem S1x1024 .f32) (h9 : A9.IsWhole) (A10 : Memref sig .tc .vmem S128x1024 .f32) (h10 : A10.IsWhole)
    (A11 : Memref sig .tc .vmem S128x1024 .f32) (h11 : A11.IsWhole)
    (xs : Vec F S64x5120 .f32) (len : Vec F S1x1024 .i32) (wih : Vec F S384x64 .f32) (whh : Vec F S384x128 .f32)
    (w1 : Vec F S64x128 .f32) (b1 : Vec F S64x1 .f32) (w2 : Vec F S1x64 .f32) (b2 : Vec F S1x1 .f32)
    (o : Vec F S1x1024 .f32) (h a : Vec F S128x1024 .f32) {E : Set ℕ} {Q : PUnit → sProp (MM F)} :
    iprop(owns (c : Thread nD τ) A1 fullShare xs ∗ owns (c : Thread nD τ) A2 fullShare len ∗ owns (c : Thread nD τ) A3 fullShare wih ∗ owns (c : Thread nD τ) A4 fullShare whh
        ∗ owns (c : Thread nD τ) A5 fullShare w1 ∗ owns (c : Thread nD τ) A6 fullShare b1 ∗ owns (c : Thread nD τ) A7 fullShare w2 ∗ owns (c : Thread nD τ) A8 fullShare b2
        ∗ owns (c : Thread nD τ) A9 fullShare o ∗ owns (c : Thread nD τ) A10 fullShare h ∗ owns (c : Thread nD τ) A11 fullShare a)
      ⊢ iprop((iprop(owns (c : Thread nD τ) A1 fullShare xs ∗ owns (c : Thread nD τ) A2 fullShare len ∗ owns (c : Thread nD τ) A3 fullShare wih ∗ owns (c : Thread nD τ) A4 fullShare whh
        ∗ owns (c : Thread nD τ) A5 fullShare w1 ∗ owns (c : Thread nD τ) A6 fullShare b1 ∗ owns (c : Thread nD τ) A7 fullShare w2 ∗ owns (c : Thread nD τ) A8 fullShare b2
        ∗ owns (c : Thread nD τ) A9 fullShare (if (i 0).val = 9 then head w1 b1 w2 b2 (picks (BitVec.ofNat 32 (i 0).val) len (k1_pay7 wih xs) whh (start i h) a 5) else o)
        ∗ owns (c : Thread nD τ) A10 fullShare (five (k1_pay7 wih xs) whh (start i h) 5)
        ∗ owns (c : Thread nD τ) A11 fullShare (picks (BitVec.ofNat 32 (i 0).val) len (k1_pay7 wih xs) whh (start i h) a 5)) -∗ Q ⟨⟩)
        -∗ wp frame (wpE (defs₀ (F := F)) 𝒱₀ (c : Thread nD τ) none) E
          (cc1__gru_body i A1 h1 A2 h2 A3 h3 A4 h4 A5 h5 A6 h6 A7 h7 A8 h8 A9 h9 A10 h10 A11 h11) Q) := by
  have zz : ∀ a : Fin 2, (![0, 0] : Fin 2 → ℕ) a = 0 := by decide
  rw [cc1__gru_body_eq_skeleton]; unfold cc1__gru_body_skel
  rw [k1_part1_eq_skeleton, k1_part2_eq_skeleton, k1_part3_eq_skeleton]; unfold k1_part1_skel k1_part2_skel k1_part3_skel
  simp only [Prog.lift, Prog.bind_op, Prog.bind_ret, Prog.pure_eq_ret, Prog.bind_assoc]
  iintro ⟨H1, H2, H3, H4, H5, H6, H7, H8, H9, H10, H11⟩ Hk
  by_cases hi : (i 0).val = 0
  on_goal 1 =>
    rw [dif_pos ((first_point i).mpr hi), show start i h = k1_pay6 from if_pos hi]
    simp only [Prog.bind_op, Prog.bind_ret]
    iapply (own_load c A10 _ zz _) $$ H10; iintro H10
    iapply (own_store c A10 _ zz _ (k1_pay6 (F := F))) $$ H10; iintro H10
    generalize k1_pay6 (F := F) = h
  on_goal 2 =>
    rw [dif_neg (fun e => hi ((first_point i).mp e)), show start i h = h from if_neg hi]
    simp only [Prog.bind_op, Prog.bind_ret]
  all_goals
    iapply (own_load c A3 _ zz _) $$ H3; iintro H3
    iapply (own_load c A1 _ zz _) $$ H1; iintro H1
    iapply (own_load c A10 _ zz _) $$ H10; iintro H10
    iapply (own_load c A11 _ zz _) $$ H11; iintro H11
    iapply (own_load c A2 _ zz _) $$ H2; iintro H2
    iapply (own_load c A4 _ zz _) $$ H4; iintro H4
    iapply (own_load c A4 _ zz _) $$ H4; iintro H4
    iapply (own_load c A4 _ zz _) $$ H4; iintro H4
    iapply (own_load c A4 _ zz _) $$ H4; iintro H4
    iapply (own_load c A4 _ zz _) $$ H4; iintro H4
    iapply (own_load c A10 _ zz _) $$ H10; iintro H10
    iapply (own_store c A10 _ zz _ _) $$ H10; iintro H10
    iapply (own_load c A11 _ zz _) $$ H11; iintro H11
    iapply (own_store c A11 _ zz _ _) $$ H11; iintro H11
    rw [state_left xs wih whh h, pick_left i xs len wih whh h a]
    by_cases h9 : (i 0).val = 9
    · rw [dif_pos ((last_point i).mpr h9), if_pos h9]
      iapply (own_load c A5 _ zz _) $$ H5; iintro H5
      iapply (own_load c A6 _ zz _) $$ H6; iintro H6
      iapply (own_load c A7 _ zz _) $$ H7; iintro H7
      iapply (own_load c A8 _ zz _) $$ H8; iintro H8
      iapply (own_load c A9 _ zz _) $$ H9; iintro H9
      iapply (own_store c A9 _ zz _ _) $$ H9; iintro H9
      rw [head_left i xs len wih whh h a w1 b1 w2 b2, wp_ret]; imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [dif_neg (fun e => h9 ((last_point i).mp e)), if_neg h9, wp_ret]; imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

end Cert.Proof.Ideal
-- ==== Proof.Ideal.Steps.lean ====
/-
  The recurrence over all fifty tokens, and how the grid's ten points compute it: a point at `t` takes the state after `5 t`
  tokens to the state after `5 t + 5`, and the running selection with it.
-/
module

public import proofs.«01_k».proof.Proof.Ideal.Gru

@[expose] public section

noncomputable section

namespace Cert.Proof.Ideal

open Cert.KernelIdeal Cert.KernelIdeal.Gen
open Idealize.ShloMosaic

variable {F : FTy → Type} [FloatOps F]

/-- The block of five tokens' embedded columns that grid point `t` reads. -/
def blockAt (x : Vec F S64x51200 .f32) (t : ℕ) : Vec F S64x5120 .f32 :=
  fun p => x fun | 0 => p 0 | 1 => (⟨(t * 5120 + (p 1).val) % 51200, Nat.mod_lt _ (by decide)⟩ : Fin 51200)

/-- The state after `n` tokens. -/
def hseq (x : Vec F S64x51200 .f32) (wih : Vec F S384x64 .f32) (whh : Vec F S384x128 .f32) : ℕ → FVec F S128x1024 .f32
  | 0 => k1_pay6
  | n + 1 => cellStep (gates (k1_pay7 wih (blockAt x (n / 5))) (n % 5)) whh (hseq x wih whh n)

/-- Each column's state after its own last token. -/
def hsel (x : Vec F S64x51200 .f32) (len : Vec F S1x1024 .i32) (wih : Vec F S384x64 .f32) (whh : Vec F S384x128 .f32) : FVec F S128x1024 .f32 :=
  fun p => hseq x wih whh ((broadcastTo S128x1024 len broadcasts_S1x1024_S128x1024 p).toNat + 1) p

section

variable (x : Vec F S64x51200 .f32) (len : Vec F S1x1024 .i32) (wih : Vec F S384x64 .f32) (whh : Vec F S384x128 .f32) (t : ℕ)

theorem five_hseq : ∀ k, k ≤ 5 → five (k1_pay7 wih (blockAt x t)) whh (hseq x wih whh (5 * t)) k = hseq x wih whh (5 * t + k)
  | 0, _ => rfl
  | k + 1, hk => by
    show cellStep _ whh (five _ whh _ k) = cellStep (gates (k1_pay7 wih (blockAt x ((5 * t + k) / 5))) ((5 * t + k) % 5)) whh (hseq x wih whh (5 * t + k))
    rw [five_hseq k (by omega), show (5 * t + k) / 5 = t by omega, show (5 * t + k) % 5 = k by omega]

/-- The columns whose last index is below `n` hold their selected state. -/
def Chosen (a : FVec F S128x1024 .f32) (n : ℕ) : Prop :=
  ∀ p, (broadcastTo S128x1024 len broadcasts_S1x1024_S128x1024 p).toNat < n → a p = hsel x len wih whh p

theorem pick_apply (w : BitVec 32) (h a : FVec F S128x1024 .f32) (p : S128x1024.Idx) :
    pick len w h a p = if broadcastTo S128x1024 len broadcasts_S1x1024_S128x1024 p = w then h p else a p := by
  unfold pick
  rw [shapeCast_self]
  show (if IntOp.cmpi .eq (broadcastTo S128x1024 len broadcasts_S1x1024_S128x1024 p) w = 1#1 then h p else a p) = _
  by_cases e : broadcastTo S128x1024 len broadcasts_S1x1024_S128x1024 p = w
  · rw [if_pos e, if_pos (by rw [e]; simp [IntOp.cmpi])]
  · rw [if_neg e, if_neg (by simp [IntOp.cmpi, beq_eq_false_iff_ne.mpr e])]

theorem picks_chosen (ht : t < 10) (a : FVec F S128x1024 .f32) (ha : Chosen x len wih whh a (5 * t)) : ∀ k, k ≤ 5 →
    Chosen x len wih whh (picks (BitVec.ofNat 32 t) len (k1_pay7 wih (blockAt x t)) whh (hseq x wih whh (5 * t)) a k) (5 * t + k)
  | 0, _ => ha
  | k + 1, hk => by
    intro p hp
    have hw : (Scalar.addi (Scalar.muli (BitVec.ofNat 32 t) 5#32) (BitVec.ofNat 32 k) : BitVec 32).toNat = 5 * t + k := by
      show (BitVec.ofNat 32 t * 5#32 + BitVec.ofNat 32 k).toNat = _
      simp only [BitVec.toNat_add, BitVec.toNat_mul, BitVec.toNat_ofNat]; omega
    show pick len _ _ _ p = _
    rw [pick_apply]
    split
    · rename_i e
      rw [five_hseq x wih whh t (k + 1) hk]
      unfold hsel
      rw [e, hw]; rfl
    · rename_i e
      refine picks_chosen ht a ha k (by omega) p ?_
      have : (broadcastTo S128x1024 len broadcasts_S1x1024_S128x1024 p).toNat ≠ 5 * t + k := fun h => e (BitVec.eq_of_toNat_eq (h.trans hw.symm))
      omega

end

/-- Every column has been chosen after the fifty tokens. -/
theorem chosen_all (x : Vec F S64x51200 .f32) (len : Vec F S1x1024 .i32) (wih : Vec F S384x64 .f32) (whh : Vec F S384x128 .f32) (hlen : ∀ j, (len j).toNat < 50)
    (a : FVec F S128x1024 .f32) (ha : Chosen x len wih whh a 50) : a = hsel x len wih whh :=
  funext fun p => ha p (hlen _)

end Cert.Proof.Ideal
-- ==== Proof.Ideal.Columns.lean ====
/-
  The inner loops of the SparseCore gather, in a compact form.

  A loop iteration of the gather reads sixteen tokens from the tile's index scratch and, for each of the 64 embedding
  columns in turn, gathers sixteen words of the table at `token + 1000 * column` and stores them in row `column` of a chunk
  buffer. The printed body lists the 64 columns one after the other; here the same program is a recursion over the column
  (`cols`), and each of the five printed loop bodies equals it (`body1_eq` … `body5_eq`).
-/
module

public import proofs.«01_k».proof.Proof.Gen.KernelIdeal
public import proofs.«01_k».proof.Proof.Gen.KernelIdeal.Skeleton

@[expose] public section

set_option maxRecDepth 65536

noncomputable section

namespace Cert.Proof.Ideal

open Cert.KernelIdeal Cert.KernelIdeal.Gen

open Idealize.ShloMosaic Idealize.SL.Sem

variable {F : FTy → Type} [FloatOps F]

/-- The indices a column gathers at lie inside the table. -/
def InTab (v : IVec S16 32) : Prop := ∀ a x, ((![v] : Fin 1 → IVec S16 32) a x).toNat < S64000.size a
instance InTab.dec (v : IVec S16 32) : Decidable (InTab v) := decidable_of_iff' (∀ a x, ((![v] : Fin 1 → IVec S16 32) a x).toNat < S64000.size a) Iff.rfl

/-- The gather's indices for column `c` from sixteen tokens. -/
def colIdx (toks : IVec S16 32) (c : ℕ) : IVec S16 32 := addi toks (broadcast S16 (BitVec.ofNat 32 (1000 * c)))

/-- Where group `t` of a chunk starts, as the kernel computes it. -/
def groupWord (t : ℕ) : BitVec 32 := Scalar.muli (Scalar.addi 0#32 (Scalar.muli (Scf.iv 0#32 1#32 t) 1#32)) 16#32
/-- The cell of a chunk buffer that column `c` of group `t` fills: row `c`, sixteen lanes from `16 t`. -/
def cellOff (t c : ℕ) : Fin 2 → ℕ := ![c, (Scalar.indexCast (groupWord t)).toNat]

theorem cellOff_inb (t : Fin 20) (c : ℕ) (hc : c < 64) : ∀ a, cellOff t c a + S1x16.size a ≤ S64x320.size a := by
  have h : ∀ t : Fin 20, (Scalar.indexCast (groupWord t)).toNat + 16 ≤ 320 := by decide +kernel
  intro a
  match a with
  | 0 => show c + 1 ≤ 64; omega
  | 1 => exact h t

abbrev VP (F : FTy → Type) (cc : Fin τ.nSC) (s : Fin τ.nSub) : Type → Type 1 := Prog (TpuEff nD τ sig (Elt F) Λ₀ (.scVector cc s))

variable {cc : Fin τ.nSC} {s : Fin τ.nSub}

/-- One column: check the indices, gather, and store the sixteen words into the buffer's cell. -/
def col (tab : Memref sig .scVector .vmem S64000 .f32) (buf : Memref sig .scVector .vmem S64x320 .f32)
    (v : IVec S16 32) (off : Fin 2 → ℕ) (hoff : ∀ a, off a + S1x16.size a ≤ S64x320.size a) : VP F cc s PUnit :=
  .op (.assume (InTab v) (InTab.dec v)) fun h =>
    SparseCore.vectorLoadIdx tab ![v] h.down (View.loads_vmem h_S64000) >>= fun x : Vec F S16 .f32 =>
      .op (.load buf (Rect.unit (s := S64x320) off S1x16.size hoff).toLoadRect (View.loadsAt_vmem h_S1x16)) fun _ =>
        .op (.store buf (Rect.unit (s := S64x320) off S1x16.size hoff) (shapeCast S1x16 x shapeCasts_S16_S1x16) Finset.univ
          (View.stores_vmem_bits_univ h_S1x16 rfl) (.inl rfl)) .ret

/-- The last `n` columns of group `t`, in order. -/
def cols (tab : Memref sig .scVector .vmem S64000 .f32) (buf : Memref sig .scVector .vmem S64x320 .f32) (toks : IVec S16 32) (t : Fin 20) :
    (n : ℕ) → n ≤ 64 → VP F cc s PUnit
  | 0, _ => .ret ⟨⟩
  | n + 1, h => col tab buf (colIdx toks (63 - n)) (cellOff t (63 - n)) (cellOff_inb t _ (by omega)) >>= fun _ =>
      cols tab buf toks t n (by omega)

/-- One iteration: sixteen tokens read at `off`, then the 64 columns. -/
def group (tab : Memref sig .scVector .vmem S64000 .f32) (idx : Memref sig .scVector .vmem S1600 .i32)
    (buf : Memref sig .scVector .vmem S64x320 .f32) (off : Fin 1 → ℕ) (hoff : ∀ a, off a + S16.size a ≤ S1600.size a) (t : Fin 20) :
    VP F cc s PUnit :=
  .op (.load idx (Rect.unit (s := S1600) off S16.size hoff).toLoadRect (View.loadsAt_vmem h_S16)) fun toks : Vec F S16 .i32 =>
    cols (F := F) tab buf toks t 64 (le_refl _)

section
variable (i : grid0.Coords) (arg2 : Memref sig .scVector .hbm S64000 .f32) (harg2 : arg2.IsWhole)
  (arg3 : Memref sig .scVector .hbm S32x1600 .i32) (harg3 : arg3.IsWhole) (arg4 : Memref sig .scVector .hbm S64x51200 .f32) (harg4 : arg4.IsWhole)
  (arg5 : Memref sig .scVector .vmem S64000 .f32) (harg5 : arg5.IsWhole) (arg6 : Memref sig .scVector .vmem S1600 .i32) (harg6 : arg6.IsWhole)
  (arg7 : Memref sig .scVector .vmem S64x320 .f32) (harg7 : arg7.IsWhole) (arg8 : Memref sig .scVector .vmem S64x320 .f32) (harg8 : arg8.IsWhole)
  (arg9 arg10 arg11 v33_r0 : DmaSems sig S_)

theorem trips1 : k0_t1_loop.trips = 20 := by decide +kernel

theorem body1_eq (t : Fin k0_t1_loop.trips) :
    k0_t1_body (F := F) i arg2 harg2 arg3 harg3 arg4 harg4 arg5 harg5 arg6 harg6 arg7 harg7 arg8 harg8 arg9 arg10 arg11 v33_r0 t ⟨⟩
      = group arg5 arg6 arg7 (k0_off2 t) (k0_off2_inb t) (t.cast trips1) := by
  rfl

theorem trips2 : k0_t2_loop.trips = 20 := by decide +kernel

theorem body2_eq (t : Fin k0_t2_loop.trips) :
    k0_t2_body (F := F) i arg2 harg2 arg3 harg3 arg4 harg4 arg5 harg5 arg6 harg6 arg7 harg7 arg8 harg8 arg9 arg10 arg11 v33_r0 t ⟨⟩
      = group arg5 arg6 arg8 (k0_off68 t) (k0_off68_inb t) (t.cast trips2) := by
  rfl

theorem trips3 : k0_t3_loop.trips = 20 := by decide +kernel

theorem body3_eq (t : Fin k0_t3_loop.trips) :
    k0_t3_body (F := F) i arg2 harg2 arg3 harg3 arg4 harg4 arg5 harg5 arg6 harg6 arg7 harg7 arg8 harg8 arg9 arg10 arg11 v33_r0 t ⟨⟩
      = group arg5 arg6 arg7 (k0_off133 t) (k0_off133_inb t) (t.cast trips3) := by
  rfl

theorem trips4 : k0_t4_loop.trips = 20 := by decide +kernel

theorem body4_eq (t : Fin k0_t4_loop.trips) :
    k0_t4_body (F := F) i arg2 harg2 arg3 harg3 arg4 harg4 arg5 harg5 arg6 harg6 arg7 harg7 arg8 harg8 arg9 arg10 arg11 v33_r0 t ⟨⟩
      = group arg5 arg6 arg8 (k0_off198 t) (k0_off198_inb t) (t.cast trips4) := by
  rfl

theorem trips5 : k0_t5_loop.trips = 20 := by decide +kernel

theorem body5_eq (t : Fin k0_t5_loop.trips) :
    k0_t5_body (F := F) i arg2 harg2 arg3 harg3 arg4 harg4 arg5 harg5 arg6 harg6 arg7 harg7 arg8 harg8 arg9 arg10 arg11 v33_r0 t ⟨⟩
      = group arg5 arg6 arg7 (k0_off263 t) (k0_off263_inb t) (t.cast trips5) := by
  rfl

end

/-! Where each loop reads its tokens: chunk `q`'s group `t` at `320 q + 16 t`. -/

theorem tok1 (t : Fin k0_t1_loop.trips) : k0_off2 t = ![320 * 0 + 16 * t.val] := by
  revert t; decide +kernel

theorem tok2 (t : Fin k0_t2_loop.trips) : k0_off68 t = ![320 * 1 + 16 * t.val] := by
  revert t; decide +kernel

theorem tok3 (t : Fin k0_t3_loop.trips) : k0_off133 t = ![320 * 2 + 16 * t.val] := by
  revert t; decide +kernel

theorem tok4 (t : Fin k0_t4_loop.trips) : k0_off198 t = ![320 * 3 + 16 * t.val] := by
  revert t; decide +kernel

theorem tok5 (t : Fin k0_t5_loop.trips) : k0_off263 t = ![320 * 4 + 16 * t.val] := by
  revert t; decide +kernel

theorem cellOff_eq (t : Fin 20) (c : ℕ) : cellOff t c = ![c, 16 * t.val] := by
  have h : ∀ t : Fin 20, (Scalar.indexCast (groupWord t)).toNat = 16 * t.val := by decide +kernel
  rw [cellOff, h]

end Cert.Proof.Ideal
-- ==== Proof.Ideal.Gather.lean ====
/-
  What one chunk of the gather leaves: the weakest-precondition rules of the compact loop bodies (`Columns.lean`), with the
  words they store.
-/
module

public import proofs.«01_k».proof.Proof.Ideal.Setup
public import proofs.«01_k».proof.Proof.Ideal.Columns
public import Idealize.ShloMosaic.Lib.WritesUnit
public import Idealize.ShloMosaic.Lib.Pipeline.Value

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Positions of the flat table and of a tile's tokens. -/
def tabIx (n : ℕ) : S64000.Idx := fun a => ⟨n % 64000, by rw [Subsingleton.elim a 0]; exact Nat.mod_lt _ (by decide)⟩
def tokIx (n : ℕ) : S1600.Idx := fun a => ⟨n % 1600, by rw [Subsingleton.elim a 0]; exact Nat.mod_lt _ (by decide)⟩

/-- The flat table's word for column `c` of the token `w`. -/
def word (tb : Vec F S64000 .f32) (c : ℕ) (w : BitVec 32) : F .f32 := tb (tabIx (1000 * c + w.toNat))

/-- Chunk `q` of a tile: row `c` holds column `c` of the tokens `320 q …`. -/
def chunk (tb : Vec F S64000 .f32) (tk : IVec S1600 32) (q : ℕ) : Vec F S64x320 .f32 :=
  fun j => word tb (j 0).val (tk (tokIx (320 * q + (j 1).val)))

/-- The groups before `t` are filled, and of group `t` the first `n` columns. -/
def Filled (tb : Vec F S64000 .f32) (tk : IVec S1600 32) (q t n : ℕ) (g : Vec F S64x320 .f32) : Prop :=
  ∀ j, ((j 1).val < 16 * t ∨ ((j 1).val < 16 * (t + 1) ∧ (j 0).val < n)) → g j = chunk tb tk q j

/-- Sixteen tokens of group `t` of chunk `q`. -/
def Toks (tk : IVec S1600 32) (q t : ℕ) (v : IVec S16 32) : Prop := ∀ x, v x = tk (tokIx (320 * q + 16 * t + (x 0).val))

def InVocab (tk : IVec S1600 32) : Prop := ∀ p, (tk p).toNat < 1000

theorem colIdx_toNat {tk : IVec S1600 32} (hv : InVocab tk) {q t : ℕ} {v : IVec S16 32} (ht : Toks tk q t v) {c : ℕ} (hc : c < 64) (x : S16.Idx) :
    (colIdx v c x).toNat = 1000 * c + (v x).toNat := by
  have h1 : (v x).toNat < 1000 := ht x ▸ hv _
  show (v x + BitVec.ofNat 32 (1000 * c)).toNat = _
  rw [BitVec.toNat_add, BitVec.toNat_ofNat]
  omega

theorem inTab_colIdx {tk : IVec S1600 32} (hv : InVocab tk) {q t : ℕ} {v : IVec S16 32} (ht : Toks tk q t v) {c : ℕ} (hc : c < 64) :
    InTab (colIdx v c) := by
  intro a x
  obtain rfl : a = 0 := Subsingleton.elim _ _
  show (colIdx v c x).toNat < 64000
  rw [colIdx_toNat hv ht hc]
  have h1 : (v x).toNat < 1000 := ht x ▸ hv _
  omega

/-- A memref read through its whole rectangle reads as it does. -/
theorem read_access_whole (tab : Memref sig .scVector .vmem S64000 .f32) (f : tab.view.ty.Contents (Elt F)) :
    (tab.access (.whole S64000)).read (Elt F) f = tab.view.read (Elt F) f := by
  funext x
  show tab.view.read (Elt F) f ((Rect.whole S64000).emb x) = _
  refine congrArg (tab.view.read (Elt F) f) (funext fun a => Fin.ext ?_)
  show 0 + 1 * (x a).val = (x a).val
  omega

/-- The cell of column `c` of group `t`, written over contents already filled up to it. -/
theorem filled_write {tb : Vec F S64000 .f32} {tk : IVec S1600 32} (hv : InVocab tk) {q : ℕ} {t : Fin 20} {v : IVec S16 32} (ht : Toks tk q t v) {c : ℕ}
    (hc : c < 64) (buf : Memref sig .scVector .vmem S64x320 .f32) (f : buf.view.ty.Contents (Elt F))
    (hf : Filled tb tk q t c (buf.view.read (Elt F) f)) (h) :
    Filled tb tk q t (c + 1) (buf.view.read (Elt F) ((buf.access (Rect.unit (s := S64x320) (cellOff t c) S1x16.size (cellOff_inb t c hc))).write (Elt F) f
      (shapeCast S1x16 (loadIdx (F := F) (e := .f32) tb ![colIdx v c] h) shapeCasts_S16_S1x16) Finset.univ)) := by
  intro j hj
  have hw := View.read_writes_cons_unit buf.view f (cellOff_inb t c hc)
    (shapeCast S1x16 (loadIdx (F := F) (e := .f32) tb ![colIdx v c] h) shapeCasts_S16_S1x16) [] j (cellOff_eq t c)
  rw [View.writes_cons, View.writes_nil] at hw
  refine Eq.trans hw ?_
  have hj0 : (j 0).val < 64 := (j 0).isLt
  have hj1 : (j 1).val < 320 := (j 1).isLt
  have ht20 := t.isLt
  split_ifs with hm
  · have hm0 : c ≤ (j 0).val ∧ (j 0).val < c + 1 := hm 0
    have hm1 : 16 * t.val ≤ (j 1).val ∧ (j 1).val < 16 * t.val + 16 := hm 1
    refine (shapeCast_apply _ _ _ (fun _ => ⟨(j 1).val - 16 * t.val, ?_⟩ : S16.Idx) ?_).trans ?_
    · rename_i a; rw [Subsingleton.elim a 0]; show _ < 16; omega
    · rw [Shape.rowMajor_val_one, Shape.rowMajor_val_two]
      show (j 1).val - 16 * t.val = ((j 0).val - c) * 16 + ((j 1).val - 16 * t.val)
      omega
    · unfold loadIdx chunk word
      refine congrArg tb (funext fun a => Fin.ext ?_)
      obtain rfl : a = 0 := Subsingleton.elim _ _
      show (colIdx v c _).toNat = (1000 * (j 0).val + _) % 64000
      rw [colIdx_toNat hv ht hc, ht]
      have hx := hv (tokIx (320 * q + (j 1).val))
      show 1000 * c + (tk (tokIx (320 * q + 16 * t.val + ((j 1).val - 16 * t.val)))).toNat = _
      rw [show 320 * q + 16 * t.val + ((j 1).val - 16 * t.val) = 320 * q + (j 1).val by omega]
      omega
  · refine hf j ?_
    rcases hj with h1 | h1
    · exact .inl h1
    · by_cases h2 : (j 1).val < 16 * t.val
      · exact .inl h2
      · refine .inr ⟨h1.1, ?_⟩
        by_contra h3
        exact hm (Fin.forall_fin_two.mpr ⟨show c ≤ (j 0).val ∧ (j 0).val < c + 1 by omega, show 16 * t.val ≤ (j 1).val ∧ (j 1).val < 16 * t.val + 16 by omega⟩)

section Wp

variable (thr : Thread nD τ) {cc : Fin τ.nSC} {s : Fin τ.nSub} (d : Dev nD)

/-- A table held, at a share, whose memref reads `tb`; a chunk buffer held outright whose contents satisfy `Φ`. -/
def TabAt (cc : Fin τ.nSC) (s : Fin τ.nSub) (tab : Memref sig .scVector .vmem S64000 .f32) (tb : Vec F S64000 .f32) : sProp (MM F) :=
  iprop(∃ f, ⌜tab.view.read (Elt F) f = tb⌝ ∗ tab.view.loc (V d cc s) ↦[tab.view.set]{fullShare} f)
def IdxAt (cc : Fin τ.nSC) (s : Fin τ.nSub) (idx : Memref sig .scVector .vmem S1600 .i32) (tk : IVec S1600 32) : sProp (MM F) :=
  iprop(∃ f, ⌜idx.view.read (Elt F) f = tk⌝ ∗ idx.view.loc (V d cc s) ↦[idx.view.set]{fullShare} f)
def BufAt (cc : Fin τ.nSC) (s : Fin τ.nSub) (buf : Memref sig .scVector .vmem S64x320 .f32) (Φ : Vec F S64x320 .f32 → Prop) : sProp (MM F) :=
  iprop(∃ f, ⌜Φ (buf.view.read (Elt F) f)⌝ ∗ buf.view.loc (V d cc s) ↦[buf.view.set]{fullShare} f)

variable (tab : Memref sig .scVector .vmem S64000 .f32) (idx : Memref sig .scVector .vmem S1600 .i32) (buf : Memref sig .scVector .vmem S64x320 .f32)
  {tb : Vec F S64000 .f32} {tk : IVec S1600 32}

theorem wp_col (hv : InVocab tk) {q : ℕ} {t : Fin 20} {v : IVec S16 32} (ht : Toks tk q t v) {c : ℕ} (hc : c < 64) :
    iprop(TabAt d cc s tab tb ∗ BufAt d cc s buf (Filled tb tk q t c))
      ⊢ wp frame (wpE (defs₀ (F := F)) 𝒱₀ (V d cc s) none) Set.univ (col tab buf (colIdx v c) (cellOff t c) (cellOff_inb t c hc))
          fun _ => iprop(TabAt d cc s tab tb ∗ BufAt d cc s buf (Filled tb tk q t (c + 1))) := by
  unfold TabAt BufAt col
  rw [wp_assume_of _ _ _ _ (inTab_colIdx hv ht hc)]
  iintro ⟨⟨%ft, %hft, Ht⟩, ⟨%f, %hf, Hb⟩⟩
  iapply (SparseCore.wp_vectorLoadIdx 𝒱₀ (V d cc s) none Set.univ (base := tab) (S := tab.view.set) (q := fullShare) (tab.view.set_slice_subset _)) $$ Ht
  iintro Ht
  iapply (wp_load 𝒱₀ (V d cc s) none Set.univ (m := buf) (S := buf.view.set) (buf.view.setOn_subset_set _)) $$ Hb
  iintro Hb
  iapply (wp_store 𝒱₀ (V d cc s) none Set.univ (m := buf) (r := Rect.unit (s := S64x320) (cellOff t c) S1x16.size (cellOff_inb t c hc)) (Mk := Finset.univ) (S := buf.view.set) (buf.setOn_access_subset _ _)) $$ Hb
  iintro Hb
  rw [wp_ret]
  imodintro
  isplitl [Ht]
  · iexists ft; isplitr; · ipureintro; exact hft
    iexact Ht
  · iexists _
    isplitr
    rotate_left
    · iexact Hb
    · ipureintro
      have e : (tab.access (.whole S64000)).read (Elt F) ft = tb := (read_access_whole tab ft).trans hft
      rw [e]
      exact filled_write hv ht hc buf f hf _

theorem wp_cols (hv : InVocab tk) {q : ℕ} {t : Fin 20} {v : IVec S16 32} (ht : Toks tk q t v) :
    ∀ (n : ℕ) (hn : n ≤ 64), iprop(TabAt d cc s tab tb ∗ BufAt d cc s buf (Filled tb tk q t (64 - n)))
      ⊢ wp frame (wpE (defs₀ (F := F)) 𝒱₀ (V d cc s) none) Set.univ (cols tab buf v t n hn)
          fun _ => iprop(TabAt d cc s tab tb ∗ BufAt d cc s buf (Filled tb tk q (t.val + 1) 0)) := by
  intro n
  induction n with
  | zero =>
    intro hn
    unfold cols
    rw [wp_ret]
    have hm : ∀ g : Vec F S64x320 .f32, Filled tb tk q t (64 - 0) g → Filled tb tk q (t.val + 1) 0 g := fun g h j hj => h j (.inr ⟨by omega, (j 0).isLt⟩)
    unfold BufAt
    iintro ⟨Ht, ⟨%f, %hf, Hb⟩⟩
    imodintro
    isplitl [Ht]; · iexact Ht
    iexists f; isplitr; · ipureintro; exact hm _ hf
    iexact Hb
  | succ n ih =>
    intro hn
    unfold cols
    rw [wp_bind]
    have e : 64 - (n + 1) = 63 - n := by omega
    have e' : 63 - n + 1 = 64 - n := by omega
    have h1 := wp_col (F := F) (cc := cc) (s := s) d tab buf (tb := tb) hv ht (c := 63 - n) (by omega)
    rw [e'] at h1
    rw [e]
    refine h1.trans ?_
    iintro H
    iapply (wp_wand_r frame (wpE (defs₀ (F := F)) 𝒱₀ (V d cc s) none) Set.univ)
    isplitl [H]
    · iexact H
    · iintro %a H
      iapply (ih (Nat.le_of_succ_le hn)); iexact H

theorem wp_group (hv : InVocab tk) {q : ℕ} (hq : q < 5) {t : Fin 20} {off : Fin 1 → ℕ} (hoff : ∀ a, off a + S16.size a ≤ S1600.size a) (ho : off = ![320 * q + 16 * t.val]) :
    iprop(TabAt d cc s tab tb ∗ IdxAt d cc s idx tk ∗ BufAt d cc s buf (Filled tb tk q t 0))
      ⊢ wp frame (wpE (defs₀ (F := F)) 𝒱₀ (V d cc s) none) Set.univ (group tab idx buf off hoff t)
          fun _ => iprop(TabAt d cc s tab tb ∗ IdxAt d cc s idx tk ∗ BufAt d cc s buf (Filled tb tk q (t.val + 1) 0)) := by
  unfold group IdxAt
  iintro ⟨Ht, ⟨%fi, %hfi, Hi⟩, Hb⟩
  iapply (wp_load 𝒱₀ (V d cc s) none Set.univ (m := idx) (S := idx.view.set) (idx.view.setOn_subset_set _)) $$ Hi
  iintro Hi
  have htoks : Toks tk q t (idx.view.readAt (Elt F) (Rect.unit (s := S1600) off S16.size hoff).toLoadRect fi) := by
    intro x
    rw [View.readAt_apply, hfi]
    refine congrArg tk (funext fun a => Fin.ext ?_)
    obtain rfl : a = 0 := Subsingleton.elim _ _
    rw [LoadRect.idx_apply]
    subst ho
    have hx : (x 0).val < 16 := (x 0).isLt
    have := t.isLt
    show 320 * q + 16 * t.val + 1 * (x 0).val = (320 * q + 16 * t.val + (x 0).val) % 1600
    omega
  iapply (wp_wand_r frame (wpE (defs₀ (F := F)) 𝒱₀ (V d cc s) none) Set.univ)
  isplitl [Ht Hb]
  · iapply (wp_cols (F := F) d tab buf hv htoks 64 (le_refl _))
    isplitl [Ht]; · iexact Ht
    iexact Hb
  · iintro %a ⟨Ht, Hb⟩
    isplitl [Ht]; · iexact Ht
    isplitl [Hi]
    · iexists fi; isplitr; · ipureintro; exact hfi
      iexact Hi
    iexact Hb

end Wp

end Cert.Proof.Ideal
-- ==== Proof.Ideal.Tile.lean ====
/-
  A tile's task: fetch the table and the tile's 1600 tokens, gather five chunks of 320 tokens into two alternating
  buffers, and copy each chunk out to its columns of the transposed embedding matrix. Each copy out is a counted transfer of
  its own (`Lib/Transfers.lean`), waited for before its buffer is filled again; what it lands is the gathered chunk.
-/
module

public import proofs.«01_k».proof.Proof.Ideal.Gather

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The arrays -/

abbrev tLoc (d : Dev nD) : Loc nD τ sig := (SparseCore.T d).loc main_v3
abbrev iLoc (d : Dev nD) : Loc nD τ sig := (SparseCore.T d).loc main_v1
abbrev oLoc (d : Dev nD) : Loc nD τ sig := (SparseCore.T d).loc main_v4

abbrev tV : Memref sig .scVector .hbm S64000 .f32 := Memref.whole main_v3_scv
abbrev iV : Memref sig .scVector .hbm S32x1600 .i32 := Memref.whole main_v1_scv
abbrev oV : Memref sig .scVector .hbm S64x51200 .f32 := Memref.whole main_v4_scv
abbrev s0 : Memref sig .scVector .vmem S64000 .f32 := Memref.whole cc0_scratch0
abbrev s1 : Memref sig .scVector .vmem S1600 .i32 := Memref.whole cc0_scratch1
abbrev s2 : Memref sig .scVector .vmem S64x320 .f32 := Memref.whole cc0_scratch2
abbrev s3 : Memref sig .scVector .vmem S64x320 .f32 := Memref.whole cc0_scratch3

/-- Row `n / 1600`, column `n % 1600` of the tokens. -/
def rowIx (n : ℕ) : S32x1600.Idx := fun a => match a with
  | 0 => ⟨n / 1600 % 32, Nat.mod_lt _ (by decide)⟩
  | 1 => ⟨n % 1600, Nat.mod_lt _ (by decide)⟩

/-- The transposed embedding matrix: column `c` of token `n` at row `c`, column `n`. -/
def gathered (tb : Vec F S64000 .f32) (ix : IVec S32x1600 32) : Vec F S64x51200 .f32 :=
  fun j => word tb (j 0).val (ix (rowIx (j 1).val))

/-- The columns SparseCore `c` fills, those its tile `s` fills, and those of that tile's chunk `r`. -/
def coreSet (c : ℕ) : Finset S64x51200.Idx := Finset.univ.filter fun j => (j 1).val / 1600 % 2 = c
def tileSet (c s : ℕ) : Finset S64x51200.Idx := Finset.univ.filter fun j => (j 1).val / 1600 = 2 * s + c
def chunkSet (c s r : ℕ) : Finset S64x51200.Idx := Finset.univ.filter fun j => (j 1).val / 320 = 5 * (2 * s + c) + r

section Coords

variable (i : grid0.Coords)

abbrev cV : Fin τ.nSC := (i 0).castLE hcore0
abbrev jV : Fin τ.nSub := (i 1).castLE hsub0

theorem off1_eq : k0_off1 i = ![2 * (i 1).val + (i 0).val, 0] := by
  have h0 : (i 0).val < 2 := (i 0).isLt
  have h1 : (i 1).val < 16 := (i 1).isLt
  have e : (Scalar.addi (Scalar.muli (BitVec.ofNat 32 (i 1).val) 2#32) (BitVec.ofNat 32 (i 0).val)).toNat = 2 * (i 1).val + (i 0).val := by
    show (BitVec.ofNat 32 (i 1).val * 2#32 + BitVec.ofNat 32 (i 0).val).toNat = _
    rw [BitVec.toNat_add, BitVec.toNat_mul, BitVec.toNat_ofNat, BitVec.toNat_ofNat, BitVec.toNat_ofNat]
    omega
  show ![(Scalar.addi (Scalar.muli (BitVec.ofNat 32 (i 1).val) 2#32) (BitVec.ofNat 32 (i 0).val)).toNat, 0] = _
  rw [e]

theorem off67_eq (r : Fin 5) : k0_off67 i (BitVec.ofNat 32 (320 * r.val)) = ![0, 1600 * (2 * (i 1).val + (i 0).val) + 320 * r.val] := by
  have h0 : (i 0).val < 2 := (i 0).isLt
  have h1 : (i 1).val < 16 := (i 1).isLt
  have hr := r.isLt
  have e : ((BitVec.ofNat 32 (i 1).val * 2#32 + BitVec.ofNat 32 (i 0).val) * 1600#32 + BitVec.ofNat 32 (320 * r.val)).toNat
      = 1600 * (2 * (i 1).val + (i 0).val) + 320 * r.val := by
    simp only [BitVec.toNat_add, BitVec.toNat_mul, BitVec.toNat_ofNat]
    omega
  show ![0, ((BitVec.ofNat 32 (i 1).val * 2#32 + BitVec.ofNat 32 (i 0).val) * 1600#32 + BitVec.ofNat 32 (320 * r.val)).toNat] = _
  rw [e]

/-- The tile's row of tokens, and its chunk `r`'s columns of the result, as the task slices them. -/
abbrev iRow : Memref sig .scVector .hbm S1600 .i32 :=
  ((iV).slice (Rect.unit (s := S32x1600) (k0_off1 i) S1x1600.size (k0_off1_inb i)) (fun _ => rfl)).squeeze S1600 squeezes_S1x1600_S1600
abbrev oRect (r : Fin 5) : Rect S64x51200 := Rect.unit (s := S64x51200) (k0_off67 i (BitVec.ofNat 32 (320 * r.val))) S64x320.size (k0_off67_inb i r)
abbrev oSl (r : Fin 5) : Memref sig .scVector .hbm S64x320 .f32 := (oV).slice (oRect i r) (fun _ => rfl)

theorem oSl_set (r : Fin 5) : (oSl i r).view.set = chunkSet (i 0).val (i 1).val r.val := by
  have h : (oSl i r).view.set = (oRect i r).set := by
    show ((View.whole (main_v4_scv : Ref sig .scVector)).slice (oRect i r)).set = _
    rw [View.set_slice]; exact Finset.map_refl
  rw [h]
  ext j
  have hr := r.isLt
  have h0 : (j 0).val < 64 := (j 0).isLt
  rw [Rect.mem_set_unit]
  unfold chunkSet
  rw [Finset.mem_filter, off67_eq]
  constructor
  · intro hh
    have h1 : 1600 * (2 * (i 1).val + (i 0).val) + 320 * r.val ≤ (j 1).val ∧ (j 1).val < 1600 * (2 * (i 1).val + (i 0).val) + 320 * r.val + 320 := hh 1
    exact ⟨Finset.mem_univ _, by omega⟩
  · rintro ⟨-, hh⟩
    exact Fin.forall_fin_two.mpr ⟨show 0 ≤ (j 0).val ∧ (j 0).val < 0 + 64 by omega,
      show 1600 * (2 * (i 1).val + (i 0).val) + 320 * r.val ≤ (j 1).val ∧ (j 1).val < 1600 * (2 * (i 1).val + (i 0).val) + 320 * r.val + 320 by omega⟩

/-- The tokens of the tile. -/
def tileToks (ix : IVec S32x1600 32) : IVec S1600 32 := fun p => ix (rowIx (1600 * (2 * (i 1).val + (i 0).val) + (p 0).val))

theorem iRow_read (ix : Buf (Elt F) (iLoc (0 : Dev nD))) : (iRow i).view.read (Elt F) ix = tileToks i ix := by
  funext p
  have h0 : (i 0).val < 2 := (i 0).isLt
  have h1 : (i 1).val < 16 := (i 1).isLt
  have hp : (p 0).val < 1600 := (p 0).isLt
  rw [View.read_apply]
  unfold tileToks
  refine congrArg ix ?_
  have e : Shape.reshapeEquiv squeezes_S1x1600_S1600.numel_eq p = (fun a => match a with | 0 => ⟨0, by decide⟩ | 1 => ⟨(p 0).val, hp⟩ : S1x1600.Idx) := by
    refine Shape.reshapeEquiv_eq_of_rowMajor _ ?_
    rw [Shape.rowMajor_val_one, Shape.rowMajor_val_two]
    show 0 * 1600 + (p 0).val = (p 0).val
    omega
  show (Rect.unit (s := S32x1600) (k0_off1 i) S1x1600.size (k0_off1_inb i)).emb (Shape.reshapeEquiv squeezes_S1x1600_S1600.numel_eq p) = _
  rw [e]
  funext a
  apply Fin.ext
  match a with
  | 0 =>
    show (k0_off1 i) 0 + 1 * 0 = _ / 1600 % 32
    rw [off1_eq]
    show 2 * (i 1).val + (i 0).val + 1 * 0 = _
    omega
  | 1 =>
    show (k0_off1 i) 1 + 1 * (p 0).val = _ % 1600
    rw [off1_eq]
    show 0 + 1 * (p 0).val = _
    omega

/-- A chunk copied out is the result's columns. -/
theorem chunk_lands (tb : Vec F S64000 .f32) (ix : IVec S32x1600 32) (r : Fin 5) {f : Buf (Elt F) (oLoc (0 : Dev nD))}
    (hf : (oSl i r).view.read (Elt F) f = chunk tb (tileToks i ix) r.val) : ∀ j ∈ (oSl i r).view.set, f j = gathered tb ix j := by
  intro j hj
  obtain ⟨x, -, rfl⟩ := Finset.mem_map.mp hj
  have h0 : (i 0).val < 2 := (i 0).isLt
  have h1 : (i 1).val < 16 := (i 1).isLt
  have hr := r.isLt
  have hx1 : (x 1).val < 320 := (x 1).isLt
  have hx := congrFun hf x
  rw [View.read_apply] at hx
  refine Eq.trans hx ?_
  have e0 : ((oRect i r).emb x 0).val = (x 0).val := by
    show (k0_off67 i (BitVec.ofNat 32 (320 * r.val))) 0 + 1 * (x 0).val = _
    rw [off67_eq]; show 0 + 1 * (x 0).val = _; omega
  have e1 : ((oRect i r).emb x 1).val = 1600 * (2 * (i 1).val + (i 0).val) + 320 * r.val + (x 1).val := by
    show (k0_off67 i (BitVec.ofNat 32 (320 * r.val))) 1 + 1 * (x 1).val = _
    rw [off67_eq]; show 1600 * (2 * (i 1).val + (i 0).val) + 320 * r.val + 1 * (x 1).val = _; omega
  unfold chunk gathered tileToks
  show word tb (x 0).val (ix (rowIx (1600 * (2 * (i 1).val + (i 0).val) + (320 * r.val + (x 1).val) % 1600))) = word tb ((oRect i r).emb x 0).val (ix (rowIx ((oRect i r).emb x 1).val))
  rw [e0, e1, show (320 * r.val + (x 1).val) % 1600 = 320 * r.val + (x 1).val from Nat.mod_eq_of_lt (by omega), Nat.add_assoc]

end Coords

/-! ## The task's steps -/

section Steps

variable (d : Dev nD) {cc : Fin τ.nSC} {s : Fin τ.nSub}

/-- What a thread owes, its record of waits grown only by waits of its own copies. -/
def Owing (thr : Thread nD τ) (O : CellTallies nD τ sig (HIx 1)) (W : Waits sig (HIx 1)) : sProp (MM F) :=
  iprop(∃ W', ⌜∀ p ∈ W', p ∈ W ∨ p.2 = none⌝ ∗ owes thr O W')

variable {O : CellTallies nD τ sig (HIx 1)} {W : Waits sig (HIx 1)} {Q : PUnit → sProp (MM F)}

/-- A local copy's issue: the destination will read what the source reads. -/
theorem wp_issue {sp sp' : Space} {sh : Shape} {e : EltTy} (thr : Thread nD τ) (src : Memref sig thr.2.kind sp sh e) (dst : Memref sig thr.2.kind sp' sh e) (sm : DmaSem sig)
    {hsrc : src.view.WordExact} {hdst : dst.view.WordExact} {hsem : DmaTarget.Typed (nD := nD) sp (.dma sm) (.here dst)}
    {k : PUnit → Prog (TpuEff nD τ sig (Elt F) Λ₀ thr.2) PUnit} {q : PosShare TreeShare} {fs : Buf (Elt F) (src.view.loc thr)} (hpos : 0 < sh.numel) :
    iprop((src.view.loc thr ↦[src.view.set]{q} fs) ∗ (∃ fd, dst.view.loc thr ↦[dst.view.set]{fullShare} fd) ∗ semVal (thr, .dma sm) 0)
      ⊢ iprop((Transfers.Flight (EC (F := F)) thr (.dma sm) none dst.view.dmaCredit
              iprop((∃ f, ⌜dst.view.read (Elt F) f = src.view.read (Elt F) fs⌝ ∗ dst.view.loc thr ↦[dst.view.set]{fullShare} f) ∗ (src.view.loc thr ↦[src.view.set]{q} fs))
            -∗ wp frame (wpE (defs₀ (F := F)) 𝒱₀ thr none) Set.univ (k ⟨⟩) Q)
          -∗ wp frame (wpE (defs₀ (F := F)) 𝒱₀ thr none) Set.univ (.op (.enqueueDma src (.here dst) (.dma sm) hsrc hdst hsem) k) Q) := by
  iintro ⟨Hs, ⟨%fd, Hd⟩, Hm⟩ Hk
  iapply (Transfers.wp_dmaLocal (EC (F := F)) 𝒱₀ thr none (q := q) (fs := fs) (fd := fd) (Sd := dst.view.set) none dst.view.dmaCredit rfl (View.dmaCredit_pos _ hpos) (Finset.Subset.refl _)) $$ [Hs Hd Hm]
  · isplitl [Hs]; · iexact Hs
    isplitl [Hd]; · iexact Hd
    iexact Hm
  iintro Hf
  iapply Hk
  iapply (Transfers.Flight_mono (EC (F := F)) ?_) $$ Hf
  iintro ⟨Hd, Hs⟩
  isplitr [Hs]
  · iexists _
    isplitr
    rotate_left
    · iexact Hd
    · ipureintro; exact View.read_write_univ _ _
  · iexact Hs

/-- A local copy's wait. -/
theorem wp_await {sp sp' : Space} {sh sh' : Shape} {e e' : EltTy} (thr : Thread nD τ) (sm : DmaSem sig) {κ' : Kind} (srcw : Memref sig thr.2.kind sp' sh' e') (dstw : Memref sig κ' sp sh e)
    {hsrc : srcw.view.WordExact} {hdst : dstw.view.WordExact} {N : ℕ} (hN : dstw.view.dmaCredit = N)
    {k : PUnit → Prog (TpuEff nD τ sig (Elt F) Λ₀ thr.2) PUnit} {R : sProp (MM F)} (hO : ∀ g, O g none = 0) :
    iprop(levAts (K (F := F)).L (K (F := F)).lev ∗ Transfers.Flight (EC (F := F)) thr (.dma sm) none N R ∗ Owing thr O W)
      ⊢ iprop((iprop(R ∗ semVal (thr, .dma sm) 0 ∗ Owing thr O W) -∗ wp frame (wpE (defs₀ (F := F)) 𝒱₀ thr none) Set.univ (k ⟨⟩) Q)
          -∗ wp frame (wpE (defs₀ (F := F)) 𝒱₀ thr none) Set.univ (.op (.waitDma2 sm srcw dstw hsrc hdst) k) Q) := by
  unfold Owing
  iintro ⟨#Hlv, Hf, ⟨%W', %hW', HO⟩⟩ Hk
  iapply (Transfers.wp_waitLocalO (EC (F := F)) 𝒱₀ thr none none hN (O := O) (W := W')) $$ [Hf HO]
  · isplitl [Hf]; · iexact Hf
    isplitl [HO]; · iexact HO
    iapply ((K (F := F)).mayWait_none (SemLoc.dma sm) hO); iexact Hlv
  iintro ⟨HR, Hm, HO⟩
  iapply Hk
  isplitl [HR]; · iexact HR
  isplitl [Hm]; · iexact Hm
  iexists _
  isplitr
  rotate_left
  · iexact HO
  · ipureintro
    intro p hp
    rcases Finset.mem_insert.mp hp with rfl | hp
    · exact .inr rfl
    · exact hW' p hp

/-- One chunk's loop, in any of its five printed forms. -/
theorem wp_chunk (tab : Memref sig .scVector .vmem S64000 .f32) (idx : Memref sig .scVector .vmem S1600 .i32) (buf : Memref sig .scVector .vmem S64x320 .f32)
    {tb : Vec F S64000 .f32} {tk : IVec S1600 32} (hv : InVocab tk) {q : ℕ} (hq : q < 5) (l : Scf.Loop 32) (hok : l.OK) (body : Fin l.trips → PUnit → VP F cc s PUnit)
    (h20 : l.trips = 20) {off : Fin l.trips → Fin 1 → ℕ} (hoff : ∀ t a, off t a + S16.size a ≤ S1600.size a)
    (hbody : ∀ t, body t ⟨⟩ = group tab idx buf (off t) (hoff t) (t.cast h20)) (ho : ∀ t, off t = ![320 * q + 16 * t.val])
    {k : PUnit → VP F cc s PUnit} {Φ : Vec F S64x320 .f32 → Prop} :
    iprop(TabAt d cc s tab tb ∗ IdxAt d cc s idx tk ∗ BufAt d cc s buf Φ)
      ⊢ iprop((iprop(TabAt d cc s tab tb ∗ IdxAt d cc s idx tk ∗ BufAt d cc s buf (fun g => g = chunk tb tk q)) -∗ wp frame (wpE (defs₀ (F := F)) 𝒱₀ (V d cc s) none) Set.univ (k ⟨⟩) Q)
        -∗ wp frame (wpE (defs₀ (F := F)) 𝒱₀ (V d cc s) none) Set.univ (Scf.Loop.for l hok ⟨⟩ body >>= k) Q) := by
  iintro ⟨Ht, Hi, Hb⟩ Hk
  have hl := Scf.wp_for_bind frame (wpE (defs₀ (F := F)) 𝒱₀ (V d cc s) none) Set.univ l.lb l.ub l.st hok (⟨⟩ : PUnit) body
    (fun n _ => iprop(TabAt d cc s tab tb ∗ IdxAt d cc s idx tk ∗ BufAt d cc s buf (Filled tb tk q n 0)))
    (fun t _ => by
      refine (wp_group d tab idx buf hv hq (t := t.cast h20) (hoff t) (ho t)).trans ?_
      rw [← hbody]
      exact Entails.rfl) (kk := k) (Q := Q)
  iapply hl $$ [Ht Hi Hb]
  · isplitl [Ht]; · iexact Ht
    isplitl [Hi]; · iexact Hi
    unfold BufAt
    icases Hb with ⟨%f, -, Hb⟩
    iexists f; isplitr
    · ipureintro; intro j hj; omega
    iexact Hb
  · iintro %a ⟨Ht, Hi, Hb⟩
    iapply Hk
    isplitl [Ht]; · iexact Ht
    isplitl [Hi]; · iexact Hi
    unfold BufAt
    icases Hb with ⟨%f, %hf, Hb⟩
    iexists f; isplitr
    · ipureintro
      funext j
      refine hf j (.inl ?_)
      have hj : (j 1).val < 320 := (j 1).isLt
      have e : Scf.trips l.lb l.ub l.st = 20 := h20
      rw [e]; omega
    iexact Hb

end Steps

end Cert.Proof.Ideal
-- ==== Proof.Ideal.TileBody.lean ====
/-
  The tile's whole task (`tile_body`): from a read share of the table and of the tokens, and the tile's columns of the result at
  any contents, to the same shares and those columns holding the gathered embeddings.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)

/-- The thread that runs the task. -/
abbrev thrV : Thread nD τ := V d (cV i) (jV i)

abbrev cell0 : GSem nD τ sig := (thrV d i, .dma cc0_scratch4.sem)
abbrev cell1 : GSem nD τ sig := (thrV d i, .dma cc0_scratch5.sem)
abbrev cell2 : GSem nD τ sig := (thrV d i, .dma cc0_scratch6.sem)
abbrev cell3 : GSem nD τ sig := (thrV d i, .dma cc0_scoped0.sem)

/-- The four semaphores of the task are among the subcore's own. -/
theorem ownSems0_V :
    (ownSems0 (thrV d i) : sProp (MM F))
      = iprop(semVal (cell0 d i) 0 ∗ semVal (cell1 d i) 0 ∗ semVal (cell2 d i) 0 ∗ semVal (cell3 d i) 0
          ∗ bigSep (((((ownCells (thrV d i)).erase (cell0 d i)).erase (cell1 d i)).erase (cell2 d i)).erase (cell3 d i)) fun g => semVal g 0) := by
  have m0 : cell0 d i ∈ ownCells (thrV d i) := mem_ownCells.mpr ⟨rfl, by show (SemLoc.dma cc0_scratch4.sem : SemLoc sig).isScoped .scVector = true; decide⟩
  have m1 : cell1 d i ∈ ownCells (thrV d i) := mem_ownCells.mpr ⟨rfl, by show (SemLoc.dma cc0_scratch5.sem : SemLoc sig).isScoped .scVector = true; decide⟩
  have m2 : cell2 d i ∈ ownCells (thrV d i) := mem_ownCells.mpr ⟨rfl, by show (SemLoc.dma cc0_scratch6.sem : SemLoc sig).isScoped .scVector = true; decide⟩
  have m3 : cell3 d i ∈ ownCells (thrV d i) := mem_ownCells.mpr ⟨rfl, by show (SemLoc.dma cc0_scoped0.sem : SemLoc sig).isScoped .scVector = true; decide⟩
  have n : ∀ {a b : SemLoc sig}, a ≠ b → ((thrV d i, a) : GSem nD τ sig) ≠ (thrV d i, b) := fun h e => h (congrArg Prod.snd e)
  unfold SparseCore.Cfg.ownSems0
  rw [SparseCore.bigSep_erase' m0,
    SparseCore.bigSep_erase' (Finset.mem_erase.mpr ⟨n (by decide), m1⟩),
    SparseCore.bigSep_erase' (Finset.mem_erase.mpr ⟨n (by decide), Finset.mem_erase.mpr ⟨n (by decide), m2⟩⟩),
    SparseCore.bigSep_erase' (Finset.mem_erase.mpr ⟨n (by decide), Finset.mem_erase.mpr ⟨n (by decide), Finset.mem_erase.mpr ⟨n (by decide), m3⟩⟩⟩)]

abbrev ref (b : Ref sig .scVector) := (Proc.scVector (cV i) (jV i)).devRef b

/-- The four scratch buffers are among the subcore's own. -/
theorem ownBufs_V :
    (ownBufs (thrV d i) : sProp (MM F))
      = iprop((∃ f, (thrV d i).loc cc0_scratch0 ↦{fullShare} f) ∗ (∃ f, (thrV d i).loc cc0_scratch1 ↦{fullShare} f)
          ∗ (∃ f, (thrV d i).loc cc0_scratch2 ↦{fullShare} f) ∗ (∃ f, (thrV d i).loc cc0_scratch3 ↦{fullShare} f)
          ∗ bigSep (((((ownRefs (τ := τ) (.scVector (cV i) (jV i))).erase (ref i cc0_scratch0)).erase (ref i cc0_scratch1)).erase (ref i cc0_scratch2)).erase (ref i cc0_scratch3))
              fun b => iprop(∃ f, ((d, b) : Loc nD τ sig) ↦{fullShare} f)) := by
  have m : ∀ b : Ref sig .scVector, (Proc.scVector (cV i) (jV i)).devRef b ∈ ownRefs (τ := τ) (.scVector (cV i) (jV i)) → ref i b ∈ ownRefs (τ := τ) (.scVector (cV i) (jV i)) := fun _ h => h
  have n : ∀ {a b : Ref sig .scVector}, a ≠ b → ref i a ≠ ref i b := fun h e => h (Proc.devRef_injective _ e)
  unfold SparseCore.Cfg.ownBufs
  refine (SparseCore.bigSep_erase' (m cc0_scratch0 (SparseCore.Cfg.mem_ownRefs_of_owner rfl))).trans ?_
  rw [SparseCore.bigSep_erase' (Finset.mem_erase.mpr ⟨n (by decide), m cc0_scratch1 (SparseCore.Cfg.mem_ownRefs_of_owner rfl)⟩),
    SparseCore.bigSep_erase' (Finset.mem_erase.mpr ⟨n (by decide), Finset.mem_erase.mpr ⟨n (by decide), m cc0_scratch2 (SparseCore.Cfg.mem_ownRefs_of_owner rfl)⟩⟩),
    SparseCore.bigSep_erase' (Finset.mem_erase.mpr ⟨n (by decide), Finset.mem_erase.mpr ⟨n (by decide), Finset.mem_erase.mpr ⟨n (by decide), m cc0_scratch3 (SparseCore.Cfg.mem_ownRefs_of_owner rfl)⟩⟩⟩)]

/-! ## A chunk's copy out -/

/-- The tile's chunk `r` of the result at some contents, and holding the gathered embeddings. -/
def Raw (r : Fin 5) : sProp (MM F) := iprop(∃ f, oLoc d ↦[chunkSet (i 0).val (i 1).val r.val]{fullShare} f)
def Done (tb : Vec F S64000 .f32) (ix : IVec S32x1600 32) (r : Fin 5) : sProp (MM F) := oLoc d ↦[chunkSet (i 0).val (i 1).val r.val]{fullShare} gathered tb ix

/-- The copy out of a filled buffer, from issue: when it has landed, chunk `r` is done and the buffer is free. -/
theorem wp_out (buf : Memref sig .scVector .vmem S64x320 .f32) (tb : Vec F S64000 .f32) (ix : IVec S32x1600 32) (r : Fin 5) (sm : DmaSem sig)
    {hsrc : buf.view.WordExact} {hdst : (oSl i r).view.WordExact} {hsem : DmaTarget.Typed (nD := nD) .vmem (.dma sm) (DmaTarget.here (p := .scVector (cV i) (jV i)) (oSl i r))}
    {k : PUnit → VP F (cV i) (jV i) PUnit} {Q : PUnit → sProp (MM F)} :
    iprop(BufAt d (cV i) (jV i) buf (fun g => g = chunk tb (tileToks i ix) r.val) ∗ Raw d i r ∗ semVal (thrV d i, .dma sm) 0)
      ⊢ iprop((Transfers.Flight (EC (F := F)) (thrV d i) (.dma sm) none (oSl i r).view.dmaCredit
              iprop(Done d i tb ix r ∗ BufAt d (cV i) (jV i) buf (fun _ => True))
            -∗ wp frame (wpE (defs₀ (F := F)) 𝒱₀ (thrV d i) none) Set.univ (k ⟨⟩) Q)
          -∗ wp frame (wpE (defs₀ (F := F)) 𝒱₀ (thrV d i) none) Set.univ (.op (.enqueueDma buf (.here (oSl i r)) (.dma sm) hsrc hdst hsem) k) Q) := by
  unfold BufAt Raw Done
  iintro ⟨⟨%fs, %hfs, Hs⟩, ⟨%fd, Hd⟩, Hm⟩ Hk
  iapply (wp_issue (Q := Q) (thrV d i) buf (oSl i r) sm (q := fullShare) (fs := fs) (by decide)) $$ [Hs Hd Hm]
  · isplitl [Hs]; · iexact Hs
    isplitl [Hd]
    · iexists fd
      rw [oSl_set]
      iexact Hd
    iexact Hm
  iintro Hf
  iapply Hk
  iapply (Transfers.Flight_mono (EC (F := F)) ?_) $$ Hf
  iintro ⟨⟨%f, %hf, Hd⟩, Hs⟩
  isplitl [Hd]
  · rw [← oSl_set]
    iapply (Entails.of_eq (pointsTo_congr (chunk_lands i tb ix r (f := f) (hf.trans hfs)))) $$ Hd
  · iexists fs; isplitr
    · ipureintro; trivial
    iexact Hs

/-- A tile's columns are its five chunks. -/
theorem tileSet_pts (c s : ℕ) (q : PosShare TreeShare) (f : Buf (Elt F) (oLoc d)) :
    (oLoc d ↦[tileSet c s]{q} f : sProp (MM F))
      = iprop((oLoc d ↦[chunkSet c s 0]{q} f) ∗ (oLoc d ↦[chunkSet c s 1]{q} f) ∗ (oLoc d ↦[chunkSet c s 2]{q} f) ∗ (oLoc d ↦[chunkSet c s 3]{q} f)
          ∗ (oLoc d ↦[chunkSet c s 4]{q} f)) := by
  have h : tileSet c s = (Finset.univ : Finset (Fin 5)).biUnion fun r => chunkSet c s r.val := by
    ext j
    unfold tileSet chunkSet
    simp only [Finset.mem_biUnion, Finset.mem_filter, Finset.mem_univ, true_and]
    constructor
    · intro hj; exact ⟨⟨(j 1).val / 320 - 5 * (2 * s + c), by omega⟩, by show _ = _ + ((j 1).val / 320 - 5 * (2 * s + c)); omega⟩
    · rintro ⟨r, hr⟩; have := r.isLt; omega
  rw [h]
  refine (pointsTo_biUnion (ℓ := oLoc d) (Finset.univ : Finset (Fin 5)) (fun r => chunkSet c s r.val) ?_).trans ?_
  · intro r _ r' _ hne
    refine Finset.disjoint_left.mpr fun j hj hj' => hne (Fin.ext ?_)
    unfold chunkSet at hj hj'
    rw [Finset.mem_filter] at hj hj'
    omega
  · exact bigSep_univ_eq_bigSepL [(0 : Fin 5), 1, 2, 3, 4] (by decide) (by decide) _

/-! ## The task -/

/-- What the task is handed besides its own scratch, and what it hands back. -/
def tileIn (c s : ℕ) (tb : Vec F S64000 .f32) (ix : IVec S32x1600 32) (qt qi : PosShare TreeShare) : sProp (MM F) :=
  iprop((tLoc d ↦{qt} tb) ∗ (iLoc d ↦{qi} ix) ∗ ∃ f, oLoc d ↦[tileSet c s]{fullShare} f)
def tileOut (c s : ℕ) (tb : Vec F S64000 .f32) (ix : IVec S32x1600 32) (qt qi : PosShare TreeShare) : sProp (MM F) :=
  iprop((tLoc d ↦{qt} tb) ∗ (iLoc d ↦{qi} ix) ∗ oLoc d ↦[tileSet c s]{fullShare} gathered tb ix)

set_option maxRecDepth 65536 in
theorem tile_body (hF : (K (F := F)).Facts) (tb : Vec F S64000 .f32) (ix : IVec S32x1600 32) (hix : ∀ p, (ix p).toNat < 1000) (qt qi : PosShare TreeShare)
    (O : CellTallies nD τ sig (HIx 1)) (W : Waits sig (HIx 1)) (hO : ∀ g, O g none = 0) :
    iprop(levAts (K (F := F)).L (K (F := F)).lev ∗ tileIn d (i 0).val (i 1).val tb ix qt qi
        ∗ scopedBufs (thrV d i) ∗ scopedSems0 (thrV d i) ∗ owes (thrV d i) O W)
      ⊢ wp frame (wpE (defs₀ (F := F)) 𝒱₀ (thrV d i) none) Set.univ
          (cc0_body i tV (Memref.isWhole_whole _) iV (Memref.isWhole_whole _) oV (Memref.isWhole_whole _)
            s0 (Memref.isWhole_whole _) s1 (Memref.isWhole_whole _) s2 (Memref.isWhole_whole _) s3 (Memref.isWhole_whole _)
            cc0_scratch4 cc0_scratch5 cc0_scratch6 cc0_scoped0)
          fun _ => iprop(tileOut d (i 0).val (i 1).val tb ix qt qi ∗ scopedBufs (thrV d i) ∗ scopedSems0 (thrV d i)
            ∗ ∃ W', ⌜∀ p ∈ W', p ∈ W ∨ p.2 = none⌝ ∗ owes (thrV d i) O W') := by
  have hv : InVocab (tileToks i ix) := fun p => hix _
  rw [cc0_body_eq_skeleton]; unfold cc0_body_skel
  rw [k0_part71_eq_skeleton]; unfold k0_part71_skel
  simp only [Prog.lift, Prog.bind_op, Prog.bind_ret, Prog.pure_eq_ret, Prog.bind_assoc]
  rw [(K (F := F)).scopedBufs_V hF d (cV i) (jV i), SparseCore.Cfg.scopedSems0_V (Val := Elt F) d (cV i) (jV i), ownSems0_V, ownBufs_V]
  unfold tileIn tileOut
  rw [tileSet_pts]
  iintro ⟨#Hlv, ⟨Ht, Hi, ⟨%fo, Ho⟩⟩, ⟨⟨%f0, H0⟩, ⟨%f1, H1⟩, ⟨%f2, H2⟩, ⟨%f3, H3⟩, Hbufs⟩, ⟨Hm0, Hm1, Hm2, Hm3, Hsems⟩, HO⟩
  ihave Ho' := (Entails.of_eq (tileSet_pts (F := F) d (i 0).val (i 1).val fullShare fo)) $$ Ho
  icases Ho' with ⟨Ho0, Ho1, Ho2, Ho3, Ho4⟩
  -- the table's fetch
  iapply (wp_issue (thrV d i) tV s0 cc0_scratch4.sem (q := qt) (fs := tb) (by decide)) $$ [Ht H0 Hm0]
  · isplitl [Ht]; · simp only [Memref.view_whole, View.set_whole]; iexact Ht
    isplitl [H0]; · iexists f0; simp only [Memref.view_whole, View.set_whole]; iexact H0
    iexact Hm0
  iintro Hf0
  -- the tokens' fetch
  ihave Hi' := (pointsTo_split_subset (ℓ := iLoc d) (q := qi) (f := ix) (Finset.subset_univ (iRow i).view.set)).1 $$ Hi
  icases Hi' with ⟨Hi, Hir⟩
  iapply (wp_issue (thrV d i) (iRow i) s1 cc0_scoped0.sem (q := qi) (fs := ix) (by decide)) $$ [Hi H1 Hm3]
  · isplitl [Hi]; · iexact Hi
    isplitl [H1]; · iexists f1; simp only [Memref.view_whole, View.set_whole]; iexact H1
    iexact Hm3
  iintro Hf3
  ihave HO := (show (owes (thrV d i) O W : sProp (MM F)) ⊢ Owing (thrV d i) O W from by
    unfold Owing
    iintro HO; iexists W; isplitr
    · ipureintro; exact fun p hp => .inl hp
    iexact HO) $$ HO
  iapply (wp_await (thrV d i) cc0_scoped0.sem (iRow i) s1 rfl hO) $$ [Hf3 HO]
  · isplitr; · iexact Hlv
    isplitl [Hf3] <;> iassumption
  iintro ⟨⟨Hidx, Hi⟩, Hm3, HO⟩
  iapply (wp_await (thrV d i) cc0_scratch4.sem tV s0 rfl hO) $$ [Hf0 HO]
  · isplitr; · iexact Hlv
    isplitl [Hf0] <;> iassumption
  iintro ⟨⟨Htab, Ht⟩, Hm0, HO⟩
  ihave Htab := (show _ ⊢ TabAt d (cV i) (jV i) s0 tb from by
    unfold TabAt
    iintro ⟨%f, %hf, H⟩; iexists f; isplitr
    · ipureintro; exact hf
    iexact H) $$ Htab
  ihave Hidx := (show _ ⊢ IdxAt d (cV i) (jV i) s1 (tileToks i ix) from by
    unfold IdxAt
    iintro ⟨%f, %hf, H⟩; iexists f; isplitr
    · ipureintro; exact hf.trans (iRow_read i ix)
    iexact H) $$ Hidx
  ihave H2 := (show _ ⊢ BufAt d (cV i) (jV i) s2 (fun _ => True) from by
    unfold BufAt
    iintro H; iexists f2; isplitr
    · ipureintro; trivial
    simp only [Memref.view_whole, View.set_whole]; iexact H) $$ H2
  ihave H3 := (show _ ⊢ BufAt d (cV i) (jV i) s3 (fun _ => True) from by
    unfold BufAt
    iintro H; iexists f3; isplitr
    · ipureintro; trivial
    simp only [Memref.view_whole, View.set_whole]; iexact H) $$ H3
  -- the five chunks
  iapply (wp_chunk d s0 s1 s2 hv (q := 0) (by decide) k0_t1_loop k0_t1_ok _ trips1 _ (body1_eq i _ _ _ _ _ _ _ _ _ _ _ _ _ _ _ _ _ _) tok1) $$ [Htab Hidx H2]
  · isplitl [Htab]; · iexact Htab
    isplitl [Hidx] <;> iassumption
  iintro ⟨Htab, Hidx, H2⟩
  iapply (wp_out d i s2 tb ix 0 cc0_scratch5.sem) $$ [H2 Ho0 Hm1]
  · isplitl [H2]; · iexact H2
    isplitl [Ho0]; · unfold Raw; iexists fo; iexact Ho0
    iexact Hm1
  iintro HfA
  iapply (wp_chunk d s0 s1 s3 hv (q := 1) (by decide) k0_t2_loop k0_t2_ok _ trips2 _ (body2_eq i _ _ _ _ _ _ _ _ _ _ _ _ _ _ _ _ _ _) tok2) $$ [Htab Hidx H3]
  · isplitl [Htab]; · iexact Htab
    isplitl [Hidx] <;> iassumption
  iintro ⟨Htab, Hidx, H3⟩
  iapply (wp_out d i s3 tb ix 1 cc0_scratch6.sem) $$ [H3 Ho1 Hm2]
  · isplitl [H3]; · iexact H3
    isplitl [Ho1]; · unfold Raw; iexists fo; iexact Ho1
    iexact Hm2
  iintro HfB
  iapply (wp_await (thrV d i) cc0_scratch5.sem s2 (oSl i 0) rfl hO) $$ [HfA HO]
  · isplitr; · iexact Hlv
    isplitl [HfA] <;> iassumption
  iintro ⟨⟨Ho0, H2⟩, Hm1, HO⟩
  iapply (wp_chunk d s0 s1 s2 hv (q := 2) (by decide) k0_t3_loop k0_t3_ok _ trips3 _ (body3_eq i _ _ _ _ _ _ _ _ _ _ _ _ _ _ _ _ _ _) tok3) $$ [Htab Hidx H2]
  · isplitl [Htab]; · iexact Htab
    isplitl [Hidx] <;> iassumption
  iintro ⟨Htab, Hidx, H2⟩
  iapply (wp_out d i s2 tb ix 2 cc0_scratch5.sem) $$ [H2 Ho2 Hm1]
  · isplitl [H2]; · iexact H2
    isplitl [Ho2]; · unfold Raw; iexists fo; iexact Ho2
    iexact Hm1
  iintro HfA
  iapply (wp_await (thrV d i) cc0_scratch6.sem s3 (oSl i 1) rfl hO) $$ [HfB HO]
  · isplitr; · iexact Hlv
    isplitl [HfB] <;> iassumption
  iintro ⟨⟨Ho1, H3⟩, Hm2, HO⟩
  iapply (wp_chunk d s0 s1 s3 hv (q := 3) (by decide) k0_t4_loop k0_t4_ok _ trips4 _ (body4_eq i _ _ _ _ _ _ _ _ _ _ _ _ _ _ _ _ _ _) tok4) $$ [Htab Hidx H3]
  · isplitl [Htab]; · iexact Htab
    isplitl [Hidx] <;> iassumption
  iintro ⟨Htab, Hidx, H3⟩
  iapply (wp_out d i s3 tb ix 3 cc0_scratch6.sem) $$ [H3 Ho3 Hm2]
  · isplitl [H3]; · iexact H3
    isplitl [Ho3]; · unfold Raw; iexists fo; iexact Ho3
    iexact Hm2
  iintro HfB
  iapply (wp_await (thrV d i) cc0_scratch5.sem s2 (oSl i 2) rfl hO) $$ [HfA HO]
  · isplitr; · iexact Hlv
    isplitl [HfA] <;> iassumption
  iintro ⟨⟨Ho2, H2⟩, Hm1, HO⟩
  iapply (wp_chunk d s0 s1 s2 hv (q := 4) (by decide) k0_t5_loop k0_t5_ok _ trips5 _ (body5_eq i _ _ _ _ _ _ _ _ _ _ _ _ _ _ _ _ _ _) tok5) $$ [Htab Hidx H2]
  · isplitl [Htab]; · iexact Htab
    isplitl [Hidx] <;> iassumption
  iintro ⟨Htab, Hidx, H2⟩
  iapply (wp_out d i s2 tb ix 4 cc0_scratch5.sem) $$ [H2 Ho4 Hm1]
  · isplitl [H2]; · iexact H2
    isplitl [Ho4]; · unfold Raw; iexists fo; iexact Ho4
    iexact Hm1
  iintro HfA
  iapply (wp_await (thrV d i) cc0_scratch5.sem s2 (oSl i 4) rfl hO) $$ [HfA HO]
  · isplitr; · iexact Hlv
    isplitl [HfA] <;> iassumption
  iintro ⟨⟨Ho4, H2⟩, Hm1, HO⟩
  iapply (wp_await (thrV d i) cc0_scratch6.sem s3 (oSl i 3) rfl hO) $$ [HfB HO]
  · isplitr; · iexact Hlv
    isplitl [HfB] <;> iassumption
  iintro ⟨⟨Ho3, H3⟩, Hm2, HO⟩
  rw [wp_ret]
  imodintro
  unfold Done TabAt IdxAt BufAt Owing
  icases Htab with ⟨%g0, -, H0⟩
  icases Hidx with ⟨%g1, -, H1⟩
  icases H2 with ⟨%g2, -, H2⟩
  icases H3 with ⟨%g3, -, H3⟩
  simp only [Memref.view_whole, View.set_whole]
  isplitl [Ht Hi Hir Ho0 Ho1 Ho2 Ho3 Ho4]
  · isplitl [Ht]; · iexact Ht
    isplitl [Hi Hir]
    · iapply (pointsTo_split_subset (ℓ := iLoc d) (q := qi) (f := ix) (Finset.subset_univ (iRow i).view.set)).2
      isplitl [Hi] <;> iassumption
    isplitl [Ho0]; · iexact Ho0
    isplitl [Ho1]; · iexact Ho1
    isplitl [Ho2]; · iexact Ho2
    isplitl [Ho3]; · iexact Ho3
    iexact Ho4
  isplitl [H0 H1 H2 H3 Hbufs]
  · isplitl [H0]; · iexists g0; iexact H0
    isplitl [H1]; · iexists g1; iexact H1
    isplitl [H2]; · iexists g2; iexact H2
    isplitl [H3]; · iexists g3; iexact H3
    iexact Hbufs
  isplitl [Hm0 Hm1 Hm2 Hm3 Hsems]
  · isplitl [Hm0]; · iexact Hm0
    isplitl [Hm1]; · iexact Hm1
    isplitl [Hm2]; · iexact Hm2
    isplitl [Hm3] <;> iassumption
  iexact HO

end Cert.Proof.Ideal
-- ==== Proof.Ideal.Call.lean ====
/-
  The SparseCore call: what the TensorCore hands the two SparseCores and what it gets back, how a SparseCore deals it to its
  sixteen tiles, and the task's obligation. The table and the tokens are dealt as read shares, the result as the disjoint
  columns of `coreSet` and `tileSet`; what comes back are the same columns holding `gathered`.
-/
module

public import proofs.«01_k».proof.Proof.Ideal.TileBody
public import proofs.«01_k».proof.Proof.Gen.KernelIdeal.Launch
public import Idealize.ShloMosaic.Lib.Pipeline.Regions

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The deal -/

/-- SparseCore `c`'s read share, and its tile `s`'s. -/
abbrev qC (c : ℕ) : PosShare TreeShare := Transfers.shareTokN fullShare c
abbrev qT (c s : ℕ) : PosShare TreeShare := Transfers.shareTokN (qC c) s

def coreIn (d : Dev nD) (c : ℕ) (tb : Vec F S64000 .f32) (ix : IVec S32x1600 32) : sProp (MM F) :=
  iprop((tLoc d ↦{qC c} tb) ∗ (iLoc d ↦{qC c} ix) ∗ ∃ f, oLoc d ↦[coreSet c]{fullShare} f)
def coreOut (d : Dev nD) (c : ℕ) (tb : Vec F S64000 .f32) (ix : IVec S32x1600 32) : sProp (MM F) :=
  iprop((tLoc d ↦{qC c} tb) ∗ (iLoc d ↦{qC c} ix) ∗ oLoc d ↦[coreSet c]{fullShare} gathered tb ix)

variable (tb : Vec F S64000 .f32) (ix : IVec S32x1600 32)

def P : (K (F := F)).Pay (nD := nD) (Val := Elt F) (Name := ℕ) (U := UU) where
  st := fun q d c => match q with | 0 => coreIn d c.val tb ix
  dn := fun q d c => match q with | 0 => coreOut d c.val tb ix
  go := fun q d c i => match q with | 0 => tileIn d c.val i.val tb ix (qT c.val i.val) (qT c.val i.val)
  td := fun q d c i => match q with | 0 => tileOut d c.val i.val tb ix (qT c.val i.val) (qT c.val i.val)
  x := fun _ _ => iprop(emp)

instance P_storable : (P tb ix).IsStorable where
  st q d c := match q with
    | 0 => (by unfold coreIn; infer_instance : BI.Storable (upEmb : UEmb _ (MM F)) (coreIn d c.val tb ix))
  dn q d c := match q with
    | 0 => (by unfold coreOut; infer_instance : BI.Storable (upEmb : UEmb _ (MM F)) (coreOut d c.val tb ix))
  go q d c i := match q with
    | 0 => (by unfold tileIn; infer_instance : BI.Storable (upEmb : UEmb _ (MM F)) (tileIn d c.val i.val tb ix (qT c.val i.val) (qT c.val i.val)))
  td q d c i := match q with
    | 0 => (by unfold tileOut; infer_instance : BI.Storable (upEmb : UEmb _ (MM F)) (tileOut d c.val i.val tb ix (qT c.val i.val) (qT c.val i.val)))

/-! ## The columns -/

theorem tileSets_disjoint (c : ℕ) (n : ℕ) : ∀ s ∈ (Finset.univ : Finset (Fin n)), ∀ s' ∈ (Finset.univ : Finset (Fin n)), s ≠ s' → Disjoint (tileSet c s.val) (tileSet c s'.val) := by
  intro s _ s' _ hne
  refine Finset.disjoint_left.mpr fun j hj hj' => hne (Fin.ext ?_)
  unfold tileSet at hj hj'
  rw [Finset.mem_filter] at hj hj'
  omega

theorem tileSets_cover (c : ℕ) (hc : c < 2) (n : ℕ) (hn : n = 16) : (Finset.univ : Finset (Fin n)).biUnion (fun s => tileSet c s.val) = coreSet c := by
  subst hn
  ext j
  have hj1 : (j 1).val < 51200 := (j 1).isLt
  unfold tileSet coreSet
  simp only [Finset.mem_biUnion, Finset.mem_filter, Finset.mem_univ, true_and]
  constructor
  · rintro ⟨s, hs⟩; omega
  · intro hj; exact ⟨⟨(j 1).val / 1600 / 2, by omega⟩, by show _ = 2 * ((j 1).val / 1600 / 2) + c; omega⟩

theorem coreSets_disjoint (n : ℕ) : ∀ c ∈ (Finset.univ : Finset (Fin n)), ∀ c' ∈ (Finset.univ : Finset (Fin n)), c ≠ c' → Disjoint (coreSet c.val) (coreSet c'.val) := by
  intro c _ c' _ hne
  refine Finset.disjoint_left.mpr fun j hj hj' => hne (Fin.ext ?_)
  unfold coreSet at hj hj'
  rw [Finset.mem_filter] at hj hj'
  omega

theorem coreSets_cover (n : ℕ) (hn : n = 2) : (Finset.univ : Finset (Fin n)).biUnion (fun c => coreSet c.val) = Finset.univ := by
  subst hn
  ext j
  unfold coreSet
  simp only [Finset.mem_biUnion, Finset.mem_filter, Finset.mem_univ, true_and, iff_true]
  exact ⟨⟨(j 1).val / 1600 % 2, by omega⟩, rfl⟩

theorem core_pts (d : Dev nD) (c : ℕ) (hc : c < 2) (n : ℕ) (hn : n = 16) (f : Buf (Elt F) (oLoc d)) :
    (oLoc d ↦[coreSet c]{fullShare} f : sProp (MM F)) = bigSep Finset.univ fun s : Fin n => oLoc d ↦[tileSet c s.val]{fullShare} f := by
  rw [← tileSets_cover c hc n hn]
  exact pointsTo_biUnion (ℓ := oLoc d) Finset.univ (fun s : Fin n => tileSet c s.val) (tileSets_disjoint c n)

theorem whole_pts (d : Dev nD) (n : ℕ) (hn : n = 2) (f : Buf (Elt F) (oLoc d)) :
    (oLoc d ↦{fullShare} f : sProp (MM F)) = bigSep Finset.univ fun c : Fin n => oLoc d ↦[coreSet c.val]{fullShare} f := by
  rw [show (Finset.univ : Finset (Idx (oLoc d))) = (Finset.univ : Finset (Fin n)).biUnion (fun c => coreSet c.val) from (coreSets_cover n hn).symm]
  exact pointsTo_biUnion (ℓ := oLoc d) Finset.univ (fun c : Fin n => coreSet c.val) (coreSets_disjoint n)

theorem core_bound (c : Fin ((K (F := F)).nCore 0)) : c.val < 2 := c.isLt

theorem cols_some (d : Dev nD) (n : ℕ) (S : Fin n → Finset S64x51200.Idx) (f : Buf (Elt F) (oLoc d)) :
    (bigSep Finset.univ fun i : Fin n => (oLoc d ↦[S i]{fullShare} f : sProp (MM F))) ⊢ bigSep Finset.univ fun i : Fin n => iprop(∃ f, oLoc d ↦[S i]{fullShare} f) :=
  bigSep_mono fun i _ => exists_intro (Φ := fun f => iprop(oLoc d ↦[S i]{fullShare} f)) f

theorem vecSplit : (K (F := F)).VecSplit' (P tb ix) 0 := by
  intro d c
  show coreIn d c.val tb ix ⊢ |={Set.univ}=> iprop(
      (bigSep Finset.univ fun i : Fin ((K (F := F)).nSub 0) => tileIn d c.val i.val tb ix (qT c.val i.val) (qT c.val i.val))
      ∗ ((bigSep Finset.univ fun i : Fin ((K (F := F)).nSub 0) => tileOut d c.val i.val tb ix (qT c.val i.val) (qT c.val i.val)) -∗ coreOut d c.val tb ix))
  unfold coreIn coreOut tileIn tileOut
  rw [bigSep_sep', bigSep_sep', bigSep_sep', bigSep_sep']
  iintro ⟨Ht, Hi, ⟨%f, Ho⟩⟩
  ihave Ht := (Transfers.pointsTo_toks_split (ℓ := tLoc d) (S := Finset.univ) (f := tb) (qC c.val) ((K (F := F)).nSub 0)) $$ Ht
  ihave Hi := (Transfers.pointsTo_toks_split (ℓ := iLoc d) (S := Finset.univ) (f := ix) (qC c.val) ((K (F := F)).nSub 0)) $$ Hi
  icases Ht with ⟨Htd, Ht⟩
  icases Hi with ⟨Hid, Hi⟩
  ihave Ho := (Entails.of_eq (core_pts (F := F) d c.val c.isLt ((K (F := F)).nSub 0) rfl f)) $$ Ho
  imodintro
  isplitl [Ht Hi Ho]
  · isplitl [Ht]; · iexact Ht
    isplitl [Hi]; · iexact Hi
    iapply (cols_some d ((K (F := F)).nSub 0) (fun s => tileSet c.val s.val) f) $$ Ho
  iintro ⟨Ht, Hi, Ho⟩
  isplitl [Ht Htd]
  · iapply (Transfers.pointsTo_toks_join (ℓ := tLoc d) (S := Finset.univ) (f := tb) (qC c.val) ((K (F := F)).nSub 0))
    isplitl [Htd] <;> iassumption
  isplitl [Hi Hid]
  · iapply (Transfers.pointsTo_toks_join (ℓ := iLoc d) (S := Finset.univ) (f := ix) (qC c.val) ((K (F := F)).nSub 0))
    isplitl [Hid] <;> iassumption
  iapply (Entails.of_eq (core_pts (F := F) d c.val c.isLt ((K (F := F)).nSub 0) rfl (gathered tb ix)).symm) $$ Ho

/-- Whole arrays, dealt to the two SparseCores; what remains of the read shares waits for them to come back. -/
theorem deal (d : Dev nD) :
    iprop((tLoc d ↦{fullShare} tb) ∗ (iLoc d ↦{fullShare} ix) ∗ ∃ f, oLoc d ↦{fullShare} f)
      ⊢ iprop((bigSep Finset.univ fun c : Fin ((K (F := F)).nCore 0) => (P tb ix).st 0 d c)
        ∗ ((bigSep Finset.univ fun c : Fin ((K (F := F)).nCore 0) => (P tb ix).dn 0 d c)
          -∗ iprop((tLoc d ↦{fullShare} tb) ∗ (iLoc d ↦{fullShare} ix) ∗ oLoc d ↦{fullShare} gathered tb ix))) := by
  show _ ⊢ iprop((bigSep Finset.univ fun c : Fin ((K (F := F)).nCore 0) => coreIn d c.val tb ix)
        ∗ ((bigSep Finset.univ fun c : Fin ((K (F := F)).nCore 0) => coreOut d c.val tb ix)
          -∗ iprop((tLoc d ↦{fullShare} tb) ∗ (iLoc d ↦{fullShare} ix) ∗ oLoc d ↦{fullShare} gathered tb ix)))
  unfold coreIn coreOut
  rw [bigSep_sep', bigSep_sep', bigSep_sep', bigSep_sep']
  iintro ⟨Ht, Hi, ⟨%f, Ho⟩⟩
  ihave Ht := (Transfers.pointsTo_toks_split (ℓ := tLoc d) (S := Finset.univ) (f := tb) fullShare ((K (F := F)).nCore 0)) $$ Ht
  ihave Hi := (Transfers.pointsTo_toks_split (ℓ := iLoc d) (S := Finset.univ) (f := ix) fullShare ((K (F := F)).nCore 0)) $$ Hi
  icases Ht with ⟨Htd, Ht⟩
  icases Hi with ⟨Hid, Hi⟩
  ihave Ho := (Entails.of_eq (whole_pts (F := F) d ((K (F := F)).nCore 0) rfl f)) $$ Ho
  isplitl [Ht Hi Ho]
  · isplitl [Ht]; · iexact Ht
    isplitl [Hi]; · iexact Hi
    iapply (cols_some d ((K (F := F)).nCore 0) (fun c => coreSet c.val) f) $$ Ho
  iintro ⟨Ht, Hi, Ho⟩
  isplitl [Ht Htd]
  · iapply (Transfers.pointsTo_toks_join (ℓ := tLoc d) (S := Finset.univ) (f := tb) fullShare ((K (F := F)).nCore 0))
    isplitl [Htd] <;> iassumption
  isplitl [Hi Hid]
  · iapply (Transfers.pointsTo_toks_join (ℓ := iLoc d) (S := Finset.univ) (f := ix) fullShare ((K (F := F)).nCore 0))
    isplitl [Hid] <;> iassumption
  iapply (Entails.of_eq (whole_pts (F := F) d ((K (F := F)).nCore 0) rfl (gathered tb ix)).symm) $$ Ho

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) tV (Memref.isWhole_whole _) iV (Memref.isWhole_whole _) oV (Memref.isWhole_whole _)
            s0 (Memref.isWhole_whole _) s1 (Memref.isWhole_whole _) s2 (Memref.isWhole_whole _) s3 (Memref.isWhole_whole _)
            cc0_scratch4 cc0_scratch5 cc0_scratch6 cc0_scoped0) ⟨⟩ c s := rfl

theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A C : sProp (MM F)} : iprop(A ∗ iprop(emp) ∗ C) ⊢ iprop(A ∗ C) := by
  iintro ⟨HA, -, HC⟩
  isplitl [HA] <;> iassumption

theorem tileObl (hix : ∀ p, (ix p).toNat < 1000) : (K (F := F)).TileObl (D (F := F)) 𝒱 (P tb ix) v₀ 0 := by
  intro d c i O W hO _ _
  simp only [show (P tb ix).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine drop_emp.trans ?_
  exact (tile_body d (coordsV ⟨_, hc.1⟩ ⟨_, hc.2⟩) facts tb ix hix (qT c.val i.val) (qT c.val i.val) O W hO).trans (wp_mono frame _ _ fun _ => waits_weaken)

/-! ## The launch element -/

abbrev adm : (p : Fin 1) → (pcfgs (F := F) p).Adm := fun p => (cfgs p).toPCfg_adm

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

/-- What the launch deals device `d`'s TensorCore for the pipeline of its kernel region. -/
def G (d : Dev nD) : sProp (MM F) :=
  iprop(Pipeline.cellsGhost (Pipeline.pin (pcfgs (F := F)) adm) (EP (F := F)) 0 d ∗ Pipeline.toksInit (Pipeline.pin (pcfgs (F := F)) adm) (EP (F := F)) 0 d)

theorem ownU_split (a : UH) (b : UG) : (ownU (a, (b, 1)) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem x_emp : (bigSep Finset.univ fun thr : Thread nD τ => bigSep Finset.univ fun q : Fin 1 => (P tb ix).x q thr) = (iprop(emp) : sProp (MM F)) :=
  (bigSep_congr fun thr _ => show (bigSep Finset.univ fun q : Fin 1 => (P tb ix).x q thr) = iprop(emp) from bigSep_emp_const Finset.univ).trans (bigSep_emp_const Finset.univ)

/-- One pipeline: a separating product over the pipelines is its one term. -/
theorem one_pipe (Φ : Dev nD → Fin 1 → sProp (MM F)) :
    (bigSep Finset.univ fun d : Dev nD => bigSep Finset.univ fun p : Fin 1 => Φ d p) ⊢ bigSep Finset.univ fun d : Dev nD => Φ d 0 :=
  bigSep_mono fun _ _ => Entails.of_eq (bigSep_univ_of_subsingleton (0 : Fin 1))

theorem hu₀ : (ownU (u₀ (F := F)) : sProp (MM F))
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P tb ix).x q thr) := by
  unfold u₀
  iintro Hu
  ihave H := (ownU_split _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]
    · iapply (one_pipe _) $$ Hg
    · iapply (one_pipe _) $$ Ht
  rw [x_emp]; iempintro

end Cert.Proof.Ideal
-- ==== Proof.Ideal.Region.lean ====
/-
  The recurrent part as the pipelined region it runs as: the state carried between its grid points, each point's body against
  the windows' blocks, and the region as one step of the TensorCore's program.
-/
module

public import proofs.«01_k».proof.Proof.Ideal.Steps
public import proofs.«01_k».proof.Proof.Ideal.Call
public import proofs.«01_k».proof.Proof.Gen.KernelIdeal.Launch
public import proofs.«01_k».proof.Proof.Gen.KernelIdeal.Points
public import Idealize.ShloMosaic.Lib.Pipeline.ValueKit
public import Idealize.ShloMosaic.Lib.Pipeline.FrameBody

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid and the blocks -/

theorem coords_val (t : Fin cfg1.N) : (grid1.coords t 0).val = t.val := (by decide +kernel : ∀ t : Fin grid1.N, (grid1.coords t 0).val = t.val) t

variable (V : (c : Dev nD) → (b : Ref sig .tc) → Buf (Elt F) ((c : Thread nD τ).loc b)) (c : Dev nD)

/-- Window `w`'s block at point `t`, of its array at `V`. -/
abbrev blkOf (w : Fin cfg1.W) (t : Fin cfg1.N) := ((cfg1.win w).blk t).view.read (Elt F) (V c (Pipeline.arrRef spec1 w))

theorem blk_0 (t : Fin cfg1.N) : (blkOf V c 0 t : Vec F S64x5120 .f32) = blockAt (V c main_v4) t.val := by
  have e : win1_0.index t = ![0, t.val] := (by decide +kernel : ∀ t : Fin grid1.N, win1_0.index t = ![0, t.val]) t
  have ht : t.val < 10 := t.isLt.trans_eq N_1
  funext p
  show V c main_v4 _ = V c main_v4 _
  congr 1
  funext a
  apply Fin.ext
  fin_cases a
  · blk_simp [e]
    rfl
  · have hp : (p 1).val < 5120 := (p 1).isLt
    blk_simp [e]
    show t.val * 5120 + (p 1).val = (t.val * 5120 + (p 1).val) % 51200
    rw [Nat.mod_eq_of_lt (by omega)]

/-- Each window but the first stages the whole of its array. -/
theorem blk_whole (t : Fin cfg1.N) :
    (blkOf V c 1 t : Vec F S1x1024 .i32) = V c main_v8 ∧ (blkOf V c 2 t : Vec F S384x64 .f32) = V c main_arg3 ∧ (blkOf V c 3 t : Vec F S384x128 .f32) = V c main_arg4
      ∧ (blkOf V c 4 t : Vec F S64x128 .f32) = V c main_arg7 ∧ (blkOf V c 5 t : Vec F S64x1 .f32) = V c main_v9
      ∧ (blkOf V c 6 t : Vec F S1x64 .f32) = V c main_arg9 ∧ (blkOf V c 7 t : Vec F S1x1 .f32) = V c main_v10 := by
  have e : ∀ t : Fin grid1.N, win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] := by decide +kernel
  obtain ⟨e1, e2, e3, e4, e5, e6, e7⟩ := e t
  refine ⟨?_, ?_, ?_, ?_, ?_, ?_, ?_⟩ <;>
    (funext p
     refine congrArg (V c _) (funext fun a => Fin.ext ?_)
     fin_cases a <;> (blk_simp [e1, e2, e3, e4, e5, e6, e7]; try rfl))

/-! ## The proof data -/

/-- The state after `n` tokens, the selected states and the head's result, from the arrays at `V`. -/
abbrev hV (n : ℕ) : FVec F S128x1024 .f32 := hseq (V c main_v4) (V c main_arg3) (V c main_arg4) n
abbrev selV : FVec F S128x1024 .f32 := hsel (V c main_v4) (V c main_v8) (V c main_arg3) (V c main_arg4)
abbrev outV : FVec F S1x1024 .f32 := head (V c main_arg7) (V c main_v9) (V c main_arg9) (V c main_v10) (selV V c)

/-- Between points `n - 1` and `n`: the first scratch holds the state after `5 n` tokens (before the first point, anything),
    the second the states chosen so far. -/
def Carried (n : ℕ) : sProp (MM F) :=
  iprop((∃ h, iprop(⌜n ≠ 0 → h = hV V c (5 * n)⌝ ∗ owns (c : Thread nD τ) (Memref.whole cc1_scratch0) fullShare h))
    ∗ ∃ a, iprop(⌜Chosen (V c main_v4) (V c main_v8) (V c main_arg3) (V c main_arg4) a (5 * n)⌝ ∗ owns (c : Thread nD τ) (Memref.whole cc1_scratch1) fullShare a))

def dat : Dat τ (Elt F) (HIx 1) ℕ UU ℕ cfg1 c where
  A w := V c (Pipeline.arrRef spec1 w)
  after w t := match w with
    | 0 => blkOf V c 0 t | 1 => blkOf V c 1 t | 2 => blkOf V c 2 t | 3 => blkOf V c 3 t | 4 => blkOf V c 4 t
    | 5 => blkOf V c 5 t | 6 => blkOf V c 6 t | 7 => blkOf V c 7 t
    | 8 => outV V c
    | ⟨_ + 9, h⟩ => absurd h (Nat.not_lt.2 (Nat.le_add_left _ _))
  Φ t := Carried V c t.val
  q _ := fullShare
  owed _ := 0
  recorded _ := {p | (K (F := F)).lev ((c : Thread nD τ), p.1) p.2 ≤ 8}

/-- An input window's buffer holds its block when the body runs. -/
theorem before_in (w : Fin cfg1.W) (hw : (cfg1.win w).isOut = false) (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat V c).after w t) = (dat V c).blockOf w t)
    (t : Fin cfg1.N) (d) : (dat V c).before w t d = (dat V c).fetched w t d :=
  (dat V c).before_in_eq_fetched w hw hlive hclip hkeep t d

theorem befores (t : Fin cfg1.N) :
    (∀ d, (dat V c).before 0 t d = blkOf V c 0 t) ∧ (∀ d, (dat V c).before 1 t d = blkOf V c 1 t) ∧ (∀ d, (dat V c).before 2 t d = blkOf V c 2 t)
      ∧ (∀ d, (dat V c).before 3 t d = blkOf V c 3 t) ∧ (∀ d, (dat V c).before 4 t d = blkOf V c 4 t) ∧ (∀ d, (dat V c).before 5 t d = blkOf V c 5 t)
      ∧ (∀ d, (dat V c).before 6 t d = blkOf V c 6 t) ∧ (∀ d, (dat V c).before 7 t d = blkOf V c 7 t) := by
  refine ⟨fun d => ?_, fun d => ?_, fun d => ?_, fun d => ?_, fun d => ?_, fun d => ?_, fun d => ?_, fun d => ?_⟩ <;>
    exact (before_in V c _ rfl (fun _ => rfl) (fun _ _ _ => rfl) (fun _ => rfl) t d).trans rfl

theorem start_hV (t : Fin cfg1.N) (h : FVec F S128x1024 .f32) (hh : t.val ≠ 0 → h = hV V c (5 * t.val)) : start (grid1.coords t) h = hV V c (5 * t.val) := by
  unfold start
  rw [coords_val]
  split
  · rename_i e; rw [e]; rfl
  · rename_i e; exact hh e

/-- What the body leaves of the result's buffer at a point: the head's result at the last, else what it found. -/
theorem out_idle (t : Fin cfg1.N) (ht : t.val ≠ 9) : (dat V c).leavesExact 8 t = iprop(∃ d, owns (c : Thread nD τ) (st1_8 t) fullShare ((dat V c).before 8 t d)) :=
  (dat V c).leavesExact_idle 8 t ((by decide +kernel : ∀ t : Fin grid1.N, t.val ≠ 9 → idle1 8 (grid1.coords t) = true) t ht)
    (by have h10 : t.val < 10 := t.isLt.trans_eq N_1; rw [← Bool.not_eq_true, flush1_8]; omega)

theorem out_last (t : Fin cfg1.N) (ht : t.val = 9) : (dat V c).leavesExact 8 t = owns (c : Thread nD τ) (st1_8 t) fullShare (outV V c) := by
  unfold Dat.leavesExact
  rw [show cfg1.idle 8 (cfg1.grid.coords t) = false from (by decide +kernel : ∀ t : Fin grid1.N, t.val = 9 → idle1 8 (grid1.coords t) = false) t ht]
  rfl

theorem body_obligation (hlen : ∀ j, ((V c main_v8 : Vec F S1x1024 .i32) j).toNat < 50) : BodyObligation (dat V c) (defs₀ (F := F)) 𝒱₀ none Set.univ := fun t => by
  rw [bigSep_W1, bigSep_W1]
  obtain ⟨f0, f1, f2, f3, f4, f5, f6, f7⟩ := befores V c t
  obtain ⟨w1, w2, w3, w4, w5, w6, w7⟩ := blk_whole V c t
  have ht : t.val < 10 := t.isLt.trans_eq N_1
  show iprop(Carried V c t.val ∗ (dat V c).owesAt none t.castSucc ∗ (∃ d, owns (c : Thread nD τ) (st1_0 t) fullShare ((dat V c).before 0 t d))
      ∗ (∃ d, owns (c : Thread nD τ) (st1_1 t) fullShare ((dat V c).before 1 t d)) ∗ (∃ d, owns (c : Thread nD τ) (st1_2 t) fullShare ((dat V c).before 2 t d))
      ∗ (∃ d, owns (c : Thread nD τ) (st1_3 t) fullShare ((dat V c).before 3 t d)) ∗ (∃ d, owns (c : Thread nD τ) (st1_4 t) fullShare ((dat V c).before 4 t d))
      ∗ (∃ d, owns (c : Thread nD τ) (st1_5 t) fullShare ((dat V c).before 5 t d)) ∗ (∃ d, owns (c : Thread nD τ) (st1_6 t) fullShare ((dat V c).before 6 t d))
      ∗ (∃ d, owns (c : Thread nD τ) (st1_7 t) fullShare ((dat V c).before 7 t d)) ∗ (∃ d, owns (c : Thread nD τ) (st1_8 t) fullShare ((dat V c).before 8 t d)))
    ⊢ wp frame (wpE (defs₀ (F := F)) 𝒱₀ (c : Thread nD τ) none) Set.univ (bodyAt1 t) fun _ =>
      iprop(Carried V c (t.val + 1) ∗ (dat V c).owesAt none t.castSucc ∗ owns (c : Thread nD τ) (st1_0 t) fullShare (blkOf V c 0 t)
        ∗ owns (c : Thread nD τ) (st1_1 t) fullShare (blkOf V c 1 t) ∗ owns (c : Thread nD τ) (st1_2 t) fullShare (blkOf V c 2 t)
        ∗ owns (c : Thread nD τ) (st1_3 t) fullShare (blkOf V c 3 t) ∗ owns (c : Thread nD τ) (st1_4 t) fullShare (blkOf V c 4 t)
        ∗ owns (c : Thread nD τ) (st1_5 t) fullShare (blkOf V c 5 t) ∗ owns (c : Thread nD τ) (st1_6 t) fullShare (blkOf V c 6 t)
        ∗ owns (c : Thread nD τ) (st1_7 t) fullShare (blkOf V c 7 t) ∗ (dat V c).leavesExact 8 t)
  simp only [f0, f1, f2, f3, f4, f5, f6, f7]
  unfold Carried bodyAt1
  iintro ⟨⟨⟨%h, %hh, HH⟩, ⟨%a, %ha, HA⟩⟩, Ho, ⟨%_d0, H0⟩, ⟨%_d1, H1⟩, ⟨%_d2, H2⟩, ⟨%_d3, H3⟩, ⟨%_d4, H4⟩, ⟨%_d5, H5⟩, ⟨%_d6, H6⟩, ⟨%_d7, H7⟩, ⟨%d8, H8⟩⟩
  iapply (gru_body c (grid1.coords t) _ _ _ _ _ _ _ _ _ _ _ _ _ _ _ _ _ _ _ _ _ _ (blkOf V c 0 t) (blkOf V c 1 t) (blkOf V c 2 t) (blkOf V c 3 t)
    (blkOf V c 4 t) (blkOf V c 5 t) (blkOf V c 6 t) (blkOf V c 7 t) ((dat V c).before 8 t d8) h a) $$ [H0 H1 H2 H3 H4 H5 H6 H7 H8 HH HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HH] <;> iassumption
  iintro ⟨H0, H1, H2, H3, H4, H5, H6, H7, H8, HH, HA⟩
  rw [start_hV V c t h hh]
  have hc : Chosen (V c main_v4) (V c main_v8) (V c main_arg3) (V c main_arg4)
      (picks (BitVec.ofNat 32 (grid1.coords t 0).val) (blkOf V c 1 t) (k1_pay7 (blkOf V c 2 t) (blkOf V c 0 t)) (blkOf V c 3 t) (hV V c (5 * t.val)) a 5) (5 * (t.val + 1)) := by
    rw [coords_val, blk_0, w1, w2, w3]
    exact picks_chosen (V c main_v4) (V c main_v8) (V c main_arg3) (V c main_arg4) t.val ht a ha 5 le_rfl
  have hs : five (k1_pay7 (blkOf V c 2 t) (blkOf V c 0 t)) (blkOf V c 3 t) (hV V c (5 * t.val)) 5 = hV V c (5 * (t.val + 1)) := by
    rw [blk_0, w2, w3]
    exact five_hseq (V c main_v4) (V c main_arg3) (V c main_arg4) t.val 5 le_rfl
  isplitl [HH HA]
  · isplitl [HH]
    · iexists _; isplitr; swap; (· iexact HH); ipureintro; exact fun _ => hs
    · iexists _; isplitr; swap; (· iexact HA); ipureintro; exact hc
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h9 : t.val = 9
  · rw [out_last V c t h9, if_pos ((coords_val t).trans h9)]
    rw [show 5 * (t.val + 1) = 50 by omega] at hc
    rw [chosen_all _ _ _ _ hlen _ hc, w4, w5, w6, w7]
    iexact H8
  · rw [out_idle V c t h9, if_neg (fun e => h9 ((coords_val t).symm.trans e))]
    iexists d8; iexact H8

end Cert.Proof.Ideal
-- ==== Proof.Ideal.Seg.lean ====
/-
  The pipelined region as one step of the TensorCore's program: entered with every unscoped buffer at a valuation, left with
  the result's array at the head's result and the others as they were.
-/
module

public import proofs.«01_k».proof.Proof.Ideal.Region

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c
  | ⟨0, _⟩ => fun c => dat V c

/-- The result's array after the region: written once, at the last point, whole. -/
theorem arr_out (c : Dev nD) : (dat V c).arrAt 8 cfg1.N = outV V c := by
  refine (dat V c).arrAt_eq_of_after_last 8 t1_9 (by decide +kernel) _ fun j => ?_
  show outV V c _ = outV V c _
  congr 1

/-- The core's waits sit at or below the level the call before it left them at, and owe nothing. -/
def Quiet (c : Dev nD) : sProp (MM F) :=
  iprop(∃ W, ⌜(K (F := F)).WBelow (c : Thread nD τ) W 8⌝ ∗ owes (c : Thread nD τ) (0 : CellTallies nD τ sig (HIx 1)) W)

theorem quiet_enter (c : Dev nD) : Quiet c ⊢ (dat V c).owesAt none 0 := by
  unfold Quiet Pipeline.Dat.owesAt Pipeline.owesWithin
  iintro ⟨%W, %hW, HO⟩
  iexists W; isplitr; · ipureintro; exact fun p hp => Or.inl (hW p hp)
  iexact HO

theorem quiet_leave (c : Dev nD) : (dat V c).owesAt none (Fin.last cfg1.N) ⊢ Quiet c := by
  unfold Quiet Pipeline.Dat.owesAt Pipeline.owesWithin
  iintro ⟨%W, %hW, HO⟩
  iexists W; isplitr
  · ipureintro; intro p hp
    rcases hW hp with h | ⟨w, s, rfl⟩
    · exact h
    · exact Nat.zero_le _
  iexact HO

variable (Vp : (c : Dev nD) → (b : Ref sig .tc) → Buf (Elt F) ((c : Thread nD τ).loc b))

-- the library's lemmas about pinned configurations unify with this one only when plain definitions may be unfolded in types
set_option backward.isDefEq.respectTransparency.types false in
def reg (hlen : ∀ c j, ((V c main_v8 : Vec F S1x1024 .i32) j).toNat < 50) (hout : ∀ c, Vp c main_v11 = outV V c)
    (hne : ∀ c (b : Ref sig .tc), b ≠ main_v11 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c (hlen c)).loose
  hwaits := Pipeline.hwaits_of_owed_zero _ _ _ _ (K (F := F)).L (K (F := F)).lev 0 fun _ _ => rfl
  pre c := iprop(unscopedBufs c (V c) ∗ Quiet c)
  post c := iprop(unscopedBufs c (Vp c) ∗ Quiet c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (quiet_enter V c) $$ HO
    isplitr; · iempintro
    iexact Hrest
  hin c := by
    rw [show (pdats V 0 c).Φ 0 = Carried V c 0 from rfl]
    unfold Carried
    iintro ⟨-, -, Hr⟩
    ihave H := (Entails.of_eq (scopedRest1_eq c)) $$ Hr
    icases H with ⟨⟨%f, Hf⟩, ⟨%g, Hg⟩⟩
    isplitl [Hf]
    · iexists f; isplitr; · ipureintro; exact fun h => absurd rfl h
      rw [owns_whole_eq]; iexists f; isplitr; · ipureintro; rfl
      iexact Hf
    · iexists g; isplitr; · ipureintro; exact fun p hp => absurd hp (Nat.not_lt_zero _)
      rw [owns_whole_eq]; iexists g; isplitr; · ipureintro; rfl
      iexact Hg
  hout c := by
    rw [Pipeline.ownSems0_none, show (pdats V 0 c).Φ (Fin.last _) = Carried V c cfg1.N from rfl]
    unfold Carried
    simp only [owns_whole_eq]
    iintro ⟨⟨%h, -, %f, -, Hf⟩, ⟨%a, -, %g, -, Hg⟩⟩
    isplitr; · iempintro
    isplitr; · iempintro
    iapply (Entails.of_eq (scopedRest1_eq c).symm)
    isplitl [Hf]
    · iexists f; iexact Hf
    · iexists g; iexact Hg
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        by_cases hw : w = 8
        · subst hw; exact (arr_out V c).trans (hout c).symm
        · exact ((pdats V 0 c).arrAt_in w ((by decide : ∀ w : Fin 9, w ≠ 8 → (win1 w).isOut = false) w hw) _).trans
            (hne c _ ((by decide : ∀ w : Fin 9, w ≠ 8 → Pipeline.arrRef spec1 w ≠ main_v11) w hw)).symm)
      (fun b hb => hne c b fun h => hb (h ▸ Finset.mem_image.mpr ⟨8, Finset.mem_univ _, rfl⟩))
    have hq : (pdats V 0 c).owesAt none (Fin.last (Pipeline.pin (pcfgs (F := F)) adm 0).N) ⊢ Quiet c := quiet_leave V c
    iintro ⟨Ha, HO, -, Hrest⟩
    imodintro
    isplitl [Ha Hrest]
    · iapply hjoin; isplitl [Ha] <;> iassumption
    iapply hq $$ HO

end Cert.Proof.Ideal
-- ==== Proof.Ideal.Main.lean ====
/-
  The whole kernel: its straight lines of host operations, the SparseCore call and the pipelined region between them, and what
  the launch ends with.
-/
module

public import proofs.«01_k».proof.Proof.Ideal.Seg
public import Idealize.ShloMosaic.Lib.Pipeline.Frame

@[expose] public section

noncomputable section

namespace Cert.Proof.Ideal

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (after held)
open Idealize.ShloMosaic.Pipeline (ucRefs unscopedBufs_held sub_ucRefs)

variable {F : FTy → Type} [FloatOps F]

/-! ## The program in pieces -/

/-- The host operations before the SparseCore call, between it and the region, and after the region. -/
def opsA : List (HloOp τ sig (Elt F)) :=
  [StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
   StableHlo.reshape main_v0 main_v1 (rfl : (.i32 : EltTy) = .i32) shapeCasts_S50x1024_S32x1600,
   StableHlo.unary main_arg2 main_v2 ((transpose S64x1000 [1, 0] · transposes_S1000x64_S64x1000_1_0) : (⟨S1000x64, .f32⟩ : BufTy).Contents (Elt F) → (⟨S64x1000, .f32⟩ : BufTy).Contents (Elt F)),
   StableHlo.reshape main_v2 main_v3 (rfl : (.f32 : EltTy) = .f32) shapeCasts_S64x1000_S64000]

def opsB : List (HloOp τ sig (Elt F)) :=
  [StableHlo.nullary main_c (constantI S_ 32 1#32),
   StableHlo.unary main_c main_v5 (broadcastInDim S1024 ![] bcast_S_S1024 : (⟨S_, .i32⟩ : BufTy).Contents (Elt F) → (⟨S1024, .i32⟩ : BufTy).Contents (Elt F)),
   StableHlo.binary main_arg1 main_v5 main_v6 (subi : (⟨S1024, .i32⟩ : BufTy).Contents (Elt F) → (⟨S1024, .i32⟩ : BufTy).Contents (Elt F) → (⟨S1024, .i32⟩ : BufTy).Contents (Elt F)),
   StableHlo.nullary main_c_0 (constantI S_ 32 0#32),
   StableHlo.nullary main_c_1 (constantI S_ 32 49#32),
   StableHlo.unary main_c_0 main_call0_v0 (id : (⟨S_, .i32⟩ : BufTy).Contents (Elt F) → (⟨S_, .i32⟩ : BufTy).Contents (Elt F)),
   StableHlo.unary main_call0_v0 main_call0_v1 (broadcastInDim S1024 ![] bcast_S_S1024 : (⟨S_, .i32⟩ : BufTy).Contents (Elt F) → (⟨S1024, .i32⟩ : BufTy).Contents (Elt F)),
   StableHlo.binary main_call0_v1 main_v6 main_call0_v2 (maxsi : (⟨S1024, .i32⟩ : BufTy).Contents (Elt F) → (⟨S1024, .i32⟩ : BufTy).Contents (Elt F) → (⟨S1024, .i32⟩ : BufTy).Contents (Elt F)),
   StableHlo.unary main_c_1 main_call0_v3 (id : (⟨S_, .i32⟩ : BufTy).Contents (Elt F) → (⟨S_, .i32⟩ : BufTy).Contents (Elt F)),
   StableHlo.unary main_call0_v3 main_call0_v4 (broadcastInDim S1024 ![] bcast_S_S1024 : (⟨S_, .i32⟩ : BufTy).Contents (Elt F) → (⟨S1024, .i32⟩ : BufTy).Contents (Elt F)),
   StableHlo.binary main_call0_v4 main_call0_v2 main_v7 (minsi : (⟨S1024, .i32⟩ : BufTy).Contents (Elt F) → (⟨S1024, .i32⟩ : BufTy).Contents (Elt F) → (⟨S1024, .i32⟩ : BufTy).Contents (Elt F)),
   StableHlo.reshape main_v7 main_v8 (rfl : (.i32 : EltTy) = .i32) shapeCasts_S1024_S1x1024,
   StableHlo.reshape main_arg8 main_v9 (rfl : (.f32 : EltTy) = .f32) shapeCasts_S64_S64x1,
   StableHlo.reshape main_arg10 main_v10 (rfl : (.f32 : EltTy) = .f32) shapeCasts_S1_S1x1]

def opsC : List (HloOp τ sig (Elt F)) :=
  [StableHlo.reshape main_v11 main_v12 (rfl : (.f32 : EltTy) = .f32) shapeCasts_S1x1024_S1024]

theorem main_pieces (d : Dev nD) : main (F := F) d = (do
    StableHlo.seq opsA
    (K (F := F)).run d 0
    StableHlo.seq opsB
    Prog.lift (.customCall (SparseCore.inner (Pipeline.entry 0)) ())
    StableHlo.seq opsC) := by
  unfold main opsA opsB opsC fn_clip.body
  simp only [StableHlo.seq, bind_assoc, pure_bind]
  rfl

theorem opsA_ok : (opsA (F := F)).Forall (fun op => op.bufs ⊆ StableHlo.tcRefs τ sig) ∧ (opsA (F := F)).Forall fun op => op.fresh = ∅ := by
  unfold opsA
  constructor <;> simp only [List.forall_cons, List.Forall, StableHlo.unary_bufs_sub, StableHlo.reshape_bufs_sub, true_and, and_true] <;> exact ⟨rfl, rfl, rfl, rfl⟩
theorem opsB_ok : (opsB (F := F)).Forall (fun op => op.bufs ⊆ StableHlo.tcRefs τ sig) ∧ (opsB (F := F)).Forall fun op => op.fresh = ∅ := by
  unfold opsB
  constructor <;> simp only [List.forall_cons, List.Forall, StableHlo.nullary_bufs_sub, StableHlo.unary_bufs_sub, StableHlo.binary_bufs_sub, StableHlo.reshape_bufs_sub, true_and, and_true] <;>
    exact ⟨rfl, rfl, rfl, rfl, rfl, rfl, rfl, rfl, rfl, rfl, rfl, rfl, rfl, rfl⟩
theorem opsC_ok : (opsC (F := F)).Forall (fun op => op.bufs ⊆ StableHlo.tcRefs τ sig) ∧ (opsC (F := F)).Forall fun op => op.fresh = ∅ := by
  unfold opsC
  constructor <;> simp only [List.forall_cons, List.Forall, StableHlo.reshape_bufs_sub, true_and, and_true] <;> exact rfl

/-! ## The contents between the pieces -/

/-- A buffer of the TensorCore, as the device's. -/
abbrev rf (b : Ref sig .tc) : DevRef τ sig := Proc.devRef .tc b

variable (m : (ℓ : Loc nD τ sig) → Buf (Elt F) ℓ)

def W0 : Valuation τ sig (Elt F) := fun b => m ((0 : Dev nD), b)
def W1 : Valuation τ sig (Elt F) := after opsA (W0 m)
/-- The flattened transposed table and the token indices, tile by tile, as the SparseCores read them. -/
abbrev tbl : Vec F S64000 .f32 := W1 m (rf main_v3)
abbrev idx : IVec S32x1600 32 := W1 m (rf main_v1)
def W2 : Valuation τ sig (Elt F) := Function.update (W1 m) (rf main_v4) (gathered (tbl m) (idx m))
def W3 : Valuation τ sig (Elt F) := after opsB (W2 m)
/-- The same by device, as the region's proof takes it. -/
def V3 (c : Dev nD) (b : Ref sig .tc) : Buf (Elt F) ((c : Thread nD τ).loc b) := W3 m (rf b)
def W4 : Valuation τ sig (Elt F) := Function.update (W3 m) (rf main_v11) (outV (V3 m) 0)
def W5 : Valuation τ sig (Elt F) := after opsC (W4 m)

/-- The clipped lengths, less one, are below 50. -/
theorem clip_lt (x : BitVec 32) : (IntOp.minsi 49#32 (IntOp.maxsi 0#32 x)).toNat < 50 := by
  unfold IntOp.minsi IntOp.maxsi
  simp only [BitVec.slt_eq_decide, BitVec.sle_eq_decide, decide_eq_true_eq]
  have e0 : (0#32 : BitVec 32).toInt = 0 := by decide
  have e49 : (49#32 : BitVec 32).toInt = 49 := by decide
  have hx := BitVec.toInt_eq_toNat_cond x
  have hlt := x.isLt
  split_ifs <;> simp_all <;> split_ifs at * <;> omega

theorem V3_at : (V3 m 0 main_v8 : IVec S1x1024 32) = shapeCast S1x1024 (minsi (broadcastInDim S1024 ![] bcast_S_S1024 (constantI S_ 32 49#32))
    (maxsi (broadcastInDim S1024 ![] bcast_S_S1024 (constantI S_ 32 0#32))
      (subi (W2 m (rf main_arg1) : IVec S1024 32) (broadcastInDim S1024 ![] bcast_S_S1024 (constantI S_ 32 1#32))))) shapeCasts_S1024_S1x1024 := by
  show after opsB (W2 m) (rf main_v8) = _
  unfold opsB
  simp only [StableHlo.after_cons, StableHlo.after_nil]
  repeat first
    | rw [StableHlo.unary_result'] | rw [StableHlo.binary_result'] | rw [StableHlo.nullary_result'] | rw [StableHlo.reshape_result']
    | rw [StableHlo.unary_result_ne' _ _ _ _ (by decide)] | rw [StableHlo.binary_result_ne' _ _ _ _ _ (by decide)]
    | rw [StableHlo.nullary_result_ne' _ _ _ (by decide)] | rw [StableHlo.reshape_result_ne' _ _ _ _ _ (by decide)]
  rfl

theorem V3_len (j : S1x1024.Idx) : ((V3 m 0 main_v8 : IVec S1x1024 32) j).toNat < 50 := by
  rw [V3_at]; exact clip_lt _

/-- The launch's unscoped buffers at a valuation. -/
theorem bufs_held (W : Valuation τ sig (Elt F)) :
    (unscopedBufs (Ix := HIx 1) (Name := ℕ) (U := UU) (Lvl := ℕ) (0 : Dev nD) (fun b => W (rf b)) : sProp (MM F)) = held (T (0 : Dev nD)) (ucRefs τ sig) W :=
  unscopedBufs_held (0 : Dev nD) W

/-- The three buffers of the SparseCore call. -/
def scRefs : Finset (DevRef τ sig) := {rf main_v3, rf main_v1, rf main_v4}

theorem scRefs_sub : scRefs ⊆ ucRefs τ sig := by
  have h (b : Ref sig .tc) (hb : ¬ b.isScoped) : rf b ∈ ucRefs τ sig := Finset.mem_filter.mpr ⟨StableHlo.devRef_mem_tcRefs b, hb⟩
  intro b hb
  simp only [scRefs, Finset.mem_insert, Finset.mem_singleton] at hb
  rcases hb with rfl | rfl | rfl <;> exact h _ (by decide)

theorem held_sc (W : Valuation τ sig (Elt F)) : (held (T (0 : Dev nD)) scRefs W : sProp (MM F))
    = iprop((tLoc 0 ↦{fullShare} W (rf main_v3)) ∗ (iLoc 0 ↦{fullShare} W (rf main_v1)) ∗ oLoc 0 ↦{fullShare} W (rf main_v4)) := by
  unfold held scRefs
  rw [SparseCore.bigSep_insert' (by decide), SparseCore.bigSep_insert' (by decide), bigSep_singleton]

theorem W2_ne (b : DevRef τ sig) (h : b ≠ rf main_v4) : W2 m b = W1 m b := Function.update_of_ne h _ _
theorem W2_v4 : W2 m (rf main_v4) = gathered (tbl m) (idx m) := Function.update_self _ _ _

theorem held_sc_after : iprop((tLoc 0 ↦{fullShare} tbl m) ∗ (iLoc 0 ↦{fullShare} idx m) ∗ oLoc 0 ↦{fullShare} gathered (tbl m) (idx m))
    = (held (T (0 : Dev nD)) scRefs (W2 m) : sProp (MM F)) := by
  rw [held_sc, W2_v4, W2_ne m _ (by decide), W2_ne m _ (by decide)]

theorem held_rest_after : (held (T (0 : Dev nD)) (ucRefs τ sig \ scRefs) (W1 m) : sProp (MM F)) = held (T (0 : Dev nD)) (ucRefs τ sig \ scRefs) (W2 m) :=
  StableHlo.held_congr _ fun b hb => (W2_ne m b fun e => (Finset.mem_sdiff.mp hb).2 (e ▸ by simp [scRefs])).symm

theorem W4_ne (b : DevRef τ sig) (h : b ≠ rf main_v11) : W4 m b = W3 m b := Function.update_of_ne h _ _
theorem W4_v11 : W4 m (rf main_v11) = outV (V3 m) 0 := Function.update_self _ _ _

theorem bufs_launch :
    (unscopedBufs (0 : Dev nD) (fun b => m ((SparseCore.T (τ := τ) (0 : Dev nD)).loc b)) : sProp (MM F)) = held (SparseCore.T (0 : Dev nD)) (ucRefs τ sig) (W0 m) := by
  rw [← bufs_held]; rfl
theorem after_W0 : after opsA (W0 m) = W1 m := rfl
theorem after_W2 : after opsB (W2 m) = W3 m := rfl
theorem after_W4 : after opsC (W4 m) = W5 m := rfl

attribute [local irreducible] W0 W1 W2 W3 W4 W5

/-! ## @main on the TensorCore -/

theorem Otc_end (d : Dev nD) : (K (F := F)).Otc d 1 = 0 := by
  unfold SparseCore.Cfg.Otc
  exact Finset.sum_eq_zero fun q _ => if_neg (by have := q.isLt; omega)

/-- After its one call the TensorCore owes nothing; what it holds besides that stays. -/
theorem quiet_out (d : Dev nD) : ((K (F := F)).tcSt EH d 1 : sProp (MM F)) ⊢ iprop(Quiet (F := F) d ∗ (Quiet (F := F) d -∗ (K (F := F)).tcSt EH d 1)) := by
  unfold SparseCore.Cfg.tcSt Quiet
  rw [Otc_end, show 8 * SparseCore.Cfg.Blocks.fst 1 1 1 = 8 from rfl]
  iintro ⟨HO, Hr⟩
  isplitl [HO]; · iexact HO
  iintro HO
  isplitl [HO]; · iexact HO
  iexact Hr

/-- The region's proof at this program's contents. -/
abbrev seg := reg (V3 m) (fun c b => W4 m (rf b)) (fun c j => by obtain rfl : c = 0 := Subsingleton.elim _ _; exact V3_len m j)
  (fun c => by obtain rfl : c = 0 := Subsingleton.elim _ _; exact W4_v11 m)
  (fun c b h => W4_ne m (rf b) fun e => h (Proc.devRef_injective _ e))

variable (ρ : Dev nD → PrngReg)
abbrev FIN (_ : Dev nD) : sProp (MM F) := held (T (0 : Dev nD)) (ucRefs τ sig) (W5 m)

/-- A line of host operations on the whole of the unscoped buffers. -/
theorem line (ops : List (HloOp τ sig (Elt F))) (h : ops.Forall (fun op => op.bufs ⊆ StableHlo.tcRefs τ sig) ∧ ops.Forall fun op => op.fresh = ∅)
    {β : Type} (k : PUnit → Prog (TpuEff nD τ sig (Elt F) (SparseCore.Sig (ΛP (F := F)) 1) .tc) β) {Q : β → sProp (MM F)} (W W' : Valuation τ sig (Elt F)) (hW : after ops W = W') :
    iprop(boundary (T (0 : Dev nD)) ∗ held (T (0 : Dev nD)) (ucRefs τ sig) W
        ∗ (iprop(boundary (T (0 : Dev nD)) ∗ held (T (0 : Dev nD)) (ucRefs τ sig) W') -∗ wp frame (wpE ((K (F := F)).defs (D (F := F))) 𝒱 (T (0 : Dev nD)) none) Set.univ (k ⟨⟩) Q))
      ⊢ wp frame (wpE ((K (F := F)).defs (D (F := F))) 𝒱 (T (0 : Dev nD)) none) Set.univ (StableHlo.seq ops >>= k) Q := by
  subst hW
  iintro ⟨Hb, Hh, Hk⟩
  iapply (StableHlo.wp_seq (Ix := HIx 1) (Name := ℕ) (U := UU) (Lvl := ℕ) (defs := (K (F := F)).defs (D (F := F))) 𝒱 none Set.univ (0 : Dev nD) (ucRefs τ sig) k (K := Q) ops
    (fun op hop => sub_ucRefs op ((List.forall_iff_forall_mem.mp h.1) op hop)) (List.forall_iff_forall_mem.mp h.2) W) $$ [Hb Hh]
  · isplitl [Hb] <;> iassumption
  iexact Hk

theorem seg_post : (seg m).post 0 = iprop(held (T (0 : Dev nD)) (ucRefs τ sig) (W4 m) ∗ Quiet (F := F) 0) := by
  rw [← bufs_held]; rfl
theorem seg_pre : (seg m).pre 0 = iprop(held (T (0 : Dev nD)) (ucRefs τ sig) (W3 m) ∗ Quiet (F := F) 0) := by
  rw [← bufs_held]; rfl

theorem entry_lift : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

theorem region_wp [∀ e, Nonempty (Elt F e)] {Q : PUnit → sProp (MM F)} :
    (iprop((iprop(boundary (T (0 : Dev nD)) ∗ (held (T (0 : Dev nD)) (ucRefs τ sig) (W4 m)) ∗ Quiet (F := F) 0) -∗ wp frame (wpE (D (F := F)) 𝒱 (T (0 : Dev nD)) none) Set.univ (.ret ⟨⟩) Q)
        ∗ boundary (T (0 : Dev nD)) ∗ ((held (T (0 : Dev nD)) (ucRefs τ sig) (W3 m)) ∗ Quiet (F := F) 0) ∗ levAts (K (F := F)).L (K (F := F)).lev
        ∗ Pipeline.cellsGhost (Pipeline.pin (pcfgs (F := F)) adm) EP 0 (0 : Dev nD) ∗ Pipeline.toksInit (Pipeline.pin (pcfgs (F := F)) adm) EP 0 (0 : Dev nD)) : sProp (MM F))
      ⊢ wp frame (wpE (D (F := F)) 𝒱 (T (0 : Dev nD)) none) Set.univ (.op (.customCall (Pipeline.entry 0) ()) .ret) Q := by
  have h := Pipeline.RegionSeg.wp (pcfgs (F := F)) adm (pdats (V3 m)) none cellOf_inj EP defs₀ 𝒱₀ (K (F := F)).L (K (F := F)).lev (seg m) (0 : Dev nD) none (fun _ h => nomatch h) Prog.ret Q
  rw [seg_post, seg_pre] at h
  exact h

/-- The region, called from the launch's own program. -/
theorem region [∀ e, Nonempty (Elt F e)] {Q : PUnit → sProp (MM F)} :
    iprop((iprop(boundary (T (0 : Dev nD)) ∗ (held (T (0 : Dev nD)) (ucRefs τ sig) (W4 m)) ∗ Quiet (F := F) 0) -∗ Q ⟨⟩)
        ∗ boundary (T (0 : Dev nD)) ∗ (held (T (0 : Dev nD)) (ucRefs τ sig) (W3 m)) ∗ Quiet (F := F) 0 ∗ levAts (K (F := F)).L (K (F := F)).lev ∗ G 0)
      ⊢ wp frame (wpE ((K (F := F)).defs (D (F := F))) 𝒱 (T (0 : Dev nD)) none) Set.univ (Prog.lift (.customCall (SparseCore.inner (Pipeline.entry 0)) ())) Q := by
  have h := (region_wp m (Q := Q)).trans ((K (F := F)).wp_liftProg (D (F := F)) 𝒱 (T (0 : Dev nD)) Set.univ none _ Q)
  rw [entry_lift]
  unfold G
  iintro ⟨Hk, Hb, Hh, HO, Hl, Hg, Ht⟩
  iapply h
  isplitl [Hk]
  · iintro H
    rw [wp_ret]; imodintro
    iapply Hk $$ H
  isplitl [Hb]; · iexact Hb
  isplitl [Hh HO]; · isplitl [Hh] <;> iassumption
  isplitl [Hl]; · iexact Hl
  isplitl [Hg] <;> iassumption

theorem hmain [∀ e, Nonempty (Elt F e)] (κ : GSem nD τ sig → ℕ) (d : Dev nD) :
    iprop((K (F := F)).ctx EH (P (tbl m) (idx m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  have hlev : (K (F := F)).ctx EH (P (tbl m) (idx m)) κ ⊢ levAts (K (F := F)).L (K (F := F)).lev := SparseCore.Cfg.ctx_levAts κ
  unfold SparseCore.Cfg.tcRes SparseCore.Cfg.tcEnd
  rw [main_pieces, bufs_launch]
  iintro ⟨#Hctx, Hst, ⟨Hb, Hh, Hts, -⟩, HG⟩
  iapply (line opsA opsA_ok _ (W0 m) (W1 m) (after_W0 m))
  isplitl [Hb]; · iexact Hb
  isplitl [Hh]; · iexact Hh
  iintro ⟨Hb, Hh⟩
  ihave Hh := (Entails.of_eq ((StableHlo.held_sub_split (T (0 : Dev nD)) scRefs_sub (W1 m)).trans (congrArg₂ BI.BIBase.sep (held_sc (W1 m)) (held_rest_after m)))) $$ Hh
  icases Hh with ⟨⟨H3, H1, H4⟩, Hrest⟩
  ihave H := (deal (tbl m) (idx m) (0 : Dev nD)) $$ [H3 H1 H4]
  · isplitl [H3]; · iexact H3
    isplitl [H1]; · iexact H1
    iexists (W1 m (rf main_v4)); iexact H4
  icases H with ⟨Hin, Hback⟩
  rw [wp_bind]
  iapply ((K (F := F)).wp_run (D (F := F)) 𝒱 (EH := EH) (P := P (tbl m) (idx m)) κ (0 : Dev nD) 0)
  isplitr; · iexact Hctx
  isplitl [Hst]; · iexact Hst
  isplitl [Hin]; · iexact Hin
  iintro ⟨Hst, Hdn⟩
  ihave Hsc := Hback $$ Hdn
  ihave Hsc := (Entails.of_eq (held_sc_after m)) $$ Hsc
  ihave Hh := (Entails.of_eq (StableHlo.held_sub_split (T (0 : Dev nD)) scRefs_sub (W2 m)).symm) $$ [Hsc Hrest]
  · isplitl [Hsc] <;> iassumption
  iapply (line opsB opsB_ok _ (W2 m) (W3 m) (after_W2 m))
  isplitl [Hb]; · iexact Hb
  isplitl [Hh]; · iexact Hh
  iintro ⟨Hb, Hh⟩
  ihave Hq := (show ((K (F := F)).tcSt EH (0 : Dev nD) ((0 : Fin 1).val + 1) : sProp (MM F)) ⊢ _ from quiet_out (0 : Dev nD)) $$ Hst
  icases Hq with ⟨HO, Hst⟩
  rw [wp_bind]
  iapply (region m)
  isplitr [Hb Hh HO HG]
  · iintro ⟨Hb, Hh, HO⟩
    ihave Hst := Hst $$ HO
    iapply (line opsC opsC_ok .ret (W4 m) (W5 m) (after_W4 m))
    isplitl [Hb]; · iexact Hb
    isplitl [Hh]; · iexact Hh
    iintro ⟨Hb, Hh⟩
    rw [wp_ret]; imodintro
    isplitl [Hst]; · iexact Hst
    isplitl [Hh]; · iexact Hh
    isplitl [Hb] <;> iassumption
  isplitl [Hb]; · iexact Hb
  isplitl [Hh]; · iexact Hh
  isplitl [HO]; · iexact HO
  isplitr; · iapply hlev $$ Hctx
  iexact HG

/-! ## The run -/

/-- Where the launch's memory ends: at the last contents, on every unscoped buffer. -/
def fq (_ : Dev nD) (s' : Phys nD τ sig (Elt F)) : Prop := ∀ b ∈ ucRefs τ sig, s'.mem.mem ((0 : Dev nD), b) = W5 m b

theorem hfin (d : Dev nD) (s' : Phys nD τ sig (Elt F)) : iprop(FIN m d ∗ SI s') ⊢ (⌜fq m d s'⌝ : sProp (MM F)) := by
  have key : ∀ b ∈ ucRefs τ sig, iprop(FIN m d ∗ SI s') ⊢ (⌜s'.mem.mem ((0 : Dev nD), b) = W5 m b⌝ : sProp (MM F)) := fun b hb => by
    have e : (held (T (0 : Dev nD)) (ucRefs τ sig) (W5 m) : sProp (MM F)) ⊢ ((((0 : Dev nD), b) : Loc nD τ sig) ↦{fullShare} W5 m b) := by
      unfold StableHlo.held; exact BI.bigSep_elim hb
    iintro ⟨H, HSI⟩
    ihave Hb := e $$ H
    ihave H := (SI_pointsTo_agree (st := s') (ℓ := ((0 : Dev nD), b)) (I := Finset.univ) (q := fullShare) (f := W5 m b)) $$ [HSI Hb]
    · isplitl [HSI] <;> iassumption
    icases H with %h
    ipureintro; exact funext fun i => h i (Finset.mem_univ i)
  exact fun a ha b hb => key b hb a ha

def QC : PUnit × MemSt nD τ sig (Elt F) → Prop := fun r => (∀ c : Dev nD, ∀ b ∈ ucRefs τ sig, r.2.mem (c, b) = W5 m b) ∧ r.2.sem = fun _ => 0

theorem run_main [∀ e, Nonempty (Elt F e)] (hix : ∀ p, (idx m p).toNat < 1000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbl m) (idx m)) (A := ∅) facts v₀
    (fun q hq => match q with | 0 => nomatch hq)
    (fun q _ => match q with | 0 => tileObl (tbl m) (idx m) hix)
    (fun q _ => match q with | 0 => SparseCore.Cfg.VecSplit.of_plain (vecSplit (tbl m) (idx m)))
    m ρ main G (FIN m) (u₀ (F := F)) (sep_elim_left.trans (hu₀ (tbl m) (idx m))) (hmain m ρ) (fq m) (hfin m) (QC m)
    (fun r h hz => ⟨fun c => by obtain rfl : c = 0 := Subsingleton.elim _ _; exact h 0, hz⟩)

/-! ## What the buffers hold, read back -/

attribute [local semireducible] W0 W1 W2 W3 W4 W5

/-- The buffers the program writes. -/
def written : List (Ref sig .tc) := [main_v0, main_v1, main_v2, main_v3, main_v4, main_c, main_v5, main_v6, main_c_0, main_c_1, main_call0_v0, main_call0_v1,
  main_call0_v2, main_call0_v3, main_call0_v4, main_v7, main_v8, main_v9, main_v10, main_v11, main_v12]

variable (r : Ref sig .tc) (h : ∀ y ∈ written, r ≠ y)

include h in
theorem kept_W1 : W1 m (rf r) = m ((0 : Dev nD), rf r) := by
  refine (StableHlo.after_of_forall_not_mem _ _ ?_).trans rfl
  simp only [opsA, List.forall_mem_cons, StableHlo.unary_writes, StableHlo.reshape_writes, Finset.mem_singleton]
  refine ⟨?_, ?_, ?_, ?_, fun _ h => nomatch h⟩ <;> exact StableHlo.devRef_ne_of_ne (h _ (by decide))
include h in
theorem kept_W3 : W3 m (rf r) = m ((0 : Dev nD), rf r) := by
  refine (StableHlo.after_of_forall_not_mem _ _ ?_).trans ((W2_ne m _ (StableHlo.devRef_ne_of_ne (h _ (by decide)))).trans (kept_W1 m r h))
  simp only [opsB, List.forall_mem_cons, StableHlo.nullary_writes, StableHlo.unary_writes, StableHlo.binary_writes, StableHlo.reshape_writes, Finset.mem_singleton]
  refine ⟨?_, ?_, ?_, ?_, ?_, ?_, ?_, ?_, ?_, ?_, ?_, ?_, ?_, ?_, fun _ h => nomatch h⟩ <;> exact StableHlo.devRef_ne_of_ne (h _ (by decide))
include h in
theorem kept_W5 : W5 m (rf r) = m ((0 : Dev nD), rf r) := by
  refine (StableHlo.after_of_forall_not_mem _ _ ?_).trans ((W4_ne m _ (StableHlo.devRef_ne_of_ne (h _ (by decide)))).trans (kept_W3 m r h))
  simp only [opsC, List.forall_mem_cons, StableHlo.reshape_writes, Finset.mem_singleton]
  exact ⟨StableHlo.devRef_ne_of_ne (h _ (by decide)), fun _ h => nomatch h⟩

/-- The result, as the region leaves it. -/
theorem res_W5 : W5 m (rf main_v12) = shapeCast S1024 (outV (V3 m) 0 : Vec F S1x1024 .f32) shapeCasts_S1x1024_S1024 := by
  unfold W5 opsC
  rw [StableHlo.after_cons, StableHlo.after_nil, StableHlo.reshape_result', W4_v11]
  rfl

theorem uc_mem (b : Ref sig .tc) (hb : ¬ b.isScoped) : rf b ∈ ucRefs τ sig := Finset.mem_filter.mpr ⟨StableHlo.devRef_mem_tcRefs b, hb⟩

theorem tbl_eq : tbl m = shapeCast S64000 (transpose S64x1000 [1, 0] (m ((0 : Dev nD), rf main_arg2)) transposes_S1000x64_S64x1000_1_0) shapeCasts_S64x1000_S64000 := by
  show after opsA (W0 m) (rf main_v3) = _
  unfold opsA
  simp only [StableHlo.after_cons, StableHlo.after_nil]
  repeat first
    | rw [StableHlo.unary_result'] | rw [StableHlo.reshape_result']
    | rw [StableHlo.unary_result_ne' _ _ _ _ (by decide)] | rw [StableHlo.reshape_result_ne' _ _ _ _ _ (by decide)]
  rfl

theorem idx_eq : idx m = shapeCast S32x1600 (transpose S50x1024 [1, 0] (m ((0 : Dev nD), rf main_arg0)) transposes_S1024x50_S50x1024_1_0) shapeCasts_S50x1024_S32x1600 := by
  show after opsA (W0 m) (rf main_v1) = _
  unfold opsA
  simp only [StableHlo.after_cons, StableHlo.after_nil]
  repeat first
    | rw [StableHlo.unary_result'] | rw [StableHlo.reshape_result']
    | rw [StableHlo.unary_result_ne' _ _ _ _ (by decide)] | rw [StableHlo.reshape_result_ne' _ _ _ _ _ (by decide)]
  rfl

end Cert.Proof.Ideal
-- ==== Proof.Ideal.Frame.lean ====
/-
  What the precondition on the tokens gives, and the kernel's frame.
-/
module

public import proofs.«01_k».proof.Proof.Ideal.Main
public import proofs.«01_k».proof.Proof.Gen.Pre_tokens_in_vocab
public import Idealize.ShloMosaic.Lib.ReduceAll

@[expose] public section

noncomputable section

namespace Cert.Proof.Ideal

open Cert.KernelIdeal Cert.KernelIdeal.Gen

open Idealize.ShloMosaic
open Idealize.ShloMosaic.TcCoe
open Idealize.SL.Sem

variable {F : FTy → Type} [FloatOps F]

theorem and_ofBool (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide

/-- A word that is at least 0 and below 1000 as a signed one is below 1000. -/
theorem in_vocab (v : BitVec 32) (e : IntOp.andi (IntOp.cmpi .sge v 0#32) (IntOp.cmpi .slt v 1000#32) = 1#1) : v.toNat < 1000 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

variable (m : (ℓ : Loc nD τ sig) → Buf (Elt F) ℓ)

/-- Every token is below 1000 when `tokens_in_vocab` holds. -/
theorem vocab_of_fn (a0 : IVec S1024x50 32) (a1 : IVec S1024 32) (a2 : FVec F S1000x64 .f32) (a3 : FVec F S384x64 .f32) (a4 : FVec F S384x128 .f32)
    (a5 a6 : FVec F S384 .f32) (a7 : FVec F S64x128 .f32) (a8 : FVec F S64 .f32) (a9 : FVec F S1x64 .f32) (a10 : FVec F S1 .f32)
    (h : Cert.Pre_tokens_in_vocab.fn a0 a1 a2 a3 a4 a5 a6 a7 a8 a9 a10 = fun _ => 1#1) (p : S1024x50.Idx) : (a0 p).toNat < 1000 := by
  have e := congrFun h p
  simp only [Cert.Pre_tokens_in_vocab.fn, andi, cmpi, broadcastInDim, constantI] at e
  exact in_vocab _ e

theorem idx_lt (h : ∀ p : S1024x50.Idx, ((m ((0 : Dev nD), rf main_arg0) : IVec S1024x50 32) p).toNat < 1000) (p : S32x1600.Idx) : (idx m p).toNat < 1000 := by
  rw [idx_eq]
  unfold shapeCast transpose
  exact h _

variable (ρ : Dev nD → PrngReg)

/-- The run's end on the arguments: each as it was, and the counters at zero. -/
theorem args_end (r : PUnit × MemSt nD τ sig (Elt F)) (h : QC m r) (b : Ref sig .tc) (hb : ¬ b.isScoped) (hw : ∀ y ∈ written, b ≠ y) (c : Dev nD) :
    r.2.mem ((c.tc : Thread nD τ).loc b) = m ((c.tc : Thread nD τ).loc b) := by
  obtain rfl : c = 0 := Subsingleton.elim _ _
  exact (h.1 0 (rf b) (uc_mem b hb)).trans (kept_W5 m b hw)

theorem frame_of [∀ e, Nonempty (Elt F e)] (hix : ∀ p : S1024x50.Idx, ((m ((0 : Dev nD), rf main_arg0) : IVec S1024x50 32) p).toNat < 1000) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => ⟨args_end m r h main_arg0 (by decide) (by decide) c, args_end m r h main_arg1 (by decide) (by decide) c,
    args_end m r h main_arg2 (by decide) (by decide) c, args_end m r h main_arg3 (by decide) (by decide) c, args_end m r h main_arg4 (by decide) (by decide) c,
    args_end m r h main_arg5 (by decide) (by decide) c, args_end m r h main_arg6 (by decide) (by decide) c, args_end m r h main_arg7 (by decide) (by decide) c,
    args_end m r h main_arg8 (by decide) (by decide) c, args_end m r h main_arg9 (by decide) (by decide) c, args_end m r h main_arg10 (by decide) (by decide) c⟩, h.2⟩)
    (run_main m ρ (idx_lt m hix))

end Cert.Proof.Ideal
-- ==== Proof.Value.Model.lean ====
/-
  What both programs compute, one batch column at a time, over the extended reals: the recurrence on a column's fifty embedded
  tokens, and the head on the state after the column's own last token.
-/
module

public import Idealize.ShloMosaic.Lib.Pointwise

@[expose] public section

noncomputable section

namespace Cert.Proof.Value

open Idealize.ShloMosaic

/-- A weight matrix times a column. -/
def mulCol {M K : ℕ} (w : (⟨2, ![M, K]⟩ : Shape).Idx → EReal) (x : Fin K → EReal) (r : Fin M) : EReal :=
  ∑ k, w (ix2 r k) * x k

section

variable (wih : (⟨2, ![384, 64]⟩ : Shape).Idx → EReal) (whh : (⟨2, ![384, 128]⟩ : Shape).Idx → EReal)

/-- The update of one coordinate from its three gates' input parts `a`, state parts `g` and its old value. -/
def cell (a₀ a₁ a₂ g₀ g₁ g₂ h : EReal) : EReal :=
  (1 - Ideal.logistic (a₁ + g₁)) * Ideal.tanh (a₂ + Ideal.logistic (a₀ + g₀) * g₂) + Ideal.logistic (a₁ + g₁) * h

/-- One token: the reset, update and new-value gates are the matrices' rows from 0, 128 and 256 on. -/
def step (x : Fin 64 → EReal) (h : Fin 128 → EReal) (i : Fin 128) : EReal :=
  cell (mulCol wih x ⟨i.val, by omega⟩) (mulCol wih x ⟨128 + i.val, by omega⟩) (mulCol wih x ⟨256 + i.val, by omega⟩)
    (mulCol whh h ⟨i.val, by omega⟩) (mulCol whh h ⟨128 + i.val, by omega⟩) (mulCol whh h ⟨256 + i.val, by omega⟩) (h i)

/-- The column's state after `n` tokens. -/
def state (x : ℕ → Fin 64 → EReal) : ℕ → Fin 128 → EReal
  | 0 => fun _ => 0
  | n + 1 => step wih whh (x n) (state x n)

theorem state_congr {x y : ℕ → Fin 64 → EReal} : ∀ n, (∀ k < n, x k = y k) → state wih whh x n = state wih whh y n
  | 0, _ => rfl
  | n + 1, h => by
    show step wih whh (x n) (state wih whh x n) = step wih whh (y n) (state wih whh y n)
    rw [h n (by omega), state_congr n fun k hk => h k (by omega)]

end

/-- The head on one column's state. -/
def headCol (w1 : (⟨2, ![64, 128]⟩ : Shape).Idx → EReal) (b1 : Fin 64 → EReal) (w2 : (⟨2, ![1, 64]⟩ : Shape).Idx → EReal) (b2 : EReal) (h : Fin 128 → EReal) : EReal :=
  mulCol w2 (fun k => Ideal.tanh (mulCol w1 h k + b1 k)) 0 + b2

end Cert.Proof.Value
-- ==== Proof.Value.Kernel.lean ====
/-
  The kernel's states and head, read one entry at a time, are the model's.
-/
module

public import proofs.«01_k».proof.Proof.Ideal.Steps
public import proofs.«01_k».proof.Proof.Value.Model

@[expose] public section

noncomputable section

namespace Cert.Proof.Value

open Cert.KernelIdeal Cert.KernelIdeal.Gen Cert.Proof.Ideal
open Idealize.ShloMosaic

set_option maxRecDepth 16384

theorem cellStep_apply (gi : FVec Ideal S384x1024 .f32) (whh : Vec Ideal S384x128 .f32) (h : FVec Ideal S128x1024 .f32) (i : Fin 128) (b : Fin 1024) :
    cellStep gi whh h (ix2 i b) = cell (gi (ix2 ⟨i.val, by omega⟩ b)) (gi (ix2 ⟨128 + i.val, by omega⟩ b)) (gi (ix2 ⟨256 + i.val, by omega⟩ b))
      (mulCol whh (fun k => h (ix2 k b)) ⟨i.val, by omega⟩) (mulCol whh (fun k => h (ix2 k b)) ⟨128 + i.val, by omega⟩)
      (mulCol whh (fun k => h (ix2 k b)) ⟨256 + i.val, by omega⟩) (h (ix2 i b)) := by
  pointwise [cellStep, cell, mulCol]

theorem gates_apply (g : FVec Ideal S384x5120 .f32) (k : ℕ) (hk : k < 5) (r : Fin 384) (b : Fin 1024) :
    gates g k (ix2 r b) = g (ix2 r ⟨k * 1024 + b.val, by omega⟩) := by
  match k, hk with
  | 0, _ => pointwise [gates]
  | 1, _ => pointwise [gates]
  | 2, _ => pointwise [gates]
  | 3, _ => pointwise [gates]
  | 4, _ => pointwise [gates]

theorem gi_apply (wih : Vec Ideal S384x64 .f32) (x : Vec Ideal S64x5120 .f32) (r : Fin 384) (j : Fin 5120) :
    k1_pay7 wih x (ix2 r j) = mulCol wih (fun e => x (ix2 e j)) r := by
  pointwise [k1_pay7, mulCol]

theorem zero_apply (p : S128x1024.Idx) : (k1_pay6 : FVec Ideal S128x1024 .f32) p = 0 := by
  pointwise [k1_pay6]

theorem hseq_apply (x : Vec Ideal S64x51200 .f32) (wih : Vec Ideal S384x64 .f32) (whh : Vec Ideal S384x128 .f32) (b : Fin 1024) : ∀ n (i : Fin 128),
    hseq x wih whh n (ix2 i b) = state wih whh (fun k e => x (ix2 e ⟨(k * 1024 + b.val) % 51200, Nat.mod_lt _ (by decide)⟩)) n i
  | 0, i => zero_apply _
  | n + 1, i => by
    show cellStep (gates (k1_pay7 wih (blockAt x (n / 5))) (n % 5)) whh (hseq x wih whh n) (ix2 i b) = _
    have hg (r : Fin 384) : gates (k1_pay7 wih (blockAt x (n / 5))) (n % 5) (ix2 r b)
        = mulCol wih (fun e => x (ix2 e ⟨(n * 1024 + b.val) % 51200, Nat.mod_lt _ (by decide)⟩)) r := by
      rw [gates_apply _ _ (Nat.mod_lt _ (by decide)), gi_apply]
      congr 1; funext e
      unfold blockAt
      congr 1
      rw [eq_ix2 (fun a => _)]
      congr 1
      apply Fin.ext
      show (n / 5 * 5120 + (n % 5 * 1024 + b.val)) % 51200 = _
      congr 1; omega
    rw [cellStep_apply, hg, hg, hg]
    simp only [hseq_apply x wih whh b n]
    rfl

theorem head_apply (w1 : Vec Ideal S64x128 .f32) (b1 : Vec Ideal S64x1 .f32) (w2 : Vec Ideal S1x64 .f32) (b2 : Vec Ideal S1x1 .f32) (a : FVec Ideal S128x1024 .f32) (b : Fin 1024) :
    head w1 b1 w2 b2 a (ix2 0 b) = headCol w1 (fun k => b1 (ix2 k 0)) w2 (b2 (ix2 0 0)) fun i => a (ix2 i b) := by
  pointwise [head, headCol, mulCol]

end Cert.Proof.Value
-- ==== Proof.Value.Reference.lean ====
/-
  The reference, read one entry at a time: one trip of its loop is one token of the model.
-/
module

public import proofs.«01_k».proof.Proof.Gen.ReferenceIdeal.Run
public import proofs.«01_k».proof.Proof.Value.Model
public import Idealize.ShloMosaic.Lib.Tactic.CleanTypes

@[expose] public section

noncomputable section

namespace Cert.Proof.Value

open Cert.ReferenceIdeal Cert.ReferenceIdeal.Gen Cert.ReferenceIdeal.Value
open Idealize.ShloMosaic

set_option maxRecDepth 16384

/-- A buffer of the reference by its name. -/
abbrev rr (b : Ref sig .tc) : DevRef τ sig := Proc.devRef .tc b

theorem toInt_small {n : ℕ} (hn : n < 50) : (BitVec.ofNat 32 n).toInt = n := by
  rw [BitVec.toInt_eq_toNat_cond, BitVec.toNat_ofNat]; omega

/-- Where a slice of one token starts. -/
theorem starts (n : ℕ) (hn : n < 50) (z : S_.Idx) (k : Fin 3) :
    ((![fun _ => BitVec.ofNat 32 n, constantI S_ 32 0#32, constantI S_ 32 0#32] : Fin 3 → IVec S_ 32) k z).toInt = ((![n, 0, 0] : Fin 3 → ℕ) k : Int) := by
  match k with
  | 0 => exact toInt_small hn
  | 1 => rfl
  | 2 => rfl

/-- A slice of one token's plane, from token `n` on, is that plane. -/
theorem plane_apply (A : FVec Ideal S50x1024x384 .f32) (st : Fin 3 → Int) (n : ℕ) (hn : n < 50) (h0 : st 0 = n) (h1 : st 1 = 0) (h2 : st 2 = 0) (b : Fin 1024) (r : Fin 384) :
    shapeCast S1024x384 (Host.dynamicSlice S1x1024x384 A st sliceFits_S50x1024x384_S1x1024x384) shapeCasts_S1x1024x384_S1024x384 (ix2 b r) = A (ix3 ⟨n, hn⟩ b r) := by
  have c0 : Host.clampedStart S50x1024x384 S1x1024x384 rfl st 0 = n := Host.clampedStart_of_le _ _ 0 n h0 (by show n + 1 ≤ 50; omega)
  have c1 : Host.clampedStart S50x1024x384 S1x1024x384 rfl st 1 = 0 := Host.clampedStart_of_le _ _ 1 0 h1 (by decide)
  have c2 : Host.clampedStart S50x1024x384 S1x1024x384 rfl st 2 = 0 := Host.clampedStart_of_le _ _ 2 0 h2 (by decide)
  pointwise
  simp only [c0, c1, c2, Nat.zero_add]

/-- A plane written at token `n`, and every other plane as it was. -/
theorem write_apply (A : FVec Ideal S50x1024x128 .f32) (u : FVec Ideal S1024x128 .f32) (st : Fin 3 → Int) (n : ℕ) (hn : n < 50) (h0 : st 0 = n) (h1 : st 1 = 0) (h2 : st 2 = 0)
    (t : Fin 50) (b : Fin 1024) (i : Fin 128) :
    Host.dynamicUpdateSlice A (broadcastInDim S1x1024x128 ![1, 2] bcast_S1024x128_S1x1024x128_1_2 u) st updateFits_S50x1024x128_S1x1024x128 (ix3 t b i)
      = if t.val = n then u (ix2 b i) else A (ix3 t b i) := by
  have c0 : Host.clampedStart S50x1024x128 S1x1024x128 rfl st 0 = n := Host.clampedStart_of_le _ _ 0 n h0 (by show n + 1 ≤ 50; omega)
  have c1 : Host.clampedStart S50x1024x128 S1x1024x128 rfl st 1 = 0 := Host.clampedStart_of_le _ _ 1 0 h1 (by decide)
  have c2 : Host.clampedStart S50x1024x128 S1x1024x128 rfl st 2 = 0 := Host.clampedStart_of_le _ _ 2 0 h2 (by decide)
  pointwise
  simp only [c0, c1, c2, Nat.zero_add, Nat.sub_zero, Fin.eta]
  by_cases e : t.val = n
  · rw [if_pos e, dif_pos ⟨⟨by omega, by omega⟩, ⟨by omega, by omega⟩, by omega, by omega⟩]
  · rw [if_neg e, dif_neg fun h => e (by omega)]

section Step

variable (V : Valuation τ sig (Elt Ideal)) (n : ℕ) (hn : n < 50) (h3 : V (rr main_v8_3) = fun _ => BitVec.ofNat 32 n) (h2 : V (rr main_v8_2) = fun _ => (0 : EReal))

/-- The gates' input parts for every token, the state's weights, the state and the kept states, at a point of the loop. -/
abbrev gateIn : FVec Ideal S50x1024x384 .f32 := V (rr main_v8_0)
@[inherit_doc gateIn] abbrev weights : FVec Ideal S384x128 .f32 := V (rr main_v8_1)
@[inherit_doc gateIn] abbrev now : FVec Ideal S1024x128 .f32 := V (rr main_v8_4)
@[inherit_doc gateIn] abbrev kept : FVec Ideal S50x1024x128 .f32 := V (rr main_v8_5)

include hn h3

theorem v39_apply (b : Fin 1024) (r : Fin 384) : res_main_while0b_v39 (F := Ideal) V (ix2 b r) = gateIn V (ix3 ⟨n, hn⟩ b r) := by
  unfold res_main_while0b_v39
  rw [show V (Proc.devRef .tc main_v8_3) = _ from h3]
  exact plane_apply (gateIn V) _ n hn (starts n hn _ 0) (starts n hn _ 1) (starts n hn _ 2) b r

omit hn h3
include h2

theorem v44_apply (b : Fin 1024) (r : Fin 384) : res_main_while0b_v44 (F := Ideal) V (ix2 b r) = mulCol (weights V) (fun k => now V (ix2 b k)) r := by
  unfold res_main_while0b_v44
  rw [show V (Proc.devRef .tc main_v8_2) = _ from h2]
  clean_types
  pointwise [mulCol]
  exact Finset.sum_congr rfl fun _ _ => mul_comm _ _

include hn h3

theorem v72_apply (b : Fin 1024) (i : Fin 128) : res_main_while0b_v72 (F := Ideal) V (ix2 b i)
    = cell (gateIn V (ix3 ⟨n, hn⟩ b ⟨i.val, by omega⟩)) (gateIn V (ix3 ⟨n, hn⟩ b ⟨128 + i.val, by omega⟩)) (gateIn V (ix3 ⟨n, hn⟩ b ⟨256 + i.val, by omega⟩))
      (mulCol (weights V) (fun k => now V (ix2 b k)) ⟨i.val, by omega⟩) (mulCol (weights V) (fun k => now V (ix2 b k)) ⟨128 + i.val, by omega⟩)
      (mulCol (weights V) (fun k => now V (ix2 b k)) ⟨256 + i.val, by omega⟩) (now V (ix2 b i)) := by
  simp only [← v39_apply V n hn h3, ← v44_apply V h2]
  unfold res_main_while0b_v72 res_main_while0b_v64
  clean_types
  generalize res_main_while0b_v39 (F := Ideal) V = g
  generalize res_main_while0b_v44 (F := Ideal) V = g'
  pointwise [cell, Ideal.logistic]

omit h2

theorem keep_apply (t : Fin 50) (b : Fin 1024) (i : Fin 128) : (step_main_v8_5 (F := Ideal) V : FVec Ideal S50x1024x128 .f32) (ix3 t b i)
    = if t.val = n then res_main_while0b_v72 (F := Ideal) V (ix2 b i) else kept V (ix3 t b i) := by
  unfold step_main_v8_5
  rw [show V (Proc.devRef .tc main_v8_3) = _ from h3]
  exact write_apply (kept V) _ _ n hn (starts n hn _ 0) (starts n hn _ 1) (starts n hn _ 2) t b i

end Step

/-- The embedding rows taken at an array of row numbers. -/
theorem takeRows_apply (x : FVec Ideal S1000x64 .f32) (idx : IVec S1024x50x1 32) (b : Fin 1024) (t : Fin 50) (e : Fin 64) :
    Host.gather gather_S1000x64_S1024x50x1_S1024x50x64_2_0_n_n_0_2_164 x idx (ix3 b t e) = x (ix2 ⟨min (idx (ix3 b t 0)).toInt.toNat 999, by omega⟩ e) := by
  unfold Host.gather
  congr 1
  funext a
  refine Fin.ext ?_
  match a with
  | ⟨0, _⟩ =>
    have hsi : gather_S1000x64_S1024x50x1_S1024x50x64_2_0_n_n_0_2_164.siIdx (ix3 b t e) ⟨List.idxOf (0 : Fin 2) [0], by decide⟩ = ix3 b t 0 := by
      funext k
      match k with
      | ⟨0, _⟩ => rfl
      | ⟨1, _⟩ => rfl
      | ⟨2, _⟩ => rfl
    exact congrArg (fun j => min (idx j).toInt.toNat 999) hsi
  | ⟨1, _⟩ => exact Nat.zero_add e.val

/-- The kept states read at pairs of a token and a column. -/
theorem takePairs_apply (x : FVec Ideal S50x1024x128 .f32) (idx : IVec S1024x2 32) (b : Fin 1024) (i : Fin 128) :
    Host.gather gather_S50x1024x128_S1024x2_S1024x128_1_01_n_n_01_1_11128 x idx (ix2 b i)
      = x (ix3 ⟨min (idx (ix2 b 0)).toInt.toNat 49, by omega⟩ ⟨min (idx (ix2 b 1)).toInt.toNat 1023, by omega⟩ i) := by
  unfold Host.gather
  congr 1
  funext a
  refine Fin.ext ?_
  match a with
  | ⟨0, _⟩ =>
    have hsi : gather_S50x1024x128_S1024x2_S1024x128_1_01_n_n_01_1_11128.siIdx (ix2 b i) ⟨List.idxOf (0 : Fin 3) [0, 1], by decide⟩ = ix2 b 0 := by
      funext k
      match k with
      | ⟨0, _⟩ => rfl
      | ⟨1, _⟩ => rfl
    exact congrArg (fun j => min (idx j).toInt.toNat 49) hsi
  | ⟨1, _⟩ =>
    have hsi : gather_S50x1024x128_S1024x2_S1024x128_1_01_n_n_01_1_11128.siIdx (ix2 b i) ⟨List.idxOf (1 : Fin 3) [0, 1], by decide⟩ = ix2 b 1 := by
      funext k
      match k with
      | ⟨0, _⟩ => rfl
      | ⟨1, _⟩ => rfl
    exact congrArg (fun j => min (idx j).toInt.toNat 1023) hsi
  | ⟨2, _⟩ => exact Nat.zero_add i.val

/-! ## The whole loop -/

section Loop

variable (A : FVec Ideal S50x1024x384 .f32) (whh : FVec Ideal S384x128 .f32)

/-- Column `b`'s state after `n` tokens, from its gates' input parts. -/
def hidden (b : Fin 1024) : ℕ → Fin 128 → EReal
  | 0 => fun _ => 0
  | n + 1 => fun i => cell (A (ix3 ⟨n % 50, by omega⟩ b ⟨i.val, by omega⟩)) (A (ix3 ⟨n % 50, by omega⟩ b ⟨128 + i.val, by omega⟩)) (A (ix3 ⟨n % 50, by omega⟩ b ⟨256 + i.val, by omega⟩))
      (mulCol whh (hidden b n) ⟨i.val, by omega⟩) (mulCol whh (hidden b n) ⟨128 + i.val, by omega⟩) (mulCol whh (hidden b n) ⟨256 + i.val, by omega⟩) (hidden b n i)

/-- The loop's buffers after `n` trips. -/
structure After (n : ℕ) (V : Valuation τ sig (Elt Ideal)) : Prop where
  ins : gateIn V = A
  wts : weights V = whh
  bias : V (rr main_v8_2) = fun _ => (0 : EReal)
  ctr : V (rr main_v8_3) = fun _ => BitVec.ofNat 32 n
  now : ∀ b i, now V (ix2 b i) = hidden A whh b n i
  kept : ∀ (t : Fin 50) b i, t.val < n → kept V (ix3 t b i) = hidden A whh b (t.val + 1) i

theorem After.step {n : ℕ} (hn : n < 50) {V : Valuation τ sig (Elt Ideal)} (h : After A whh n V) : After A whh (n + 1) (STEP V) := by
  have hv (b : Fin 1024) (i : Fin 128) : res_main_while0b_v72 (F := Ideal) V (ix2 b i) = hidden A whh b (n + 1) i := by
    rw [v72_apply V n hn h.ctr h.bias, h.ins, h.wts, h.now, show (fun k => Value.now V (ix2 b k)) = hidden A whh b n from funext fun k => h.now b k]
    simp only [hidden, Nat.mod_eq_of_lt hn]
  refine ⟨(STEP_main_v8_0 V).trans h.ins, (STEP_main_v8_1 V).trans h.wts, (STEP_main_v8_2 V).trans h.bias, ?_, ?_, ?_⟩
  · refine (STEP_main_v8_3 V).trans ?_
    unfold step_main_v8_3
    rw [show V (Proc.devRef .tc main_v8_3) = _ from h.ctr]
    funext z
    exact (BitVec.ofNat_add n 1).symm
  · intro b i
    exact (congrFun (STEP_main_v8_4 V) (ix2 b i)).trans (hv b i)
  · intro t b i ht
    refine (congrFun (STEP_main_v8_5 V) (ix3 t b i)).trans ?_
    rw [keep_apply V n hn h.ctr]
    by_cases e : t.val = n
    · rw [if_pos e, e]; exact hv b i
    · rw [if_neg e]; exact h.kept t b i (by omega)

theorem After.iterate {V : Valuation τ sig (Elt Ideal)} (h : After A whh 0 V) : ∀ n, n ≤ 50 → After A whh n (STEP^[n] V)
  | 0, _ => h
  | n + 1, hn => by
    rw [Function.iterate_succ_apply']
    exact After.step A whh (by omega) (After.iterate h n (by omega))

end Loop

/-! ## What follows the loop -/

/-- The last token's position, clamped to the fifty there are. -/
abbrev clampLast (w : BitVec 32) : BitVec 32 := IntOp.minsi 49#32 (IntOp.maxsi 0#32 (IntOp.subi w 1#32))

theorem clampLast_lt (w : BitVec 32) : (clampLast w).toNat < 50 ∧ (clampLast w).toInt.toNat = (clampLast w).toNat := by
  have h : (clampLast w).toNat < 50 := by
    unfold clampLast IntOp.minsi IntOp.maxsi
    generalize IntOp.subi w 1#32 = x
    have e0 : (0#32 : BitVec 32).toInt = 0 := by decide
    have e49 : (49#32 : BitVec 32).toInt = 49 := by decide
    have hx := BitVec.toInt_eq_toNat_cond x
    have hlt := x.isLt
    simp only [BitVec.slt_eq_decide, BitVec.sle_eq_decide, decide_eq_true_eq]
    split_ifs <;> simp_all <;> split_ifs at * <;> omega
  refine ⟨h, ?_⟩
  rw [BitVec.toInt_eq_toNat_of_lt (by omega), Int.toNat_natCast]

/-- The clamped positions of all the columns, as the reference computes them. -/
def lasts (len : IVec S1024 32) : IVec S1024 32 :=
  minsi (broadcastInDim S1024 ![] bcast_S_S1024 (id (constantI S_ 32 49#32))) (maxsi (broadcastInDim S1024 ![] bcast_S_S1024 (id (constantI S_ 32 0#32)))
    (subi len (broadcastInDim S1024 ![] bcast_S_S1024 (constantI S_ 32 1#32))))

theorem lasts_apply (len : IVec S1024 32) (b : Fin 1024) : lasts len (ix1 b) = clampLast (len (ix1 b)) := by
  pointwise [lasts]
  rfl

/-- A position wrapped round where it is negative: here none is. -/
def wrapped (x : IVec S1024 32) (n : BitVec 32) : IVec S1024 32 :=
  select (cmpi .slt x (broadcastInDim S1024 ![] bcast_S_S1024 (constantI S_ 32 0#32))) (addi x (broadcastInDim S1024 ![] bcast_S_S1024 (constantI S_ 32 n))) x

theorem wrapped_apply (x : IVec S1024 32) (n : BitVec 32) (b : Fin 1024) (hx : 0 ≤ (x (ix1 b)).toInt) : wrapped x n (ix1 b) = x (ix1 b) := by
  pointwise [wrapped]
  have hc : IntOp.cmpi .slt (x (ix1 b)) 0#32 = 0#1 := by
    show BitVec.ofBool ((x (ix1 b)).slt 0#32) = 0#1
    rw [BitVec.slt_eq_decide, decide_eq_false (by rw [show (0#32 : BitVec 32).toInt = 0 by decide]; omega)]
    rfl
  rw [hc]; rfl

/-- The pairs of a token and a column at which the kept states are read. -/
def pairs (len : IVec S1024 32) : IVec S1024x2 32 :=
  concatenate S1024x2 1 [⟨S1024x1, broadcastInDim S1024x1 ![0] bcast_S1024_S1024x1_0 (wrapped (lasts len) 50#32)⟩,
    ⟨S1024x1, broadcastInDim S1024x1 ![0] bcast_S1024_S1024x1_0 (wrapped (iotaInDim S1024 32 0) 1024#32)⟩] concatenates_S1024x1_S1024x1_S1024x2_d1

theorem pairs_token (len : IVec S1024 32) (b : Fin 1024) : pairs len (ix2 b 0) = wrapped (lasts len) 50#32 (ix1 b) := by
  unfold pairs
  generalize wrapped (lasts len) 50#32 = x
  generalize wrapped (iotaInDim S1024 32 0) 1024#32 = y
  pointwise

theorem pairs_column (len : IVec S1024 32) (b : Fin 1024) : pairs len (ix2 b 1) = wrapped (iotaInDim S1024 32 0) 1024#32 (ix1 b) := by
  unfold pairs
  generalize wrapped (lasts len) 50#32 = x
  generalize wrapped (iotaInDim S1024 32 0) 1024#32 = y
  pointwise

/-- The head as the reference computes it. -/
def headRef (w1 : FVec Ideal S64x128 .f32) (b1 : FVec Ideal S64 .f32) (w2 : FVec Ideal S1x64 .f32) (b2 : FVec Ideal S1 .f32) (a : FVec Ideal S1024x128 .f32) : FVec Ideal S1024 .f32 :=
  shapeCast S1024 (addf (Host.dotGeneral dot_S1024x64_S64x1_S1024x1_1_0_0_1_n_n none
      (Host.tanh (addf (Host.dotGeneral dot_S1024x128_S128x64_S1024x64_1_0_0_1_n_n none a (transpose S128x64 [1, 0] w1 transposes_S64x128_S128x64_1_0))
        (broadcastInDim S1024x64 ![0, 1] bcast_S1x64_S1024x64_0_1 (broadcastInDim S1x64 ![1] bcast_S64_S1x64_1 b1))))
      (transpose S64x1 [1, 0] w2 transposes_S1x64_S64x1_1_0))
    (broadcastInDim S1024x1 ![0, 1] bcast_S1x1_S1024x1_0_1 (broadcastInDim S1x1 ![1] bcast_S1_S1x1_1 b2))) shapeCasts_S1024x1_S1024

theorem headRef_apply (w1 : FVec Ideal S64x128 .f32) (b1 : FVec Ideal S64 .f32) (w2 : FVec Ideal S1x64 .f32) (b2 : FVec Ideal S1 .f32) (a : FVec Ideal S1024x128 .f32) (b : Fin 1024) :
    headRef w1 b1 w2 b2 a (ix1 b) = headCol w1 (fun k => b1 (ix1 k)) w2 (b2 (ix1 0)) fun i => a (ix2 b i) := by
  pointwise [headRef, headCol, mulCol]
  simp only [mul_comm (a _), mul_comm (Ideal.tanh _)]

theorem out_eq (V : Valuation τ sig (Elt Ideal)) : out_main_v38 (F := Ideal) V
    = headRef (V (rr main_arg7)) (V (rr main_arg8)) (V (rr main_arg9)) (V (rr main_arg10))
        (Host.gather gather_S50x1024x128_S1024x2_S1024x128_1_01_n_n_01_1_11128 (kept V) (pairs (V (rr main_arg1)))) := rfl

theorem picked_apply (K : FVec Ideal S50x1024x128 .f32) (len : IVec S1024 32) (b : Fin 1024) (i : Fin 128) :
    Host.gather gather_S50x1024x128_S1024x2_S1024x128_1_01_n_n_01_1_11128 K (pairs len) (ix2 b i) = K (ix3 ⟨(clampLast (len (ix1 b))).toNat, (clampLast_lt _).1⟩ b i) := by
  have hb : ((iotaInDim S1024 32 0 : IVec S1024 32) (ix1 b)) = BitVec.ofNat 32 b.val := rfl
  have hbi : (BitVec.ofNat 32 b.val).toInt = b.val := by rw [BitVec.toInt_eq_toNat_cond, BitVec.toNat_ofNat]; omega
  have hl := clampLast_lt (len (ix1 b))
  have e0 : pairs len (ix2 b 0) = clampLast (len (ix1 b)) := by
    rw [pairs_token, wrapped_apply, lasts_apply]
    rw [lasts_apply, BitVec.toInt_eq_toNat_of_lt (by omega)]; omega
  have e1 : pairs len (ix2 b 1) = BitVec.ofNat 32 b.val := by
    rw [pairs_column, wrapped_apply, hb]
    rw [hb, hbi]; omega
  generalize pairs len = p at e0 e1
  have m0 : min (p (ix2 b 0)).toInt.toNat 49 = (clampLast (len (ix1 b))).toNat := by rw [e0, hl.2]; exact Nat.min_eq_left (by omega)
  have m1 : min (p (ix2 b 1)).toInt.toNat 1023 = b.val := by rw [e1, hbi, Int.toNat_natCast]; exact Nat.min_eq_left (by omega)
  rw [takePairs_apply]
  exact congrArg K (congrArg₂ (ix3 · · i) (Fin.ext m0) (Fin.ext m1))

theorem out_apply (V : Valuation τ sig (Elt Ideal)) (b : Fin 1024) : (out_main_v38 (F := Ideal) V : FVec Ideal S1024 .f32) (ix1 b)
    = headCol (V (rr main_arg7) : FVec Ideal S64x128 .f32) (fun k => (V (rr main_arg8) : FVec Ideal S64 .f32) (ix1 k)) (V (rr main_arg9) : FVec Ideal S1x64 .f32)
        ((V (rr main_arg10) : FVec Ideal S1 .f32) (ix1 0))
        (fun i => kept V (ix3 ⟨(clampLast ((V (rr main_arg1) : IVec S1024 32) (ix1 b))).toNat, (clampLast_lt _).1⟩ b i)) := by
  rw [out_eq]
  refine (headRef_apply _ _ _ _ _ b).trans ?_
  exact congrArg (headCol _ _ _ _) (funext fun i => picked_apply (kept V) (V (rr main_arg1)) b i)

end Cert.Proof.Value
-- ==== Proof.Value.Entry.lean ====
/-
  What the reference's loop starts from: the gates' input parts of every token and column, the weights, and a state of zeros.
-/
module

public import proofs.«01_k».proof.Proof.Value.Reference
public import Idealize.ShloMosaic.Lib.ReduceAll
public import Idealize.ShloMosaic.Lib.Affine

@[expose] public section

noncomputable section

namespace Cert.Proof.Value

open Cert.ReferenceIdeal Cert.ReferenceIdeal.Gen Cert.ReferenceIdeal.Value
open Idealize.ShloMosaic

set_option maxRecDepth 16384

/-- The row numbers, a negative one wrapped round. -/
def rowNums (ids : IVec S1024x50 32) : IVec S1024x50x1 32 :=
  broadcastInDim S1024x50x1 ![0, 1] bcast_S1024x50_S1024x50x1_0_1
    (select (cmpi .slt ids (broadcastInDim S1024x50 ![] bcast_S_S1024x50 (constantI S_ 32 0#32))) (addi ids (broadcastInDim S1024x50 ![] bcast_S_S1024x50 (constantI S_ 32 1000#32))) ids)

/-- Which row numbers lie in the table. -/
def inTable (r : IVec S1024x50x1 32) : IVec S1024x50x1 1 :=
  andi (cmpi .sge r (broadcastInDim S1024x50x1 ![] bcast_S_S1024x50x1 (constantI S_ 32 0#32)))
    (cmpi .sle r (broadcastInDim S1024x50x1 ![0, 1, 2] bcast_S1x1x1_S1024x50x1_0_1_2 (broadcastInDim S1x1x1 ![2] bcast_S1_S1x1x1_2 (constantI S1 32 999#32))))

/-- The embedded tokens, as the reference takes them. -/
def embedded (emb : FVec Ideal S1000x64 .f32) (ids : IVec S1024x50 32) : FVec Ideal S1024x50x64 .f32 :=
  select (broadcastInDim S1024x50x64 ![0, 1] bcast_S1024x50_S1024x50x64_0_1 (Host.reduce IntOp.andi (inTable (rowNums ids)) (constantI S_ 1 1#1) reducesTo_S1024x50x1_S1024x50_d2 h_S_))
    (Host.gather gather_S1000x64_S1024x50x1_S1024x50x64_2_0_n_n_0_2_164 emb (rowNums ids))
    (broadcastInDim S1024x50x64 ![] bcast_S_S1024x50x64 (constant S_ .f32 0x7FC00000#32))

/-- The gates' input parts of embedded tokens. -/
def inputs (x : FVec Ideal S1024x50x64 .f32) (wih : FVec Ideal S384x64 .f32) (bih : FVec Ideal S384 .f32) : FVec Ideal S50x1024x384 .f32 :=
  addf (Host.dotGeneral dot_S50x1024x64_S384x64_S50x1024x384_2_1_01_0_n_n none (transpose S50x1024x64 [1, 0, 2] x transposes_S1024x50x64_S50x1024x64_1_0_2) wih)
    (broadcastInDim S50x1024x384 ![0, 1, 2] bcast_S1x1x384_S50x1024x384_0_1_2 (broadcastInDim S1x1x384 ![2] bcast_S384_S1x1x384_2 bih))

section

variable (emb : FVec Ideal S1000x64 .f32) (ids : IVec S1024x50 32)

theorem rowNums_apply (b : Fin 1024) (t : Fin 50) (h : (ids (ix2 b t)).toNat < 1000) : rowNums ids (ix3 b t 0) = ids (ix2 b t) := by
  pointwise [rowNums]
  have hc : IntOp.cmpi .slt (ids (ix2 b t)) 0#32 = 0#1 := by
    show BitVec.ofBool ((ids (ix2 b t)).slt 0#32) = 0#1
    rw [BitVec.slt_eq_decide, decide_eq_false (by rw [show (0#32 : BitVec 32).toInt = 0 by decide, BitVec.toInt_eq_toNat_of_lt (by omega)]; omega)]
    rfl
  rw [hc]; rfl

theorem inTable_apply (r : IVec S1024x50x1 32) (p : S1024x50x1.Idx) (h : (r p).toNat < 1000) : inTable r p = 1#1 := by
  show IntOp.andi (BitVec.ofBool ((0#32 : BitVec 32).sle (r p))) (BitVec.ofBool ((r p).sle 999#32)) = 1#1
  rw [BitVec.sle_eq_decide, BitVec.sle_eq_decide, decide_eq_true (by rw [show (0#32 : BitVec 32).toInt = 0 by decide, BitVec.toInt_eq_toNat_of_lt (by omega)]; omega),
    decide_eq_true (by rw [show (999#32 : BitVec 32).toInt = 999 by decide, BitVec.toInt_eq_toNat_of_lt (by omega)]; omega)]
  rfl

theorem embedded_apply (h : ∀ p, (ids p).toNat < 1000) (b : Fin 1024) (t : Fin 50) (e : Fin 64) :
    embedded emb ids (ix3 b t e) = emb (ix2 ⟨(ids (ix2 b t)).toNat, h _⟩ e) := by
  have hr (b : Fin 1024) (t : Fin 50) : rowNums ids (ix3 b t 0) = ids (ix2 b t) := rowNums_apply ids b t (h _)
  have hm : Host.reduce IntOp.andi (inTable (rowNums ids)) (constantI S_ 1 1#1) reducesTo_S1024x50x1_S1024x50_d2 h_S_ (ix2 b t) = 1#1 := by
    refine Host.reduce_andi_one _ _ _ _ _ rfl fun p => inTable_apply _ p ?_
    obtain ⟨b, t, k, rfl⟩ : ∃ (b : Fin 1024) (t : Fin 50) (k : Fin 1), p = ix3 b t k := ⟨p 0, p 1, p 2, eq_ix3 p⟩
    rw [Subsingleton.elim k 0, hr]
    exact h _
  have hg : Host.gather gather_S1000x64_S1024x50x1_S1024x50x64_2_0_n_n_0_2_164 emb (rowNums ids) (ix3 b t e) = emb (ix2 ⟨(ids (ix2 b t)).toNat, h _⟩ e) := by
    have hm : min (rowNums ids (ix3 b t 0)).toInt.toNat 999 = (ids (ix2 b t)).toNat := by
      have := h (ix2 b t)
      rw [hr, BitVec.toInt_eq_toNat_of_lt (by omega), Int.toNat_natCast]; omega
    rw [takeRows_apply]
    exact congrArg emb (congrArg (ix2 · e) (Fin.ext hm))
  rw [← hg]
  unfold embedded
  generalize Host.reduce IntOp.andi (inTable (rowNums ids)) (constantI S_ 1 1#1) reducesTo_S1024x50x1_S1024x50_d2 h_S_ = k at hm ⊢
  generalize Host.gather gather_S1000x64_S1024x50x1_S1024x50x64_2_0_n_n_0_2_164 emb (rowNums ids) = g
  pointwise
  rw [hm]; rfl

theorem inputs_apply (h : ∀ p, (ids p).toNat < 1000) (wih : FVec Ideal S384x64 .f32) (t : Fin 50) (b : Fin 1024) (r : Fin 384) :
    inputs (embedded emb ids) wih (fun _ => 0) (ix3 t b r) = mulCol wih (fun e => emb (ix2 ⟨(ids (ix2 b t)).toNat, h _⟩ e)) r := by
  simp only [← embedded_apply emb ids h]
  unfold inputs
  generalize embedded emb ids = x
  pointwise [mulCol]
  exact Finset.sum_congr rfl fun _ _ => mul_comm _ _

end

section Start

variable (V : Valuation τ sig (Elt Ideal))

theorem take_eq : StableHlo.after (hostOps0 (F := Ideal)) V (Proc.devRef .tc main_v0) = embedded (V (rr main_arg2)) (V (rr main_arg0)) := by
  unfold embedded
  after_reads_simp
  simp only [StableHlo.TRef.ofBuf_toBuf]
  generalize e0 : (StableHlo.TRef.of main_arg0 : StableHlo.TRef sig ⟨S1024x50, .i32⟩).ofBuf (V (Proc.devRef .tc main_arg0)) = ids
  generalize e2 : (StableHlo.TRef.of main_arg2 : StableHlo.TRef sig ⟨S1000x64, .f32⟩).ofBuf (V (Proc.devRef .tc main_arg2)) = emb
  rw [show V (rr main_arg0) = ids from e0, show V (rr main_arg2) = emb from e2]
  unfold inTable rowNums
  have et (x : FVec Ideal S1024x50x64 .f32) : StableHlo.TRef.toBuf (Val := Elt Ideal) (StableHlo.TRef.of main_v0 : StableHlo.TRef sig ⟨S1024x50x64, .f32⟩) x = x := rfl
  refine (et _).trans ?_
  refine congrArg₂ (fun a b => select a b _) (congrArg _ ?_) ?_
  · rfl
  · rfl

end Start

variable (m : (ℓ : Loc nD τ sig) → Buf (Elt Ideal) ℓ) (c : Dev nD)

theorem entry_inputs : gateIn (StableHlo.entryContents preI m c)
    = inputs (embedded (m ((c.tc : Thread nD τ).loc main_arg2)) (m ((c.tc : Thread nD τ).loc main_arg0))) (m ((c.tc : Thread nD τ).loc main_arg3)) (m ((c.tc : Thread nD τ).loc main_arg5)) := by
  have h (T : Valuation τ sig (Elt Ideal)) : StableHlo.after (hostOps0_1 (F := Ideal)) T (Proc.devRef .tc main_v8_0)
      = inputs (T (Proc.devRef .tc main_v0)) (T (Proc.devRef .tc main_arg3)) (T (Proc.devRef .tc main_arg5)) := by
    after_reads_simp
    rfl
  refine (h _).trans ?_
  rw [take_eq, keep_main_arg3_hostOps0, keep_main_arg5_hostOps0]

theorem entry_after (hb : (m ((c.tc : Thread nD τ).loc main_arg6) : FVec Ideal S384 .f32) = fun _ => (0 : EReal)) :
    After (gateIn (StableHlo.entryContents preI m c)) (m ((c.tc : Thread nD τ).loc main_arg4)) 0 (StableHlo.entryContents preI m c) := by
  have h1 (T : Valuation τ sig (Elt Ideal)) : StableHlo.after (hostOps0_1 (F := Ideal)) T (Proc.devRef .tc main_v8_1) = T (Proc.devRef .tc main_arg4) := by
    after_reads_simp; rfl
  have h2 (T : Valuation τ sig (Elt Ideal)) : StableHlo.after (hostOps0_1 (F := Ideal)) T (Proc.devRef .tc main_v8_2) = T (Proc.devRef .tc main_arg6) := by
    after_reads_simp; rfl
  have h4 (T : Valuation τ sig (Elt Ideal)) : @Eq (FVec Ideal S1024x128 .f32) (StableHlo.after (hostOps0_1 (F := Ideal)) T (Proc.devRef .tc main_v8_4))
      (broadcastInDim S1024x128 ![] bcast_S_S1024x128 (constant (F := Ideal) S_ .f32 0x00000000#32)) := by
    after_reads_simp; rfl
  refine ⟨rfl, (h1 _).trans (keep_main_arg4_hostOps0 _), ((h2 _).trans (keep_main_arg6_hostOps0 _)).trans hb, ctr_entry m c, fun b i => ?_, fun t b i h => absurd h (Nat.not_lt_zero _)⟩
  refine (congrFun (h4 _) (ix2 b i)).trans ?_
  pointwise [hidden]

/-! ## The reference's result -/

/-- Column `b`'s embedded tokens. -/
def tokens (emb : (⟨2, ![1000, 64]⟩ : Shape).Idx → EReal) (ids : (⟨2, ![1024, 50]⟩ : Shape).Idx → BitVec 32) (b : Fin 1024) (n : ℕ) (e : Fin 64) : EReal :=
  emb (ix2 ⟨(ids (ix2 b ⟨n % 50, Nat.mod_lt _ (by decide)⟩)).toNat % 1000, Nat.mod_lt _ (by decide)⟩ e)

theorem hidden_eq (emb : FVec Ideal S1000x64 .f32) (ids : IVec S1024x50 32) (h : ∀ p, (ids p).toNat < 1000) (wih : FVec Ideal S384x64 .f32) (whh : FVec Ideal S384x128 .f32)
    (b : Fin 1024) : ∀ n, hidden (inputs (embedded emb ids) wih fun _ => 0) whh b n = state wih whh (tokens emb ids b) n
  | 0 => rfl
  | n + 1 => by
    have hx (r : Fin 384) : inputs (embedded emb ids) wih (fun _ => 0) (ix3 ⟨n % 50, Nat.mod_lt _ (by decide)⟩ b r) = mulCol wih (tokens emb ids b n) r := by
      rw [inputs_apply emb ids h]
      refine congrArg (mulCol wih · r) (funext fun e => congrArg emb (congrArg (ix2 · e) (Fin.ext ?_)))
      exact (Nat.mod_eq_of_lt (h _)).symm
    funext i
    show cell _ _ _ _ _ _ _ = cell _ _ _ _ _ _ _
    rw [hx, hx, hx, hidden_eq emb ids h wih whh b n]

theorem reference_apply (hix : ∀ p, ((m ((c.tc : Thread nD τ).loc main_arg0) : IVec S1024x50 32) p).toNat < 1000)
    (h5 : (m ((c.tc : Thread nD τ).loc main_arg5) : FVec Ideal S384 .f32) = fun _ => (0 : EReal)) (h6 : (m ((c.tc : Thread nD τ).loc main_arg6) : FVec Ideal S384 .f32) = fun _ => (0 : EReal))
    (b : Fin 1024) : (out_main_v38 (F := Ideal) (STEP^[50] (StableHlo.entryContents preI m c)) : FVec Ideal S1024 .f32) (ix1 b)
    = headCol (m ((c.tc : Thread nD τ).loc main_arg7) : FVec Ideal S64x128 .f32) (fun k => (m ((c.tc : Thread nD τ).loc main_arg8) : FVec Ideal S64 .f32) (ix1 k))
        (m ((c.tc : Thread nD τ).loc main_arg9) : FVec Ideal S1x64 .f32) ((m ((c.tc : Thread nD τ).loc main_arg10) : FVec Ideal S1 .f32) (ix1 0))
        (state (m ((c.tc : Thread nD τ).loc main_arg3) : FVec Ideal S384x64 .f32) (m ((c.tc : Thread nD τ).loc main_arg4) : FVec Ideal S384x128 .f32)
          (tokens (m ((c.tc : Thread nD τ).loc main_arg2) : FVec Ideal S1000x64 .f32) (m ((c.tc : Thread nD τ).loc main_arg0) : IVec S1024x50 32) b)
          ((clampLast ((m ((c.tc : Thread nD τ).loc main_arg1) : IVec S1024 32) (ix1 b))).toNat + 1)) := by
  have hA := (entry_after m c h6).iterate _ _ 50 le_rfl
  rw [out_apply, show STEP^[50] (StableHlo.entryContents preI m c) (rr main_arg1) = _ from iter_main_arg1 m c 50,
    show STEP^[50] (StableHlo.entryContents preI m c) (rr main_arg7) = _ from iter_main_arg7 m c 50,
    show STEP^[50] (StableHlo.entryContents preI m c) (rr main_arg8) = _ from iter_main_arg8 m c 50,
    show STEP^[50] (StableHlo.entryContents preI m c) (rr main_arg9) = _ from iter_main_arg9 m c 50,
    show STEP^[50] (StableHlo.entryContents preI m c) (rr main_arg10) = _ from iter_main_arg10 m c 50]
  refine congrArg (headCol _ _ _ _) (funext fun i => ?_)
  rw [hA.kept _ b i (clampLast_lt _).1, entry_inputs m c, h5]
  exact congrFun (hidden_eq _ _ hix _ _ b _) i

end Cert.Proof.Value
-- ==== Proof.Value.Result.lean ====
/-
  The kernel's result, read at one column, is the model's.
-/
module

public import proofs.«01_k».proof.Proof.Ideal.Frame
public import proofs.«01_k».proof.Proof.Value.Kernel
public import proofs.«01_k».proof.Proof.Value.Entry

@[expose] public section

noncomputable section

namespace Cert.Proof.Value

open Cert.KernelIdeal Cert.KernelIdeal.Gen Cert.Proof.Ideal
open Idealize.ShloMosaic

set_option maxRecDepth 16384

theorem tbl_apply (emb : FVec Ideal S1000x64 .f32) (r : Fin 1000) (e : Fin 64) :
    shapeCast S64000 (transpose S64x1000 [1, 0] emb transposes_S1000x64_S64x1000_1_0) shapeCasts_S64x1000_S64000 (tabIx (1000 * e.val + r.val)) = emb (ix2 r e) := by
  have h : tabIx (1000 * e.val + r.val) = ix1 ⟨1000 * e.val + r.val, by omega⟩ := by
    refine (eq_ix1 _).trans (congrArg ix1 (Fin.ext ?_))
    exact Nat.mod_eq_of_lt (by omega)
  rw [h]
  pointwise

theorem idx_apply (ids : IVec S1024x50 32) (n : Fin 50) (b : Fin 1024) :
    shapeCast S32x1600 (transpose S50x1024 [1, 0] ids transposes_S1024x50_S50x1024_1_0) shapeCasts_S50x1024_S32x1600 (rowIx (n.val * 1024 + b.val)) = ids (ix2 b n) := by
  have h : rowIx (n.val * 1024 + b.val) = ix2 ⟨(n.val * 1024 + b.val) / 1600, by omega⟩ ⟨(n.val * 1024 + b.val) % 1600, by omega⟩ := by
    refine (eq_ix2 _).trans (congrArg₂ ix2 (Fin.ext ?_) (Fin.ext rfl))
    exact Nat.mod_eq_of_lt (by omega)
  rw [h]
  pointwise

variable (m : (ℓ : Loc nD τ sig) → Buf (Elt Ideal) ℓ)

/-- The launch's contents of a buffer. -/
abbrev at0 (b : Ref sig .tc) := m ((0 : Dev nD), rf b)

theorem W3_v4 : W3 m (rf main_v4) = gathered (tbl m) (idx m) := by
  refine (StableHlo.after_of_forall_not_mem _ _ ?_).trans (W2_v4 m)
  simp only [opsB, List.forall_mem_cons, StableHlo.nullary_writes, StableHlo.unary_writes, StableHlo.binary_writes, StableHlo.reshape_writes, Finset.mem_singleton]
  refine ⟨?_, ?_, ?_, ?_, ?_, ?_, ?_, ?_, ?_, ?_, ?_, ?_, ?_, ?_, fun _ h => nomatch h⟩ <;> exact StableHlo.devRef_ne_of_ne (by decide)

theorem V3_v9 : (V3 m 0 main_v9 : FVec Ideal S64x1 .f32) = shapeCast S64x1 (W2 m (rf main_arg8) : FVec Ideal S64 .f32) shapeCasts_S64_S64x1 := by
  show StableHlo.after opsB (W2 m) (rf main_v9) = _
  unfold opsB
  after_reads_simp
  rfl

theorem V3_v10 : (V3 m 0 main_v10 : FVec Ideal S1x1 .f32) = shapeCast S1x1 (W2 m (rf main_arg10) : FVec Ideal S1 .f32) shapeCasts_S1_S1x1 := by
  show StableHlo.after opsB (W2 m) (rf main_v10) = _
  unfold opsB
  after_reads_simp
  rfl

theorem gathered_apply (hix : ∀ p, ((at0 m main_arg0 : IVec S1024x50 32) p).toNat < 1000) (n : ℕ) (hn : n < 50) (b : Fin 1024) (e : Fin 64) :
    gathered (tbl m) (idx m) (ix2 e ⟨(n * 1024 + b.val) % 51200, Nat.mod_lt _ (by decide)⟩) = tokens (at0 m main_arg2 : FVec Ideal S1000x64 .f32) (at0 m main_arg0 : IVec S1024x50 32) b n e := by
  have hi : idx m (rowIx (n * 1024 + b.val)) = (at0 m main_arg0 : IVec S1024x50 32) (ix2 b ⟨n, hn⟩) := by
    rw [idx_eq]; exact idx_apply _ ⟨n, hn⟩ b
  have ht (r : Fin 1000) : tbl m (tabIx (1000 * e.val + r.val)) = (at0 m main_arg2 : FVec Ideal S1000x64 .f32) (ix2 r e) := by
    rw [tbl_eq]; exact tbl_apply _ r e
  show tbl m (tabIx (1000 * e.val + (idx m (rowIx ((n * 1024 + b.val) % 51200))).toNat)) = _
  rw [Nat.mod_eq_of_lt (show n * 1024 + b.val < 51200 by omega), hi, ht ⟨_, hix _⟩]
  unfold tokens
  refine congrArg (at0 m main_arg2 : FVec Ideal S1000x64 .f32) (congrArg (ix2 · e) (Fin.ext ?_))
  show _ = ((at0 m main_arg0 : IVec S1024x50 32) (ix2 b ⟨n % 50, _⟩)).toNat % 1000
  simp only [Nat.mod_eq_of_lt hn, Nat.mod_eq_of_lt (hix _)]

theorem kernel_apply (hix : ∀ p, ((at0 m main_arg0 : IVec S1024x50 32) p).toNat < 1000) (b : Fin 1024) : (W5 m (rf main_v12) : FVec Ideal S1024 .f32) (ix1 b)
    = headCol (at0 m main_arg7 : FVec Ideal S64x128 .f32) (fun k => (at0 m main_arg8 : FVec Ideal S64 .f32) (ix1 k)) (at0 m main_arg9 : FVec Ideal S1x64 .f32)
        ((at0 m main_arg10 : FVec Ideal S1 .f32) (ix1 0))
        (state (at0 m main_arg3 : FVec Ideal S384x64 .f32) (at0 m main_arg4 : FVec Ideal S384x128 .f32)
          (tokens (at0 m main_arg2 : FVec Ideal S1000x64 .f32) (at0 m main_arg0 : IVec S1024x50 32) b)
          ((clampLast ((at0 m main_arg1 : IVec S1024 32) (ix1 b))).toNat + 1)) := by
  have h1 : (W2 m (rf main_arg1) : IVec S1024 32) = at0 m main_arg1 := (W2_ne m (rf main_arg1) (by decide)).trans (kept_W1 m main_arg1 (by decide))
  have hp : ((broadcastTo S128x1024 (V3 m 0 main_v8 : IVec S1x1024 32) broadcasts_S1x1024_S128x1024) : IVec S128x1024 32) = fun p => clampLast ((at0 m main_arg1 : IVec S1024 32) (ix1 (p 1))) := by
    rw [V3_at m, h1]
    generalize (at0 m main_arg1 : IVec S1024 32) = l
    funext p
    obtain ⟨i, b, rfl⟩ : ∃ (i : Fin 128) (b : Fin 1024), p = ix2 i b := ⟨p 0, p 1, eq_ix2 p⟩
    pointwise
  have h9 : (V3 m 0 main_v9 : FVec Ideal S64x1 .f32) = shapeCast S64x1 (at0 m main_arg8 : FVec Ideal S64 .f32) shapeCasts_S64_S64x1 :=
    (V3_v9 m).trans (congrArg (shapeCast S64x1 · shapeCasts_S64_S64x1) ((W2_ne m (rf main_arg8) (by decide)).trans (kept_W1 m main_arg8 (by decide))))
  have h10 : (V3 m 0 main_v10 : FVec Ideal S1x1 .f32) = shapeCast S1x1 (at0 m main_arg10 : FVec Ideal S1 .f32) shapeCasts_S1_S1x1 :=
    (V3_v10 m).trans (congrArg (shapeCast S1x1 · shapeCasts_S1_S1x1) ((W2_ne m (rf main_arg10) (by decide)).trans (kept_W1 m main_arg10 (by decide))))
  have hs (i : Fin 128) : (selV (V3 m) 0 : FVec Ideal S128x1024 .f32) (ix2 i b) = state (at0 m main_arg3 : FVec Ideal S384x64 .f32) (at0 m main_arg4 : FVec Ideal S384x128 .f32)
      (tokens (at0 m main_arg2 : FVec Ideal S1000x64 .f32) (at0 m main_arg0 : IVec S1024x50 32) b) ((clampLast ((at0 m main_arg1 : IVec S1024 32) (ix1 b))).toNat + 1) i := by
    show hseq (V3 m 0 main_v4) (V3 m 0 main_arg3) (V3 m 0 main_arg4) (((broadcastTo S128x1024 (V3 m 0 main_v8 : IVec S1x1024 32) broadcasts_S1x1024_S128x1024 : IVec S128x1024 32) (ix2 i b)).toNat + 1) (ix2 i b) = _
    rw [congrFun hp (ix2 i b), hseq_apply, show V3 m 0 main_v4 = _ from W3_v4 m, show V3 m 0 main_arg3 = _ from kept_W3 m main_arg3 (by decide),
      show V3 m 0 main_arg4 = _ from kept_W3 m main_arg4 (by decide)]
    refine congrFun (state_congr _ _ _ fun k hk => funext fun e => gathered_apply m hix k ?_ b e) i
    have := (clampLast_lt ((at0 m main_arg1 : IVec S1024 32) (ix1 b))).1
    exact Nat.lt_of_lt_of_le hk this
  have hr : (W5 m (rf main_v12) : FVec Ideal S1024 .f32) (ix1 b) = (outV (V3 m) 0 : FVec Ideal S1x1024 .f32) (ix2 0 b) := by
    rw [res_W5]
    generalize (outV (V3 m) 0 : FVec Ideal S1x1024 .f32) = o
    pointwise
  rw [hr, outV, head_apply, h9, h10, show V3 m 0 main_arg7 = _ from kept_W3 m main_arg7 (by decide), show V3 m 0 main_arg9 = _ from kept_W3 m main_arg9 (by decide)]
  have e8 (k : Fin 64) : shapeCast S64x1 (at0 m main_arg8 : FVec Ideal S64 .f32) shapeCasts_S64_S64x1 (ix2 k 0) = (at0 m main_arg8 : FVec Ideal S64 .f32) (ix1 k) := by
    generalize (at0 m main_arg8 : FVec Ideal S64 .f32) = o
    pointwise
  have e10 : shapeCast S1x1 (at0 m main_arg10 : FVec Ideal S1 .f32) shapeCasts_S1_S1x1 (ix2 0 0) = (at0 m main_arg10 : FVec Ideal S1 .f32) (ix1 0) := by
    generalize (at0 m main_arg10 : FVec Ideal S1 .f32) = o
    pointwise
  rw [e10]
  simp only [e8, hs]

end Cert.Proof.Value
-- ==== Proof.Value.Claim.lean ====
/-
  What the precondition on the tokens and biases gives, and the equality of the two results.
-/
module

public import proofs.«01_k».proof.Defs
public import proofs.«01_k».proof.Proof.Value.Result
public import proofs.«01_k».proof.Proof.Gen.Pre_tokens_and_biases

@[expose] public section

noncomputable section

namespace Cert.Proof.Value

open Idealize.ShloMosaic Idealize.ShloMosaic.TcCoe Idealize.SL.Sem
open Cert.Pre_tokens_and_biases

theorem and_one (a b : BitVec 1) (h : IntOp.andi a b = 1#1) : a = 1#1 ∧ b = 1#1 := by
  revert a b; decide

theorem eq_zero_of_oeq (x : EReal) (h : Idealize.ShloMosaic.Ideal.cmp .oeq x (Idealize.ShloMosaic.Ideal.ofBits .f32 0x00000000#32) = 1#1) : x = 0 := by
  have e : BitVec.ofBool (decide (x = Idealize.ShloMosaic.Ideal.ofBits .f32 0x00000000#32)) = 1#1 := h
  rw [Ideal.ofBool_one, decide_eq_true_eq, Idealize.ShloMosaic.Ideal.ofBits_zero_f32] at e
  exact e

/-- The precondition's three parts: the tokens name rows of the table, and both biases are zero. -/
theorem parts_of_fn (a0 : IVec S1024x50 32) (a1 : IVec S1024 32) (a2 : FVec Idealize.ShloMosaic.Ideal S1000x64 .f32) (a3 : FVec Idealize.ShloMosaic.Ideal S384x64 .f32)
    (a4 : FVec Idealize.ShloMosaic.Ideal S384x128 .f32) (a5 a6 : FVec Idealize.ShloMosaic.Ideal S384 .f32) (a7 : FVec Idealize.ShloMosaic.Ideal S64x128 .f32)
    (a8 : FVec Idealize.ShloMosaic.Ideal S64 .f32) (a9 : FVec Idealize.ShloMosaic.Ideal S1x64 .f32) (a10 : FVec Idealize.ShloMosaic.Ideal S1 .f32)
    (h : fn a0 a1 a2 a3 a4 a5 a6 a7 a8 a9 a10 = fun _ => 1#1) :
    (∀ p, (a0 p).toNat < 1000) ∧ (a5 = fun _ => (0 : EReal)) ∧ (a6 = fun _ => (0 : EReal)) := by
  have e := congrFun h ix0
  unfold fn at e
  obtain ⟨e₀, e₂⟩ := and_one _ _ e
  obtain ⟨e₀, e₁⟩ := and_one _ _ e₀
  refine ⟨fun p => Ideal.in_vocab _ (Host.reduce_andi_all _ _ _ _ _ e₀ p), funext fun p => ?_, funext fun p => ?_⟩
  · exact eq_zero_of_oeq _ (Host.reduce_andi_all _ _ _ _ _ e₁ p)
  · exact eq_zero_of_oeq _ (Host.reduce_andi_all _ _ _ _ _ e₂ p)

/-- The reference's result is the kernel's, when the two start from the same arguments. -/
theorem results_eq (m : (ℓ : Loc Cert.KernelIdeal.nD Cert.KernelIdeal.τ Cert.KernelIdeal.sig) → Buf (Elt Idealize.ShloMosaic.Ideal) ℓ)
    (m' : (ℓ : Loc Cert.ReferenceIdeal.nD Cert.ReferenceIdeal.τ Cert.ReferenceIdeal.sig) → Buf (Elt Idealize.ShloMosaic.Ideal) ℓ)
    (hpre : Cert.Pre_KernelIdeal_tokens_and_biases m) (c : Dev Cert.ReferenceIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.out_main_v38 (F := Idealize.ShloMosaic.Ideal) (Cert.ReferenceIdeal.Value.STEP^[50] (StableHlo.entryContents Cert.ReferenceIdeal.Value.preI m' c)) : FVec Idealize.ShloMosaic.Ideal S1024 .f32)
    = Ideal.W5 m (Ideal.rf Cert.KernelIdeal.main_v12) := by
  obtain rfl : c = 0 := Subsingleton.elim _ _
  obtain ⟨g0, g1, g2, g3, g4, g5, g6, g7, g8, g9, g10⟩ := hag
  obtain ⟨hix, h5, h6⟩ := parts_of_fn _ _ _ _ _ _ _ _ _ _ _ (hpre 0)
  funext p
  obtain ⟨b, rfl⟩ : ∃ b : Fin 1024, p = ix1 b := ⟨p 0, eq_ix1 p⟩
  refine (reference_apply m' 0 (fun p => ?_) (g5.trans h5) (g6.trans h6) b).trans (Eq.trans ?_ (kernel_apply m hix b).symm)
  · rw [g0]; exact hix p
  · rw [g0, g1, g2, g3, g4, g7, g8, g9, g10]

theorem equal_results : Cert.algebraic_KernelIdeal_ReferenceIdeal_pre_tokens_and_biases := by
  intro m g m' g' hpre hag
  have hix := (parts_of_fn _ _ _ _ _ _ _ _ _ _ _ (hpre 0)).1
  refine ⟨fun _ => Ideal.W5 m (Ideal.rf Cert.KernelIdeal.main_v12), ?_, ?_⟩
  · refine (θ_run Cert.KernelIdeal.defs _ _).mono (fun r h c => ?_) (Ideal.run_main m g (Ideal.idx_lt m hix))
    have ha := Ideal.args_end m r h
    refine ⟨?_, ha Cert.KernelIdeal.main_arg0 (by decide) (by decide) c, ha Cert.KernelIdeal.main_arg1 (by decide) (by decide) c, ha Cert.KernelIdeal.main_arg2 (by decide) (by decide) c, ha Cert.KernelIdeal.main_arg3 (by decide) (by decide) c, ha Cert.KernelIdeal.main_arg4 (by decide) (by decide) c, ha Cert.KernelIdeal.main_arg5 (by decide) (by decide) c, ha Cert.KernelIdeal.main_arg6 (by decide) (by decide) c, ha Cert.KernelIdeal.main_arg7 (by decide) (by decide) c, ha Cert.KernelIdeal.main_arg8 (by decide) (by decide) c, ha Cert.KernelIdeal.main_arg9 (by decide) (by decide) c, ha Cert.KernelIdeal.main_arg10 (by decide) (by decide) c⟩
    obtain rfl : c = 0 := Subsingleton.elim _ _
    exact h.1 0 _ (Ideal.uc_mem _ (by decide))
  · refine (θ_run Cert.ReferenceIdeal.defs _ _).mono (fun r h c => ⟨(h c).1.trans ?_, (h c).2⟩) (Cert.ReferenceIdeal.Value.run m' g')
    exact results_eq m m' hpre c (hag c)

end Cert.Proof.Value
-- ==== Proof.lean ====
/-
  The claims, put together from the modules under Proof/: the printed kernel and the idealized one run to their end under
  their precondition, leave their arguments as they were and every counter at zero (Proof/Bits, Proof/Ideal: the same
  modules at the two programs), and so does the reference, which has no counters. Over the extended reals the two results are
  one array (Proof/Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tokens_in_vocab
public import proofs.«01_k».proof.Proof.Gen.Pre_tokens_and_biases
public import proofs.«01_k».proof.Proof.Ideal.Frame
public import proofs.«01_k».proof.Proof.Bits.Frame
public import proofs.«01_k».proof.Proof.Value.Claim
public import Idealize.ShloMosaic.Lib.Quiescent

@[expose] public section

noncomputable section

namespace Cert.Proof

open Idealize.ShloMosaic Idealize.SL.Sem

theorem frame_kernel : Cert.quiescent_Kernel := fun m ρ hpre =>
  Bits.frame_of (F := Idealize.ShloMosaic.Bits) m ρ (Bits.vocab_of_fn _ _ _ _ _ _ _ _ _ _ _ (hpre 0))

theorem frame_kernelIdeal : Cert.quiescent_KernelIdeal := fun m ρ hpre =>
  Ideal.frame_of (F := Idealize.ShloMosaic.Ideal) m ρ (Ideal.vocab_of_fn _ _ _ _ _ _ _ _ _ _ _ (hpre 0))

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_kernelIdeal_biases : Cert.quiescent_KernelIdeal_pre_tokens_and_biases := fun m ρ hpre =>
  Ideal.frame_of (F := Idealize.ShloMosaic.Ideal) m ρ (Value.parts_of_fn _ _ _ _ _ _ _ _ _ _ _ (hpre 0)).1

theorem frame_reference_biases : Cert.quiescent_ReferenceIdeal_pre_tokens_and_biases := fun m ρ _ =>
  (θ_run Cert.ReferenceIdeal.defs _ _).mono (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Pre_tokens_in_vocab.Gen.facts,
  Cert.Pre_tokens_and_biases.Gen.facts, frame_kernel, frame_kernelIdeal, frame_kernelIdeal_biases, frame_reference, frame_reference_biases, trivial,
  Value.equal_results⟩

end Cert.Proof

end
